-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_maps [hPre_finite_maps : Cert.Pre_finite_maps.Facts] (m : (ℓ : Loc Cert.KernelIdeal.nD Cert.KernelIdeal.τ Cert.KernelIdeal.sig) → Buf (Elt Ideal) ℓ) : Prop :=
  ∀ c : Dev Cert.KernelIdeal.nD,
    (Cert.Pre_finite_maps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_finite_maps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_finite_maps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_maps [hPre_finite_maps : Cert.Pre_finite_maps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_maps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_finite_maps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_finite_maps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite_maps [hKernelIdeal : Cert.KernelIdeal.Facts] [hPre_finite_maps : Cert.Pre_finite_maps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_maps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_finite_maps [hReferenceIdeal : Cert.ReferenceIdeal.Facts] [hPre_finite_maps : Cert.Pre_finite_maps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_maps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_finite_maps [hKernelIdeal : Cert.KernelIdeal.Facts] [hReferenceIdeal : Cert.ReferenceIdeal.Facts] [hPre_finite_maps : Cert.Pre_finite_maps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_maps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_maps : Cert.Pre_finite_maps.Facts),
    quiescent_Kernel (hKernel := hKernel)
    ∧ quiescent_KernelIdeal (hKernelIdeal := hKernelIdeal)
    ∧ quiescent_KernelIdeal_pre_finite_maps (hKernelIdeal := hKernelIdeal) (hPre_finite_maps := hPre_finite_maps)
    ∧ quiescent_ReferenceIdeal (hReferenceIdeal := hReferenceIdeal)
    ∧ quiescent_ReferenceIdeal_pre_finite_maps (hReferenceIdeal := hReferenceIdeal) (hPre_finite_maps := hPre_finite_maps)
    ∧ preserves_Kernel_KernelIdeal
    ∧ algebraic_KernelIdeal_ReferenceIdeal_pre_finite_maps (hKernelIdeal := hKernelIdeal) (hReferenceIdeal := hReferenceIdeal) (hPre_finite_maps := hPre_finite_maps)
-- ==== Pre_finite_maps.lean ====
abbrev S2x4096x128 : Shape := ⟨3, ![2, 4096, 128]⟩
abbrev S4096x4096 : Shape := ⟨2, ![4096, 4096]⟩
abbrev S4096x1024 : Shape := ⟨2, ![4096, 1024]⟩
abbrev S4096 : Shape := ⟨1, ![4096]⟩
abbrev S64x128 : Shape := ⟨2, ![64, 128]⟩
abbrev S64 : Shape := ⟨1, ![64]⟩
abbrev S64x64 : Shape := ⟨2, ![64, 64]⟩
abbrev S16x64 : Shape := ⟨2, ![16, 64]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S2x4096x128 : S_.BroadcastsInDim S2x4096x128 (![] : Fin 0 → Fin S2x4096x128.rank)
  bcast_S_S4096x1024 : S_.BroadcastsInDim S4096x1024 (![] : Fin 0 → Fin S4096x1024.rank)
  bcast_S_S64x128 : S_.BroadcastsInDim S64x128 (![] : Fin 0 → Fin S64x128.rank)

variable [Facts]

def fn {F : FTy → Type} [FloatOps F] (main_arg0 : FVec F S2x4096x128 .f32) (main_arg1 : FVec F S4096x4096 .f32) (main_arg2 : FVec F S4096x1024 .f32) (main_arg3 : FVec F S4096 .f32) (main_arg4 : FVec F S64x128 .f32) (main_arg5 : FVec F S64 .f32) (main_arg6 : FVec F S64x128 .f32) (main_arg7 : FVec F S64 .f32) (main_arg8 : FVec F S64x64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S16x64 .f32) (main_arg16 : FVec F S16 .f32) (main_arg17 : FVec F S1x16 .f32) (main_arg18 : FVec F S1 .f32) (main_arg19 : FVec F S64 .f32) (main_arg20 : FVec F S64 .f32) (main_arg21 : FVec F S64x128 .f32) (main_arg22 : FVec F S64 .f32) (main_arg23 : FVec F S64 .f32) (main_arg24 : FVec F S64 .f32) : IVec S2x4096x128 1 × IVec S4096x1024 1 × IVec S64x128 1 :=
  let main_v0 : FVec F S2x4096x128 .f32 := Host.absf main_arg0
  let main_cst : FVec F S_ .f32 := constant S_ .f32 0x7F800000#32
  let main_v1 : FVec F S2x4096x128 .f32 := broadcastInDim S2x4096x128 ![] bcast_S_S2x4096x128 main_cst
  let main_v2 : IVec S2x4096x128 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S64x128 .f32 := Host.absf main_arg6
  let main_cst_1 : FVec F S_ .f32 := constant S_ .f32 0x7F800000#32
  let main_v7 : FVec F S64x128 .f32 := broadcastInDim S64x128 ![] bcast_S_S64x128 main_cst_1
  let main_v8 : IVec S64x128 1 := cmpf .olt main_v6 main_v7
  (main_v2, main_v5, main_v8)
-- ==== Kernel.lean ====
abbrev S2x4096x128 : Shape := ⟨3, ![2, 4096, 128]⟩
abbrev S4096x4096 : Shape := ⟨2, ![4096, 4096]⟩
abbrev S4096x1024 : Shape := ⟨2, ![4096, 1024]⟩
abbrev S4096 : Shape := ⟨1, ![4096]⟩
abbrev S64x128 : Shape := ⟨2, ![64, 128]⟩
abbrev S64 : Shape := ⟨1, ![64]⟩
abbrev S64x64 : Shape := ⟨2, ![64, 64]⟩
abbrev S16x64 : Shape := ⟨2, ![16, 64]⟩
abbrev S16 : Shape := ⟨1, ![16]⟩
abbrev S1x16 : Shape := ⟨2, ![1, 16]⟩
abbrev S1 : Shape := ⟨1, ![1]⟩
abbrev S1x4096 : Shape := ⟨2, ![1, 4096]⟩
abbrev S1x64 : Shape := ⟨2, ![1, 64]⟩
abbrev S1x1 : Shape := ⟨2, ![1, 1]⟩
abbrev S2x64x4096 : Shape := ⟨3, ![2, 64, 4096]⟩
abbrev S1x1024 : Shape := ⟨2, ![1, 1024]⟩
abbrev S2x1024x128 : Shape := ⟨3, ![2, 1024, 128]⟩
abbrev S2x64x256 : Shape := ⟨3, ![2, 64, 256]⟩
abbrev S5x256x4096 : Shape := ⟨3, ![5, 256, 4096]⟩
abbrev S4096x128 : Shape := ⟨2, ![4096, 128]⟩
abbrev S1024x128 : Shape := ⟨2, ![1024, 128]⟩
abbrev S128x256 : Shape := ⟨2, ![128, 256]⟩
abbrev S4 : Shape := ⟨1, ![4]⟩
abbrev S5 : Shape := ⟨1, ![5]⟩
abbrev S_ : Shape := ⟨0, ![]⟩
abbrev S1024x1024 : Shape := ⟨2, ![1024, 1024]⟩
abbrev S1x256x4096 : Shape := ⟨3, ![1, 256, 4096]⟩
abbrev S256x4096 : Shape := ⟨2, ![256, 4096]⟩
abbrev S1024 : Shape := ⟨1, ![1024]⟩
abbrev S1x1024x128 : Shape := ⟨3, ![1, 1024, 128]⟩
abbrev S1024x256 : Shape := ⟨2, ![1024, 256]⟩
abbrev S1024x1 : Shape := ⟨2, ![1024, 1]⟩
abbrev S128 : Shape := ⟨1, ![128]⟩
abbrev S1x128 : Shape := ⟨2, ![1, 128]⟩
abbrev S1024x64 : Shape := ⟨2, ![1024, 64]⟩
abbrev S2048x64 : Shape := ⟨2, ![2048, 64]⟩
abbrev S2048 : Shape := ⟨1, ![2048]⟩
abbrev S2048x1 : Shape := ⟨2, ![2048, 1]⟩
abbrev S1x2048 : Shape := ⟨2, ![1, 2048]⟩
abbrev S256x128 : Shape := ⟨2, ![256, 128]⟩
abbrev S256x1024 : Shape := ⟨2, ![256, 1024]⟩
abbrev S256x64 : Shape := ⟨2, ![256, 64]⟩
abbrev S512x64 : Shape := ⟨2, ![512, 64]⟩
abbrev S512 : Shape := ⟨1, ![512]⟩
abbrev S512x1 : Shape := ⟨2, ![512, 1]⟩
abbrev S512x16 : Shape := ⟨2, ![512, 16]⟩
abbrev S64x256 : Shape := ⟨2, ![64, 256]⟩
abbrev S1x64x256 : Shape := ⟨3, ![1, 64, 256]⟩
abbrev S2x4096x64 : Shape := ⟨3, ![2, 4096, 64]⟩

abbrev nBuf : Space → Nat
  | .hbm => 42
  | .vmem => 35
  | .smem => 0
  | _ => 0

abbrev bufTy : (tb : Table) → Fin (tcTables nBuf tb) → BufTy
  | .hbm, ⟨0, _⟩ => ⟨S2x4096x128, .f32⟩
  | .hbm, ⟨1, _⟩ => ⟨S4096x4096, .f32⟩
  | .hbm, ⟨2, _⟩ => ⟨S4096x1024, .f32⟩
  | .hbm, ⟨3, _⟩ => ⟨S4096, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S16x64, .f32⟩
  | .hbm, ⟨16, _⟩ => ⟨S16, .f32⟩
  | .hbm, ⟨17, _⟩ => ⟨S1x16, .f32⟩
  | .hbm, ⟨18, _⟩ => ⟨S1, .f32⟩
  | .hbm, ⟨19, _⟩ => ⟨S64, .f32⟩
  | .hbm, ⟨20, _⟩ => ⟨S64, .f32⟩
  | .hbm, ⟨21, _⟩ => ⟨S64x128, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S1x4096, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x16, .f32⟩
  | .hbm, ⟨32, _⟩ => ⟨S1x1, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S2x64x4096, .f32⟩
  | .hbm, ⟨39, _⟩ => ⟨S1x1, .f32⟩
  | .hbm, ⟨40, _⟩ => ⟨S2x4096x64, .f32⟩
  | .hbm, ⟨41, _⟩ => ⟨S_, .f32⟩
  | .local _ .vmem, ⟨0, _⟩ => ⟨S1x1024, .f32⟩
  | .local _ .vmem, ⟨1, _⟩ => ⟨S1x1024, .f32⟩
  | .local _ .vmem, ⟨2, _⟩ => ⟨S2x1024x128, .f32⟩
  | .local _ .vmem, ⟨3, _⟩ => ⟨S2x1024x128, .f32⟩
  | .local _ .vmem, ⟨4, _⟩ => ⟨S64x128, .f32⟩
  | .local _ .vmem, ⟨5, _⟩ => ⟨S1x64, .f32⟩
  | .local _ .vmem, ⟨6, _⟩ => ⟨S64x128, .f32⟩
  | .local _ .vmem, ⟨7, _⟩ => ⟨S1x64, .f32⟩
  | .local _ .vmem, ⟨8, _⟩ => ⟨S64x64, .f32⟩
  | .local _ .vmem, ⟨9, _⟩ => ⟨S64x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S16x64, .f32⟩
  | .local _ .vmem, ⟨16, _⟩ => ⟨S1x16, .f32⟩
  | .local _ .vmem, ⟨17, _⟩ => ⟨S1x16, .f32⟩
  | .local _ .vmem, ⟨18, _⟩ => ⟨S1x1, .f32⟩
  | .local _ .vmem, ⟨19, _⟩ => ⟨S1x64, .f32⟩
  | .local _ .vmem, ⟨20, _⟩ => ⟨S1x64, .f32⟩
  | .local _ .vmem, ⟨21, _⟩ => ⟨S64x128, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S2x64x256, .f32⟩
  | .local _ .vmem, ⟨26, _⟩ => ⟨S2x64x256, .f32⟩
  | .local _ .vmem, ⟨27, _⟩ => ⟨S1x1, .f32⟩
  | .local _ .vmem, ⟨28, _⟩ => ⟨S4096x1024, .f32⟩
  | .local _ .vmem, ⟨29, _⟩ => ⟨S5x256x4096, .f32⟩
  | .local _ .vmem, ⟨30, _⟩ => ⟨S4096x128, .f32⟩
  | .local _ .vmem, ⟨31, _⟩ => ⟨S1024x128, .f32⟩
  | .local _ .vmem, ⟨32, _⟩ => ⟨S1024x128, .f32⟩
  | .local _ .vmem, ⟨33, _⟩ => ⟨S128x256, .f32⟩
  | .local _ .vmem, ⟨34, _⟩ => ⟨S128x256, .f32⟩
  | _, _ => ⟨S2x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13_0 : Ref sig .tc := ⟨.hbm, 38, rfl⟩
abbrev main_v13_1 : Ref sig .tc := ⟨.hbm, 39, rfl⟩
abbrev main_v14 : Ref sig .tc := ⟨.hbm, 40, rfl⟩
abbrev main_v15 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg23_1 : Ref sig .tc := ⟨.vmem, 26, rfl⟩
abbrev cc0_stg24_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem23_1 : DmaSem sig := 26
abbrev cc0_sem24_0 : DmaSem sig := 27

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c5_i32 : BitVec 32 := 5#32
  let v12 : BitVec 32 := Scalar.remsi arg0 c5_i32
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_off1 (i : grid0.Coords) : Fin 2 → Nat :=
  let arg0 : BitVec 32 := BitVec.ofNat 32 (i 0).val
  let c256_i32 : BitVec 32 := 256#32
  let v32 : BitVec 32 := Scalar.muli arg0 c256_i32
  let c0_i32_20 : BitVec 32 := 0#32
  ![v32.toNat, 0]
def k0_cond4 (i : grid0.Coords) : BitVec 1 :=
  let arg0 : BitVec 32 := BitVec.ofNat 32 (i 0).val
  let c5_i32_7 : BitVec 32 := 5#32
  let v16 : BitVec 32 := Scalar.remsi arg0 c5_i32_7
  let c1_i32 : BitVec 32 := 1#32
  let v17 : BitVec 1 := Scalar.cmpi .eq v16 c1_i32
  let v18 : BitVec 32 := Scalar.extui v17
  let c0_i32_8 : BitVec 32 := 0#32
  let v19 : BitVec 1 := Scalar.cmpi .ne v18 c0_i32_8
  v19

def k0_off2 (i : grid0.Coords) : Fin 2 → Nat :=
  let arg0 : BitVec 32 := BitVec.ofNat 32 (i 0).val
  let c256_i32 : BitVec 32 := 256#32
  let v32 : BitVec 32 := Scalar.muli arg0 c256_i32
  let c0_i32_20 : BitVec 32 := 0#32
  ![v32.toNat, 0]
def k0_cond5 (i : grid0.Coords) : BitVec 1 :=
  let arg0 : BitVec 32 := BitVec.ofNat 32 (i 0).val
  let c5_i32_9 : BitVec 32 := 5#32
  let v20 : BitVec 32 := Scalar.remsi arg0 c5_i32_9
  let c2_i32 : BitVec 32 := 2#32
  let v21 : BitVec 1 := Scalar.cmpi .eq v20 c2_i32
  let v22 : BitVec 32 := Scalar.extui v21
  let c0_i32_10 : BitVec 32 := 0#32
  let v23 : BitVec 1 := Scalar.cmpi .ne v22 c0_i32_10
  v23

def k0_off3 (i : grid0.Coords) : Fin 2 → Nat :=
  let arg0 : BitVec 32 := BitVec.ofNat 32 (i 0).val
  let c256_i32 : BitVec 32 := 256#32
  let v32 : BitVec 32 := Scalar.muli arg0 c256_i32
  let c0_i32_20 : BitVec 32 := 0#32
  ![v32.toNat, 0]
def k0_cond6 (i : grid0.Coords) : BitVec 1 :=
  let arg0 : BitVec 32 := BitVec.ofNat 32 (i 0).val
  let c5_i32_11 : BitVec 32 := 5#32
  let v24 : BitVec 32 := Scalar.remsi arg0 c5_i32_11
  let c3_i32 : BitVec 32 := 3#32
  let v25 : BitVec 1 := Scalar.cmpi .eq v24 c3_i32
  let v26 : BitVec 32 := Scalar.extui v25
  let c0_i32_12 : BitVec 32 := 0#32
  let v27 : BitVec 1 := Scalar.cmpi .ne v26 c0_i32_12
  v27

def k0_off4 (i : grid0.Coords) : Fin 2 → Nat :=
  let arg0 : BitVec 32 := BitVec.ofNat 32 (i 0).val
  let c256_i32 : BitVec 32 := 256#32
  let v32 : BitVec 32 := Scalar.muli arg0 c256_i32
  let c0_i32_20 : BitVec 32 := 0#32
  ![v32.toNat, 0]
def k0_cond7 (i : grid0.Coords) : BitVec 1 :=
  let arg0 : BitVec 32 := BitVec.ofNat 32 (i 0).val
  let c5_i32_13 : BitVec 32 := 5#32
  let v28 : BitVec 32 := Scalar.remsi arg0 c5_i32_13
  let c4_i32_14 : BitVec 32 := 4#32
  let v29 : BitVec 1 := Scalar.cmpi .eq v28 c4_i32_14
  let v30 : BitVec 32 := Scalar.extui v29
  let c0_i32_15 : BitVec 32 := 0#32
  let v31 : BitVec 1 := Scalar.cmpi .ne v30 c0_i32_15
  v31

def k0_off5 (i : grid0.Coords) : Fin 2 → Nat :=
  let arg0 : BitVec 32 := BitVec.ofNat 32 (i 0).val
  let c256_i32 : BitVec 32 := 256#32
  let v32 : BitVec 32 := Scalar.muli arg0 c256_i32
  let c0_i32_20 : BitVec 32 := 0#32
  ![v32.toNat, 0]
def k0_cond8 (i : grid0.Coords) : BitVec 1 :=
  let arg0 : BitVec 32 := BitVec.ofNat 32 (i 0).val
  let c4_i32 : BitVec 32 := 4#32
  let v6 : BitVec 1 := Scalar.cmpi .slt arg0 c4_i32
  let v7 : BitVec 32 := Scalar.extui v6
  let c0_i32_2 : BitVec 32 := 0#32
  let v8 : BitVec 1 := Scalar.cmpi .ne v7 c0_i32_2
  v8

def k0_off6 (i : grid0.Coords) : Fin 2 → Nat :=
  let arg0 : BitVec 32 := BitVec.ofNat 32 (i 0).val
  let c1024_i32 : BitVec 32 := 1024#32
  let v45 : BitVec 32 := Scalar.muli arg0 c1024_i32
  let v46 : Index := Scalar.indexCast v45
  let c0_22 : Index := 0#32
  ![v46.toNat, 0]
def k0_off7 (i : grid0.Coords) : Fin 2 → Nat :=
  let arg0 : BitVec 32 := BitVec.ofNat 32 (i 0).val
  let c1024_i32_26 : BitVec 32 := 1024#32
  let v52 : BitVec 32 := Scalar.muli arg0 c1024_i32_26
  let v53 : Index := Scalar.indexCast v52
  let c0_27 : Index := 0#32
  ![v53.toNat, 0]
def k0_cond16 (i : grid0.Coords) : BitVec 1 :=
  let arg0 : BitVec 32 := BitVec.ofNat 32 (i 0).val
  let c4_i32_3 : BitVec 32 := 4#32
  let v9 : BitVec 1 := Scalar.cmpi .sge arg0 c4_i32_3
  let v10 : BitVec 32 := Scalar.extui v9
  let c0_i32_4 : BitVec 32 := 0#32
  let v11 : BitVec 1 := Scalar.cmpi .ne v10 c0_i32_4
  v11

def k0_cond17 (i : grid0.Coords) : BitVec 1 :=
  let arg0 : BitVec 32 := BitVec.ofNat 32 (i 0).val
  let c4_i32_5 : BitVec 32 := 4#32
  let v12 : BitVec 32 := Scalar.subi arg0 c4_i32_5
  let c5_i32 : BitVec 32 := 5#32
  let v13 : BitVec 32 := Scalar.remsi v12 c5_i32
  let c0_i32_6 : BitVec 32 := 0#32
  let v14 : BitVec 1 := Scalar.cmpi .eq v13 c0_i32_6
  let v15 : BitVec 32 := Scalar.extui v14
  let c0_i32_7 : BitVec 32 := 0#32
  let v16 : BitVec 1 := Scalar.cmpi .ne v15 c0_i32_7
  v16

def k0_off8 (i : grid0.Coords) : Fin 2 → Nat :=
  let arg0 : BitVec 32 := BitVec.ofNat 32 (i 0).val
  let c4_i32_5 : BitVec 32 := 4#32
  let v12 : BitVec 32 := Scalar.subi arg0 c4_i32_5
  let c256_i32_73 : BitVec 32 := 256#32
  let v168 : BitVec 32 := Scalar.muli v12 c256_i32_73
  let c0_i32_78 : BitVec 32 := 0#32
  ![v168.toNat, 0]
def k0_cond18 (i : grid0.Coords) : BitVec 1 :=
  let arg0 : BitVec 32 := BitVec.ofNat 32 (i 0).val
  let c4_i32_5 : BitVec 32 := 4#32
  let v12 : BitVec 32 := Scalar.subi arg0 c4_i32_5
  let c5_i32_8 : BitVec 32 := 5#32
  let v17 : BitVec 32 := Scalar.remsi v12 c5_i32_8
  let c1_i32 : BitVec 32 := 1#32
  let v18 : BitVec 1 := Scalar.cmpi .eq v17 c1_i32
  let v19 : BitVec 32 := Scalar.extui v18
  let c0_i32_9 : BitVec 32 := 0#32
  let v20 : BitVec 1 := Scalar.cmpi .ne v19 c0_i32_9
  v20

def k0_off9 (i : grid0.Coords) : Fin 2 → Nat :=
  let arg0 : BitVec 32 := BitVec.ofNat 32 (i 0).val
  let c4_i32_5 : BitVec 32 := 4#32
  let v12 : BitVec 32 := Scalar.subi arg0 c4_i32_5
  let c256_i32_73 : BitVec 32 := 256#32
  let v168 : BitVec 32 := Scalar.muli v12 c256_i32_73
  let c0_i32_78 : BitVec 32 := 0#32
  ![v168.toNat, 0]
def k0_cond19 (i : grid0.Coords) : BitVec 1 :=
  let arg0 : BitVec 32 := BitVec.ofNat 32 (i 0).val
  let c4_i32_5 : BitVec 32 := 4#32
  let v12 : BitVec 32 := Scalar.subi arg0 c4_i32_5
  let c5_i32_10 : BitVec 32 := 5#32
  let v21 : BitVec 32 := Scalar.remsi v12 c5_i32_10
  let c2_i32 : BitVec 32 := 2#32
  let v22 : BitVec 1 := Scalar.cmpi .eq v21 c2_i32
  let v23 : BitVec 32 := Scalar.extui v22
  let c0_i32_11 : BitVec 32 := 0#32
  let v24 : BitVec 1 := Scalar.cmpi .ne v23 c0_i32_11
  v24

def k0_off10 (i : grid0.Coords) : Fin 2 → Nat :=
  let arg0 : BitVec 32 := BitVec.ofNat 32 (i 0).val
  let c4_i32_5 : BitVec 32 := 4#32
  let v12 : BitVec 32 := Scalar.subi arg0 c4_i32_5
  let c256_i32_73 : BitVec 32 := 256#32
  let v168 : BitVec 32 := Scalar.muli v12 c256_i32_73
  let c0_i32_78 : BitVec 32 := 0#32
  ![v168.toNat, 0]
def k0_cond20 (i : grid0.Coords) : BitVec 1 :=
  let arg0 : BitVec 32 := BitVec.ofNat 32 (i 0).val
  let c4_i32_5 : BitVec 32 := 4#32
  let v12 : BitVec 32 := Scalar.subi arg0 c4_i32_5
  let c5_i32_12 : BitVec 32 := 5#32
  let v25 : BitVec 32 := Scalar.remsi v12 c5_i32_12
  let c3_i32 : BitVec 32 := 3#32
  let v26 : BitVec 1 := Scalar.cmpi .eq v25 c3_i32
  let v27 : BitVec 32 := Scalar.extui v26
  let c0_i32_13 : BitVec 32 := 0#32
  let v28 : BitVec 1 := Scalar.cmpi .ne v27 c0_i32_13
  v28

def k0_off11 (i : grid0.Coords) : Fin 2 → Nat :=
  let arg0 : BitVec 32 := BitVec.ofNat 32 (i 0).val
  let c4_i32_5 : BitVec 32 := 4#32
  let v12 : BitVec 32 := Scalar.subi arg0 c4_i32_5
  let c256_i32_73 : BitVec 32 := 256#32
  let v168 : BitVec 32 := Scalar.muli v12 c256_i32_73
  let c0_i32_78 : BitVec 32 := 0#32
  ![v168.toNat, 0]
def k0_cond21 (i : grid0.Coords) : BitVec 1 :=
  let arg0 : BitVec 32 := BitVec.ofNat 32 (i 0).val
  let c4_i32_5 : BitVec 32 := 4#32
  let v12 : BitVec 32 := Scalar.subi arg0 c4_i32_5
  let c5_i32_14 : BitVec 32 := 5#32
  let v29 : BitVec 32 := Scalar.remsi v12 c5_i32_14
  let c4_i32_15 : BitVec 32 := 4#32
  let v30 : BitVec 1 := Scalar.cmpi .eq v29 c4_i32_15
  let v31 : BitVec 32 := Scalar.extui v30
  let c0_i32_16 : BitVec 32 := 0#32
  let v32 : BitVec 1 := Scalar.cmpi .ne v31 c0_i32_16
  v32

def k0_off12 (i : grid0.Coords) : Fin 2 → Nat :=
  let arg0 : BitVec 32 := BitVec.ofNat 32 (i 0).val
  let c4_i32_5 : BitVec 32 := 4#32
  let v12 : BitVec 32 := Scalar.subi arg0 c4_i32_5
  let c256_i32_73 : BitVec 32 := 256#32
  let v168 : BitVec 32 := Scalar.muli v12 c256_i32_73
  let c0_i32_78 : BitVec 32 := 0#32
  ![v168.toNat, 0]
def k0_off13 (i : grid0.Coords) : Fin 3 → Nat :=
  let arg0 : BitVec 32 := BitVec.ofNat 32 (i 0).val
  let c4_i32_5 : BitVec 32 := 4#32
  let v12 : BitVec 32 := Scalar.subi arg0 c4_i32_5
  let c5_i32_17 : BitVec 32 := 5#32
  let v33 : BitVec 32 := Scalar.remsi v12 c5_i32_17
  let v34 : Index := Scalar.indexCast v33
  let c0 : Index := 0#32
  let c0_18 : Index := 0#32
  ![v34.toNat, 0, 0]
def k0_off14 (i : grid0.Coords) : Fin 2 → Nat :=
  let arg0 : BitVec 32 := BitVec.ofNat 32 (i 0).val
  let c4_i32_5 : BitVec 32 := 4#32
  let v12 : BitVec 32 := Scalar.subi arg0 c4_i32_5
  let c256_i32 : BitVec 32 := 256#32
  let v39 : BitVec 32 := Scalar.muli v12 c256_i32
  let v40 : Index := Scalar.indexCast v39
  let c0_21 : Index := 0#32
  ![v40.toNat, 0]
def k0_cond15 (i : grid0.Coords) : BitVec 1 :=
  let arg0 : BitVec 32 := BitVec.ofNat 32 (i 0).val
  let c3_i32_33 : BitVec 32 := 3#32
  let v62 : BitVec 1 := Scalar.cmpi .eq arg0 c3_i32_33
  let v63 : BitVec 32 := Scalar.extui v62
  let c0_i32_34 : BitVec 32 := 0#32
  let v64 : BitVec 1 := Scalar.cmpi .ne v63 c0_i32_34
  v64

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2x64x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S1x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== ReferenceIdeal.lean ====
abbrev S2x4096x128 : Shape := ⟨3, ![2, 4096, 128]⟩
abbrev S4096x4096 : Shape := ⟨2, ![4096, 4096]⟩
abbrev S4096x1024 : Shape := ⟨2, ![4096, 1024]⟩
abbrev S4096 : Shape := ⟨1, ![4096]⟩
abbrev S64x128 : Shape := ⟨2, ![64, 128]⟩
abbrev S64 : Shape := ⟨1, ![64]⟩
abbrev S64x64 : Shape := ⟨2, ![64, 64]⟩
abbrev S16x64 : Shape := ⟨2, ![16, 64]⟩
abbrev S16 : Shape := ⟨1, ![16]⟩
abbrev S1x16 : Shape := ⟨2, ![1, 16]⟩
abbrev S1 : Shape := ⟨1, ![1]⟩
abbrev S_ : Shape := ⟨0, ![]⟩
abbrev S1x4096x1 : Shape := ⟨3, ![1, 4096, 1]⟩
abbrev S128x64 : Shape := ⟨2, ![128, 64]⟩
abbrev S2x4096x64 : Shape := ⟨3, ![2, 4096, 64]⟩
abbrev S1x1x64 : Shape := ⟨3, ![1, 1, 64]⟩
abbrev S2x64x4096 : Shape := ⟨3, ![2, 64, 4096]⟩
abbrev S2x128x1024 : Shape := ⟨3, ![2, 128, 1024]⟩
abbrev S2x1024x128 : Shape := ⟨3, ![2, 1024, 128]⟩
abbrev S2x1024x64 : Shape := ⟨3, ![2, 1024, 64]⟩
abbrev S1x64 : Shape := ⟨2, ![1, 64]⟩
abbrev S2x1024 : Shape := ⟨2, ![2, 1024]⟩
abbrev S2x1024x1 : Shape := ⟨3, ![2, 1024, 1]⟩
abbrev S2x4096 : Shape := ⟨2, ![2, 4096]⟩
abbrev S2x4096x1 : Shape := ⟨3, ![2, 4096, 1]⟩
abbrev S64x16 : Shape := ⟨2, ![64, 16]⟩
abbrev S2x4096x16 : Shape := ⟨3, ![2, 4096, 16]⟩
abbrev S1x1x16 : Shape := ⟨3, ![1, 1, 16]⟩
abbrev S16x1 : Shape := ⟨2, ![16, 1]⟩
abbrev S1x1x1 : Shape := ⟨3, ![1, 1, 1]⟩

abbrev nBuf : Space → Nat
  | .hbm => 231
  | .vmem => 0
  | .smem => 0
  | _ => 0

abbrev hbmTy0_0 (i : Nat) : BufTy := match i % 128 with
  | 0 => ⟨S2x4096x128, .f32⟩
  | 1 => ⟨S4096x4096, .f32⟩
  | 2 => ⟨S4096x1024, .f32⟩
  | 3 => ⟨S4096, .f32⟩
  | 4 => ⟨S64x128, .f32⟩
  | 5 => ⟨S64, .f32⟩
  | 6 => ⟨S64x128, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S16x64, .f32⟩
  | 16 => ⟨S16, .f32⟩
  | 17 => ⟨S1x16, .f32⟩
  | 18 => ⟨S1, .f32⟩
  | 19 => ⟨S64, .f32⟩
  | 20 => ⟨S64, .f32⟩
  | 21 => ⟨S64x128, .f32⟩
  | 22 => ⟨S64, .f32⟩
  | 23 => ⟨S64, .f32⟩
  | 24 => ⟨S64, .f32⟩
  | 25 => ⟨S4096, .f32⟩
  | 26 => ⟨S4096, .f32⟩
  | 27 => ⟨S_, .f32⟩
  | 28 => ⟨S4096, .f32⟩
  | 29 => ⟨S4096, .f32⟩
  | 30 => ⟨S_, .f32⟩
  | 31 => ⟨S4096, .f32⟩
  | 32 => ⟨S4096, .f32⟩
  | 33 => ⟨S1x4096x1, .f32⟩
  | 34 => ⟨S2x4096x128, .f32⟩
  | 35 => ⟨S2x4096x128, .f32⟩
  | 36 => ⟨S128x64, .f32⟩
  | 37 => ⟨S2x4096x64, .f32⟩
  | 38 => ⟨S1x1x64, .f32⟩
  | 39 => ⟨S2x4096x64, .f32⟩
  | 40 => ⟨S2x4096x64, .f32⟩
  | 41 => ⟨S2x64x4096, .f32⟩
  | 42 => ⟨S2x4096x64, .f32⟩
  | 43 => ⟨S2x128x1024, .f32⟩
  | 44 => ⟨S2x1024x128, .f32⟩
  | 45 => ⟨S128x64, .f32⟩
  | 46 => ⟨S2x1024x64, .f32⟩
  | 47 => ⟨S1x1x64, .f32⟩
  | 48 => ⟨S2x1024x64, .f32⟩
  | 49 => ⟨S2x1024x64, .f32⟩
  | 50 => ⟨S64x64, .f32⟩
  | 51 => ⟨S2x1024x64, .f32⟩
  | 52 => ⟨S1x1x64, .f32⟩
  | 53 => ⟨S2x1024x64, .f32⟩
  | 54 => ⟨S2x1024x64, .f32⟩
  | 55 => ⟨S64x64, .f32⟩
  | 56 => ⟨S64x64, .f32⟩
  | 57 => ⟨S1x64, .f32⟩
  | 58 => ⟨S64x64, .f32⟩
  | 59 => ⟨S64x64, .f32⟩
  | 60 => ⟨S64x64, .f32⟩
  | 61 => ⟨S2x1024x64, .f32⟩
  | 62 => ⟨S_, .f32⟩
  | 63 => ⟨S2x1024x64, .f32⟩
  | 64 => ⟨S2x1024x64, .f32⟩
  | 65 => ⟨S_, .f32⟩
  | 66 => ⟨S2x1024, .f32⟩
  | 67 => ⟨S_, .f32⟩
  | 68 => ⟨S2x1024, .f32⟩
  | 69 => ⟨S2x1024, .f32⟩
  | 70 => ⟨S2x1024x1, .f32⟩
  | 71 => ⟨S2x1024x64, .f32⟩
  | 72 => ⟨S2x1024x64, .f32⟩
  | 73 => ⟨S2x1024x64, .f32⟩
  | 74 => ⟨S_, .f32⟩
  | 75 => ⟨S2x1024, .f32⟩
  | 76 => ⟨S2x1024x1, .f32⟩
  | 77 => ⟨S2x1024x64, .f32⟩
  | 78 => ⟨S2x1024x64, .f32⟩
  | 79 => ⟨S2x1024x64, .f32⟩
  | 80 => ⟨S_, .f32⟩
  | 81 => ⟨S2x1024x64, .f32⟩
  | 82 => ⟨S2x1024x64, .f32⟩
  | 83 => ⟨S2x1024x64, .f32⟩
  | 84 => ⟨S2x1024x64, .f32⟩
  | 85 => ⟨S_, .f32⟩
  | 86 => ⟨S2x1024, .f32⟩
  | 87 => ⟨S_, .f32⟩
  | 88 => ⟨S_, .f32⟩
  | 89 => ⟨S_, .f32⟩
  | 90 => ⟨S_, .f32⟩
  | 91 => ⟨S_, .f32⟩
  | 92 => ⟨S2x64x4096, .f32⟩
  | 93 => ⟨S2x4096x64, .f32⟩
  | 94 => ⟨S2x4096x64, .f32⟩
  | 95 => ⟨S2x4096x64, .f32⟩
  | 96 => ⟨S_, .f32⟩
  | 97 => ⟨S2x4096, .f32⟩
  | 98 => ⟨S2x4096x1, .f32⟩
  | 99 => ⟨S2x4096x1, .f32⟩
  | 100 => ⟨S_, .f32⟩
  | 101 => ⟨S2x4096x1, .f32⟩
  | 102 => ⟨S2x4096x1, .f32⟩
  | 103 => ⟨S_, .f32⟩
  | 104 => ⟨S2x4096x1, .f32⟩
  | 105 => ⟨S2x4096x1, .f32⟩
  | 106 => ⟨S64x64, .f32⟩
  | 107 => ⟨S2x4096x64, .f32⟩
  | 108 => ⟨S1x1x64, .f32⟩
  | 109 => ⟨S2x4096x64, .f32⟩
  | 110 => ⟨S2x4096x64, .f32⟩
  | 111 => ⟨S2x4096x64, .f32⟩
  | 112 => ⟨S64x16, .f32⟩
  | 113 => ⟨S2x4096x16, .f32⟩
  | 114 => ⟨S1x1x16, .f32⟩
  | 115 => ⟨S2x4096x16, .f32⟩
  | 116 => ⟨S2x4096x16, .f32⟩
  | 117 => ⟨S_, .f32⟩
  | 118 => ⟨S2x4096x16, .f32⟩
  | 119 => ⟨S2x4096x16, .f32⟩
  | 120 => ⟨S16x1, .f32⟩
  | 121 => ⟨S2x4096x1, .f32⟩
  | 122 => ⟨S1x1x1, .f32⟩
  | 123 => ⟨S2x4096x1, .f32⟩
  | 124 => ⟨S2x4096x1, .f32⟩
  | 125 => ⟨S2x4096x1, .f32⟩
  | 126 => ⟨S2x4096x1, .f32⟩
  | 127 => ⟨S_, .f32⟩
  | _ => ⟨S2x4096x128, .f32⟩

abbrev hbmTy0_1 (i : Nat) : BufTy := match i % 128 with
  | 0 => ⟨S2x4096x1, .f32⟩
  | 1 => ⟨S2x4096x1, .f32⟩
  | 2 => ⟨S_, .f32⟩
  | 3 => ⟨S2x4096x1, .f32⟩
  | 4 => ⟨S2x4096x1, .f32⟩
  | 5 => ⟨S2x4096x1, .f32⟩
  | 6 => ⟨S2x4096x64, .f32⟩
  | 7 => ⟨S2x4096x64, .f32⟩
  | 8 => ⟨S2x4096x64, .f32⟩
  | 9 => ⟨S_, .f32⟩
  | 10 => ⟨S2x4096, .f32⟩
  | 11 => ⟨S2x4096x1, .f32⟩
  | 12 => ⟨S_, .f32⟩
  | 13 => ⟨S2x4096x1, .f32⟩
  | 14 => ⟨S2x4096x1, .f32⟩
  | 15 => ⟨S_, .i32⟩
  | 16 => ⟨S_, .f32⟩
  | 17 => ⟨S2x4096, .f32⟩
  | 18 => ⟨S2x4096x1, .f32⟩
  | 19 => ⟨S_, .f32⟩
  | 20 => ⟨S2x4096x1, .f32⟩
  | 21 => ⟨S2x4096x1, .f32⟩
  | 22 => ⟨S2x4096x64, .f32⟩
  | 23 => ⟨S2x4096x64, .f32⟩
  | 24 => ⟨S2x4096x64, .f32⟩
  | 25 => ⟨S_, .f32⟩
  | 26 => ⟨S_, .f32⟩
  | 27 => ⟨S_, .f32⟩
  | 28 => ⟨S_, .f32⟩
  | 29 => ⟨S2x4096, .f32⟩
  | 30 => ⟨S2x4096x1, .f32⟩
  | 31 => ⟨S2x4096x1, .f32⟩
  | 32 => ⟨S2x4096x1, .f32⟩
  | 33 => ⟨S_, .f32⟩
  | 34 => ⟨S_, .i1⟩
  | 35 => ⟨S_, .f32⟩
  | 36 => ⟨S_, .f32⟩
  | 37 => ⟨S2x4096x1, .f32⟩
  | 38 => ⟨S2x4096x1, .f32⟩
  | 39 => ⟨S2x4096x64, .f32⟩
  | 40 => ⟨S2x4096x64, .f32⟩
  | 41 => ⟨S_, .f32⟩
  | 42 => ⟨S2x4096x1, .f32⟩
  | 43 => ⟨S2x4096x1, .f32⟩
  | 44 => ⟨S2x4096x1, .f32⟩
  | 45 => ⟨S2x4096x64, .f32⟩
  | 46 => ⟨S2x4096x64, .f32⟩
  | 47 => ⟨S1x1x64, .f32⟩
  | 48 => ⟨S2x4096x64, .f32⟩
  | 49 => ⟨S2x4096x64, .f32⟩
  | 50 => ⟨S1x1x64, .f32⟩
  | 51 => ⟨S2x4096x64, .f32⟩
  | 52 => ⟨S2x4096x64, .f32⟩
  | 53 => ⟨S2x4096x128, .f32⟩
  | 54 => ⟨S128x64, .f32⟩
  | 55 => ⟨S2x4096x64, .f32⟩
  | 56 => ⟨S1x1x64, .f32⟩
  | 57 => ⟨S2x4096x64, .f32⟩
  | 58 => ⟨S2x4096x64, .f32⟩
  | 59 => ⟨S_, .f32⟩
  | 60 => ⟨S2x4096, .f32⟩
  | 61 => ⟨S2x4096x1, .f32⟩
  | 62 => ⟨S_, .f32⟩
  | 63 => ⟨S2x4096x1, .f32⟩
  | 64 => ⟨S2x4096x1, .f32⟩
  | 65 => ⟨S_, .i32⟩
  | 66 => ⟨S_, .f32⟩
  | 67 => ⟨S2x4096, .f32⟩
  | 68 => ⟨S2x4096x1, .f32⟩
  | 69 => ⟨S_, .f32⟩
  | 70 => ⟨S2x4096x1, .f32⟩
  | 71 => ⟨S2x4096x1, .f32⟩
  | 72 => ⟨S2x4096x64, .f32⟩
  | 73 => ⟨S2x4096x64, .f32⟩
  | 74 => ⟨S2x4096x64, .f32⟩
  | 75 => ⟨S_, .f32⟩
  | 76 => ⟨S_, .f32⟩
  | 77 => ⟨S_, .f32⟩
  | 78 => ⟨S_, .f32⟩
  | 79 => ⟨S2x4096, .f32⟩
  | 80 => ⟨S2x4096x1, .f32⟩
  | 81 => ⟨S2x4096x1, .f32⟩
  | 82 => ⟨S2x4096x1, .f32⟩
  | 83 => ⟨S_, .f32⟩
  | 84 => ⟨S_, .i1⟩
  | 85 => ⟨S_, .f32⟩
  | 86 => ⟨S_, .f32⟩
  | 87 => ⟨S2x4096x1, .f32⟩
  | 88 => ⟨S2x4096x1, .f32⟩
  | 89 => ⟨S2x4096x64, .f32⟩
  | 90 => ⟨S2x4096x64, .f32⟩
  | 91 => ⟨S_, .f32⟩
  | 92 => ⟨S2x4096x1, .f32⟩
  | 93 => ⟨S2x4096x1, .f32⟩
  | 94 => ⟨S2x4096x1, .f32⟩
  | 95 => ⟨S2x4096x64, .f32⟩
  | 96 => ⟨S2x4096x64, .f32⟩
  | 97 => ⟨S1x1x64, .f32⟩
  | 98 => ⟨S2x4096x64, .f32⟩
  | 99 => ⟨S2x4096x64, .f32⟩
  | 100 => ⟨S1x1x64, .f32⟩
  | 101 => ⟨S2x4096x64, .f32⟩
  | 102 => ⟨S2x4096x64, .f32⟩
  | _ => ⟨S2x4096x128, .f32⟩

abbrev hbmTy (i : Nat) : BufTy := match i / 128 with
  | 0 => hbmTy0_0 i
  | 1 => hbmTy0_1 i
  | _ => ⟨S2x4096x128, .f32⟩

abbrev bufTy : (tb : Table) → Fin (tcTables nBuf tb) → BufTy
  | .hbm, ⟨i, _⟩ => hbmTy i
  | _, _ => ⟨S2x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_1 : Ref sig .tc := ⟨.hbm, 62, rfl⟩
abbrev main_v35 : Ref sig .tc := ⟨.hbm, 63, rfl⟩
abbrev main_v36 : Ref sig .tc := ⟨.hbm, 64, rfl⟩
abbrev main_cst_2 : Ref sig .tc := ⟨.hbm, 65, rfl⟩
abbrev main_v37 : Ref sig .tc := ⟨.hbm, 66, rfl⟩
abbrev main_cst_3 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_4 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_5 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_cst_7 : Ref sig .tc := ⟨.hbm, 87, rfl⟩
abbrev main_v54 : Ref sig .tc := ⟨.hbm, 88, rfl⟩
abbrev main_cst_8 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call0_v0 : Ref sig .tc := ⟨.hbm, 95, rfl⟩
abbrev main_call0_cst : Ref sig .tc := ⟨.hbm, 96, rfl⟩
abbrev main_call0_v1 : Ref sig .tc := ⟨.hbm, 97, rfl⟩
abbrev main_call0_v2 : Ref sig .tc := ⟨.hbm, 98, rfl⟩
abbrev main_v60 : Ref sig .tc := ⟨.hbm, 99, rfl⟩
abbrev main_cst_9 : Ref sig .tc := ⟨.hbm, 100, rfl⟩
abbrev main_v61 : Ref sig .tc := ⟨.hbm, 101, rfl⟩
abbrev main_v62 : Ref sig .tc := ⟨.hbm, 102, rfl⟩
abbrev main_cst_10 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_call1_cst : Ref sig .tc := ⟨.hbm, 117, rfl⟩
abbrev main_call1_v0 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_11 : Ref sig .tc := ⟨.hbm, 127, rfl⟩
abbrev main_v84 : Ref sig .tc := ⟨.hbm, 128, rfl⟩
abbrev main_v85 : Ref sig .tc := ⟨.hbm, 129, rfl⟩
abbrev main_cst_12 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_13 : Ref sig .tc := ⟨.hbm, 137, rfl⟩
abbrev main_v92 : Ref sig .tc := ⟨.hbm, 138, rfl⟩
abbrev main_v93 : Ref sig .tc := ⟨.hbm, 139, rfl⟩
abbrev main_cst_14 : Ref sig .tc := ⟨.hbm, 140, rfl⟩
abbrev main_v94 : Ref sig .tc := ⟨.hbm, 141, rfl⟩
abbrev main_v95 : Ref sig .tc := ⟨.hbm, 142, rfl⟩
abbrev main_c : Ref sig .tc := ⟨.hbm, 143, rfl⟩
abbrev main_call2_cst : Ref sig .tc := ⟨.hbm, 144, rfl⟩
abbrev main_call2_v0 : Ref sig .tc := ⟨.hbm, 145, rfl⟩
abbrev main_call2_v1 : Ref sig .tc := ⟨.hbm, 146, rfl⟩
abbrev main_call2_cst_0 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_call2_v5 : Ref sig .tc := ⟨.hbm, 151, rfl⟩
abbrev main_call2_v6 : Ref sig .tc := ⟨.hbm, 152, rfl⟩
abbrev main_call2_v7 : Ref sig .tc := ⟨.hbm, 153, rfl⟩
abbrev main_call2_cst_1 : Ref sig .tc := ⟨.hbm, 154, rfl⟩
abbrev main_call2_v8 : Ref sig .tc := ⟨.hbm, 155, rfl⟩
abbrev main_call2_cst_2 : Ref sig .tc := ⟨.hbm, 156, rfl⟩
abbrev main_call2_v9 : Ref sig .tc := ⟨.hbm, 157, rfl⟩
abbrev main_call2_v10 : Ref sig .tc := ⟨.hbm, 158, rfl⟩
abbrev main_call2_v11 : Ref sig .tc := ⟨.hbm, 159, rfl⟩
abbrev main_call2_v12 : Ref sig .tc := ⟨.hbm, 160, rfl⟩
abbrev main_call2_cst_3 : Ref sig .tc := ⟨.hbm, 161, rfl⟩
abbrev main_call2_v13 : Ref sig .tc := ⟨.hbm, 162, rfl⟩
abbrev main_call2_cst_4 : Ref sig .tc := ⟨.hbm, 163, rfl⟩
abbrev main_call2_call0_v0 : Ref sig .tc := ⟨.hbm, 164, rfl⟩
abbrev main_call2_call0_v1 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_cst_15 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_cst_16 : Ref sig .tc := ⟨.hbm, 187, rfl⟩
abbrev main_v116 : Ref sig .tc := ⟨.hbm, 188, rfl⟩
abbrev main_v117 : Ref sig .tc := ⟨.hbm, 189, rfl⟩
abbrev main_cst_17 : Ref sig .tc := ⟨.hbm, 190, rfl⟩
abbrev main_v118 : Ref sig .tc := ⟨.hbm, 191, rfl⟩
abbrev main_v119 : Ref sig .tc := ⟨.hbm, 192, rfl⟩
abbrev main_c_18 : Ref sig .tc := ⟨.hbm, 193, rfl⟩
abbrev main_call3_cst : Ref sig .tc := ⟨.hbm, 194, rfl⟩
abbrev main_call3_v0 : Ref sig .tc := ⟨.hbm, 195, rfl⟩
abbrev main_call3_v1 : Ref sig .tc := ⟨.hbm, 196, rfl⟩
abbrev main_call3_cst_0 : Ref sig .tc := ⟨.hbm, 197, rfl⟩
abbrev main_call3_v2 : Ref sig .tc := ⟨.hbm, 198, rfl⟩
abbrev main_call3_v3 : Ref sig .tc := ⟨.hbm, 199, rfl⟩
abbrev main_call3_v4 : Ref sig .tc := ⟨.hbm, 200, rfl⟩
abbrev main_call3_v5 : Ref sig .tc := ⟨.hbm, 201, rfl⟩
abbrev main_call3_v6 : Ref sig .tc := ⟨.hbm, 202, rfl⟩
abbrev main_call3_v7 : Ref sig .tc := ⟨.hbm, 203, rfl⟩
abbrev main_call3_cst_1 : Ref sig .tc := ⟨.hbm, 204, rfl⟩
abbrev main_call3_v8 : Ref sig .tc := ⟨.hbm, 205, rfl⟩
abbrev main_call3_cst_2 : Ref sig .tc := ⟨.hbm, 206, rfl⟩
abbrev main_call3_v9 : Ref sig .tc := ⟨.hbm, 207, rfl⟩
abbrev main_call3_v10 : Ref sig .tc := ⟨.hbm, 208, rfl⟩
abbrev main_call3_v11 : Ref sig .tc := ⟨.hbm, 209, rfl⟩
abbrev main_call3_v12 : Ref sig .tc := ⟨.hbm, 210, rfl⟩
abbrev main_call3_cst_3 : Ref sig .tc := ⟨.hbm, 211, rfl⟩
abbrev main_call3_v13 : Ref sig .tc := ⟨.hbm, 212, rfl⟩
abbrev main_call3_cst_4 : Ref sig .tc := ⟨.hbm, 213, rfl⟩
abbrev main_call3_call0_v0 : Ref sig .tc := ⟨.hbm, 214, rfl⟩
abbrev main_call3_call0_v1 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_cst_19 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩

abbrev nD : Nat := 1
abbrev τ : Topo := Topo.v7x

variable {F : FTy → Type} [FloatOps F]
-- ==== Proof.Run.Base.lean ====
/-
  The launch of the idealized kernel at an algebra that counts the body's own transfers: the body's memrefs, its nine
  DMA cells, the two operands left in HBM, and what the region hands the body before the first point.
-/
module

public import proofs.«01_k».proof.Proof.Gen.KernelIdeal.Frame
public import proofs.«01_k».proof.Proof.Gen.KernelIdeal.Skeleton

@[expose] public section

set_option maxRecDepth 4096

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's own memrefs and cells -/

/-- The incidence scratch, the adjacency ring, the node features, the cell accumulator, the predicted cells and the two
    block-diagonal weights. -/
abbrev sInc : Memref sig .tc .vmem S4096x1024 .f32 := Memref.whole cc0_scratch0
abbrev sRing : Memref sig .tc .vmem S5x256x4096 .f32 := Memref.whole cc0_scratch1
abbrev sH0 : Memref sig .tc .vmem S4096x128 .f32 := Memref.whole cc0_scratch2
abbrev sAcc : Memref sig .tc .vmem S1024x128 .f32 := Memref.whole cc0_scratch3
abbrev sPc : Memref sig .tc .vmem S1024x128 .f32 := Memref.whole cc0_scratch4
abbrev sNw : Memref sig .tc .vmem S128x256 .f32 := Memref.whole cc0_scratch5
abbrev sCw : Memref sig .tc .vmem S128x256 .f32 := Memref.whole cc0_scratch6
/-- The incidence and the adjacency, left in HBM. -/
abbrev hInc : Memref sig .tc .hbm S4096x1024 .f32 := Memref.whole main_arg2
abbrev hAdj : Memref sig .tc .hbm S4096x4096 .f32 := Memref.whole main_arg1

abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf (F := F) c M) : sProp 𝕄 :=
  M.view.loc (c : Thread nD τ) ↦{fullShare} f

/-- The four cells of the incidence's pieces and the five of the ring's slots. -/
abbrev osem0 : Fin 9 → SemLoc sig := fun j =>
  (![SemLoc.dma 28, SemLoc.dma 29, SemLoc.dma 30, SemLoc.dma 31, SemLoc.dma 32, SemLoc.dma 33, SemLoc.dma 34, SemLoc.dma 35, SemLoc.dma 36] : Fin 9 → SemLoc sig) j
theorem ownSemFacts0 : Pipeline.OwnSemFacts spec0 osem0 := by decide

theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 28) 0 ∗ semVal ((c : Thread nD τ), SemLoc.dma 29) 0
          ∗ semVal ((c : Thread nD τ), SemLoc.dma 30) 0 ∗ semVal ((c : Thread nD τ), SemLoc.dma 31) 0
          ∗ semVal ((c : Thread nD τ), SemLoc.dma 32) 0 ∗ semVal ((c : Thread nD τ), SemLoc.dma 33) 0
          ∗ semVal ((c : Thread nD τ), SemLoc.dma 34) 0 ∗ semVal ((c : Thread nD τ), SemLoc.dma 35) 0
          ∗ semVal ((c : Thread nD τ), SemLoc.dma 36) 0) := by
  rw [Pipeline.ownSems0_eq_of_list c osem0 [0, 1, 2, 3, 4, 5, 6, 7, 8] (by decide) (by decide)]; rfl

/-- The operands the body's transfers read. -/
def H0 : Finset (Ref sig .tc) := {main_arg1, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c hAdj (V m c main_arg1) ∗ pt c hInc (V m c main_arg2)) := by
  rw [BI.bigSep_eq_bigSepL_of_eq [main_arg1, main_arg2] (by decide) (by decide)]; rfl

/-- What the region hands the body: the scratch buffers at anything, the PRNG register, the cells at zero, the two
    operands at their launch contents. -/
theorem PhiD_eq (c : Dev nD) :
    (Pipeline.ΦD osem0 spec0 H0 (V m) c : sProp 𝕄)
      = iprop(iprop((∃ f, pt c sInc f) ∗ (∃ f, pt c sRing f) ∗ (∃ f, pt c sH0 f) ∗ (∃ f, pt c sAcc f)
              ∗ (∃ f, pt c sPc f) ∗ (∃ f, pt c sNw f) ∗ (∃ f, pt c sCw f))
          ∗ (∃ r, prngReg c r)
          ∗ iprop(semVal ((c : Thread nD τ), SemLoc.dma 28) 0 ∗ semVal ((c : Thread nD τ), SemLoc.dma 29) 0
            ∗ semVal ((c : Thread nD τ), SemLoc.dma 30) 0 ∗ semVal ((c : Thread nD τ), SemLoc.dma 31) 0
            ∗ semVal ((c : Thread nD τ), SemLoc.dma 32) 0 ∗ semVal ((c : Thread nD τ), SemLoc.dma 33) 0
            ∗ semVal ((c : Thread nD τ), SemLoc.dma 34) 0 ∗ semVal ((c : Thread nD τ), SemLoc.dma 35) 0
            ∗ semVal ((c : Thread nD τ), SemLoc.dma 36) 0)
          ∗ iprop(pt c hAdj (V m c main_arg1) ∗ pt c hInc (V m c main_arg2))) := by
  rw [Pipeline.ΦD_eq, scopedRest0_eq, ownSems0_eq, hbmPts0_eq]

/-! ## @main around the region -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl | rfl
  · exact (by decide : ∀ b ∈ H0, Proc.devRef .tc b ∉ ({Proc.devRef .tc main_v13_0, Proc.devRef .tc main_v14} : Finset (DevRef τ sig)))
  · exact (by decide : ∀ b ∈ H0, Proc.devRef .tc b ∉ ({Proc.devRef .tc main_v13_1, Proc.devRef .tc main_v15} : Finset (DevRef τ sig)))

/-- The host lines after the region write none of these buffers. -/
theorem tail_keeps (dats : (p : Fin 1) → (c : Dev nD) → Dat τ (Elt F) Unit ℕ (Pipeline.UD sig nD τ) ℕ (cfgs p) c)
    (c : Dev nD) (b : Ref sig .tc) (h14 : b ≠ main_v14) (h15 : b ≠ main_v15) (hw : ∀ w, Pipeline.arrRef spec0 w ≠ b) :
    Pipeline.afterTail₀ cfgs dats 0 (V0 m) [hostOps1] c b = V m c b := by
  unfold Pipeline.afterTail₀
  rw [StableHlo.after_of_forall_not_mem _ _ (List.forall_iff_forall_mem.mp (by
    simp only [hostOps1, List.flatten_cons, List.flatten_nil, List.append_nil, List.cons_append, List.nil_append, List.Forall,
      StableHlo.unary_writes, StableHlo.reshape_writes, Finset.mem_singleton]
    exact ⟨StableHlo.devRef_ne_of_ne h14, StableHlo.devRef_ne_of_ne h15⟩)), Pipeline.withArrays_of_ne]
  exact fun w h => hw w h

end Cert.KernelIdeal.Run

end
-- ==== Proof.Run.Access.lean ====
/-
  Loads and stores of a memref held at what it reads, one rectangle at a time.
-/
module

public import proofs.«01_k».proof.Proof.Run.Base
public import Idealize.ShloMosaic.Lib.VecWindow

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- `X` with the rectangle `R` overwritten by `v`. -/
def put {S : Shape} {e : EltTy} (R : Rect S) (v : R.shape.Idx → Elt F e) (X : S.Idx → Elt F e) : S.Idx → Elt F e :=
  fun i => match Idealize.ShloMosaic.preimage? R.emb i with
    | some j => v j
    | none => X i

theorem put_emb {S : Shape} {e : EltTy} (R : Rect S) (v : R.shape.Idx → Elt F e) (X : S.Idx → Elt F e) (j : R.shape.Idx) :
    put R v X (R.emb j) = v j := by
  unfold put; rw [preimage?_emb]

theorem put_of_not_mem {S : Shape} {e : EltTy} (R : Rect S) (v : R.shape.Idx → Elt F e) (X : S.Idx → Elt F e) (i : S.Idx) (h : i ∉ R.set) :
    put R v X i = X i := by
  unfold put; rw [preimage?_eq_none_of_not_mem]
  rwa [Rect.map_emb_univ]

theorem put_full {S : Shape} {e : EltTy} {off : Fin S.rank → ℕ} (inb : ∀ a, off a + S.size a ≤ S.size a) (v : S.Idx → Elt F e) (X : S.Idx → Elt F e) :
    put (Rect.unit off S.size inb) v X = v := by
  funext i
  have h := put_emb (Rect.unit off S.size inb) v X i
  rwa [Rect.emb_unit_full] at h

variable (c : Dev nD) {α : Type}

abbrev wpc (p : Prog (TpuEff nD τ sig (Elt F) Λ₀ .tc) α) (Q : α → sProp 𝕄) : sProp 𝕄 :=
  wp frame (wpE (defs₀ (F := F)) Variants.none (c : Thread nD τ) none) Set.univ p Q

/-- A load through a rectangle. -/
theorem load_rect {S : Shape} {e : EltTy} {M : Memref sig .tc .vmem S e} {R : Rect S} {hl : M.view.LoadsAt R.toLoadRect}
    {q : PosShare TreeShare} {X : S.Idx → Elt F e} {k : (R.shape.Idx → Elt F e) → Prog (TpuEff nD τ sig (Elt F) Λ₀ .tc) α} {Q : α → sProp 𝕄} :
    (owns (c : Thread nD τ) M q X : sProp 𝕄)
      ⊢ iprop((owns (c : Thread nD τ) M q X -∗ wpc c (k (fun j => X (R.emb j))) Q)
        -∗ wpc c (Prog.lift (.load M R.toLoadRect hl) >>= k) Q) := by
  unfold owns
  iintro ⟨%f, %hf, H⟩ Hk
  iapply (wp_load (defs := defs₀ (F := F)) Variants.none (c : Thread nD τ) none Set.univ (m := M) (r := R.toLoadRect) (hl := hl) (k := k)
    (View.setOn_subset_set _ _)) $$ H
  iintro H
  have hv : M.view.readAt (Elt F) R.toLoadRect f = fun j => X (R.emb j) := by subst hf; rfl
  rw [hv]
  iapply Hk
  iexists f
  isplitr
  · ipureintro; exact hf
  iexact H

/-- A load of the whole memref. -/
theorem load_full {S : Shape} {e : EltTy} {M : Memref sig .tc .vmem S e} {off : Fin S.rank → ℕ} {inb : ∀ a, off a + S.size a ≤ S.size a}
    {hl : M.view.LoadsAt (Rect.unit off S.size inb).toLoadRect}
    {q : PosShare TreeShare} {X : S.Idx → Elt F e} {k : (S.Idx → Elt F e) → Prog (TpuEff nD τ sig (Elt F) Λ₀ .tc) α} {Q : α → sProp 𝕄} :
    (owns (c : Thread nD τ) M q X : sProp 𝕄)
      ⊢ iprop((owns (c : Thread nD τ) M q X -∗ wpc c (k X) Q)
        -∗ wpc c (Prog.lift (.load M (Rect.unit off S.size inb).toLoadRect hl) >>= k) Q) := by
  have h := load_rect (F := F) c (M := M) (R := Rect.unit off S.size inb) (hl := hl) (q := q) (X := X) (k := k) (Q := Q)
  have he : (fun j => X ((Rect.unit off S.size inb).emb j)) = X := funext fun j => congrArg X (Rect.emb_unit_full inb j)
  rw [he] at h
  exact h

/-- A store through a rectangle. -/
theorem store_rect {S : Shape} {e : EltTy} {M : Memref sig .tc .vmem S e} {R : Rect S} {v : R.shape.Idx → Elt F e}
    {hx : (M.access R).Stores Finset.univ} {hm : Finset.univ = Finset.univ ∨ ∀ a, R.stride a = 1}
    {X : S.Idx → Elt F e} {k : PUnit → Prog (TpuEff nD τ sig (Elt F) Λ₀ .tc) α} {Q : α → sProp 𝕄} :
    (owns (c : Thread nD τ) M fullShare X : sProp 𝕄)
      ⊢ iprop((owns (c : Thread nD τ) M fullShare (put R v X) -∗ wpc c (k ⟨⟩) Q)
        -∗ wpc c (Prog.lift (.store M R v Finset.univ hx hm) >>= k) Q) := by
  unfold owns
  iintro ⟨%f, %hf, H⟩ Hk
  iapply (wp_store (defs := defs₀ (F := F)) Variants.none (c : Thread nD τ) none Set.univ (m := M) (r := R) (w := v) (Mk := Finset.univ) (hx := hx)
    (hm := hm) (k := k) (S := M.view.set) (by rw [View.setOn_univ]; exact View.set_slice_subset _ _)) $$ H
  iintro H
  iapply Hk
  iexists _
  isplitr
  · ipureintro
    show M.view.read (Elt F) ((M.access R).write (Elt F) f v Finset.univ) = put R v X
    funext i
    by_cases hi : i ∈ R.set
    · obtain ⟨j, rfl⟩ := R.exists_idx_of_mem hi
      exact (congrFun (View.read_write_univ (v := M.access R) (Val := Elt F) f v) j).trans (put_emb R v X j).symm
    · rw [put_of_not_mem R v X i hi, ← hf, View.read_apply, View.read_apply, View.write_of_not_mem]
      intro h
      rw [View.setOn_univ, View.set_slice] at h
      obtain ⟨x, hx, he⟩ := Finset.mem_map.mp h
      exact hi (M.view.emb.injective he ▸ hx)
  iexact H

/-- A store of the whole memref. -/
theorem store_full {S : Shape} {e : EltTy} {M : Memref sig .tc .vmem S e} {off : Fin S.rank → ℕ} {inb : ∀ a, off a + S.size a ≤ S.size a}
    {v : S.Idx → Elt F e} {hx : (M.access (Rect.unit off S.size inb)).Stores Finset.univ}
    {hm : Finset.univ = Finset.univ ∨ ∀ a, (Rect.unit off S.size inb).stride a = 1}
    {X : S.Idx → Elt F e} {k : PUnit → Prog (TpuEff nD τ sig (Elt F) Λ₀ .tc) α} {Q : α → sProp 𝕄} :
    (owns (c : Thread nD τ) M fullShare X : sProp 𝕄)
      ⊢ iprop((owns (c : Thread nD τ) M fullShare v -∗ wpc c (k ⟨⟩) Q)
        -∗ wpc c (Prog.lift (.store M (Rect.unit off S.size inb) v Finset.univ hx hm) >>= k) Q) := by
  have h := store_rect (F := F) c (M := M) (R := Rect.unit off S.size inb) (v := v) (hx := hx) (hm := hm) (X := X) (k := k) (Q := Q)
  rw [put_full inb v X] at h
  exact h

/-- A whole memref held whole is held at what it reads, -/
theorem pt_owns {sp : Space} (b : Ref sig .tc) (f : BufOf (F := F) c (Memref.whole b)) :
    (pt c (Memref.whole b) f : sProp 𝕄) ⊢ owns (c : Thread nD τ) (Memref.whole b) fullShare f := by
  unfold owns
  iintro H
  iexists f
  isplitr
  · ipureintro; rfl
  · rw [show (Memref.whole b).view.set = Finset.univ from View.set_whole b]; iexact H

/-- and back. -/
theorem owns_pt {sp : Space} (b : Ref sig .tc) (f : BufOf (F := F) c (Memref.whole b)) :
    (owns (c : Thread nD τ) (Memref.whole b) fullShare f : sProp 𝕄) ⊢ pt c (Memref.whole b) f := by
  unfold owns
  iintro ⟨%g, %hg, H⟩
  have hg' : g = f := hg
  subst hg'
  rw [show (Memref.whole b).view.set = Finset.univ from View.set_whole b]; iexact H

end Cert.KernelIdeal.Run

end
-- ==== Proof.Run.Ring.lean ====
/-
  The ring of the adjacency's stripes: a slot of the ring free, or a stripe in flight to it; the transfer that fills a
  slot and the wait that gives it back holding the stripe.
-/
module

public import proofs.«01_k».proof.Proof.Run.Access
public import Idealize.ShloMosaic.Lib.Transfers
public import Idealize.ShloMosaic.Lib.ValueLayout

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD)

abbrev EC : UEmb Counters 𝕄 := countersEmb (U := Pipeline.UD sig nD τ)

/-! ## One slot -/

/-- The elements of slot `b` of the ring. -/
def slotSet (b : ℕ) : Finset (Idx (sRing.view.loc (c : Thread nD τ))) :=
  Finset.univ.filter fun i : S5x256x4096.Idx => (i 0).val = b

/-- The elements of stripe `k` of the adjacency. -/
def stripeSet (k : ℕ) : Finset (Idx (hAdj.view.loc (c : Thread nD τ))) :=
  Finset.univ.filter fun i : S4096x4096.Idx => 256 * k ≤ (i 0).val ∧ (i 0).val < 256 * k + 256

/-- The ring's slots all reading stripe `k` of the adjacency `A`. -/
def ringVec (A : Vec F S4096x4096 .f32) (k : Fin 16) : Vec F S5x256x4096 .f32 := fun i =>
  A (ix2 (n0 := 4096) (n1 := 4096) ⟨256 * k.val + (i 1).val, by have := k.isLt; have : (i 1).val < 256 := (i 1).isLt; omega⟩ (i 2))

abbrev slotM (off : Fin 3 → ℕ) (inb : ∀ a, off a + S1x256x4096.size a ≤ S5x256x4096.size a) : Memref sig .tc .vmem S256x4096 .f32 :=
  (sRing.slice (Rect.unit (s := S5x256x4096) off S1x256x4096.size inb) (fun _ => rfl)).squeeze S256x4096 squeezes_S1x256x4096_S256x4096

abbrev stripeM (off : Fin 2 → ℕ) (inb : ∀ a, off a + S256x4096.size a ≤ S4096x4096.size a) : Memref sig .tc .hbm S256x4096 .f32 :=
  hAdj.slice (Rect.unit (s := S4096x4096) off S256x4096.size inb) (fun _ => rfl)

theorem rect_slot_set (b : ℕ) (off : Fin 3 → ℕ) (h : off = ![b, 0, 0]) (inb : ∀ a, off a + S1x256x4096.size a ≤ S5x256x4096.size a) :
    (Rect.unit (s := S5x256x4096) off S1x256x4096.size inb).set = slotSet c b := by
  subst h
  ext i
  rw [Rect.mem_set_unit]
  unfold slotSet
  simp only [Finset.mem_filter, Finset.mem_univ, true_and]
  constructor
  · intro h
    have := h 0
    simp at this
    omega
  · intro h a
    have h1 := (i 1).isLt
    have h2 := (i 2).isLt
    fin_cases a <;> simp <;> simp at h1 h2 <;> omega

theorem slotM_set (b : ℕ) (off : Fin 3 → ℕ) (h : off = ![b, 0, 0]) (inb : ∀ a, off a + S1x256x4096.size a ≤ S5x256x4096.size a) :
    (slotM off inb).view.set = slotSet c b := by
  rw [← rect_slot_set c b off h inb]
  exact (View.set_reshape _ _).trans (View.set_slice_whole _ _)

theorem rect_stripe_set (k : ℕ) (off : Fin 2 → ℕ) (h : off = ![256 * k, 0]) (inb : ∀ a, off a + S256x4096.size a ≤ S4096x4096.size a) :
    (Rect.unit (s := S4096x4096) off S256x4096.size inb).set = stripeSet c k := by
  subst h
  ext i
  rw [Rect.mem_set_unit]
  unfold stripeSet
  simp only [Finset.mem_filter, Finset.mem_univ, true_and]
  constructor
  · intro h
    have := h 0
    simp at this
    omega
  · intro h a
    have h1 := (i 1).isLt
    fin_cases a <;> simp <;> simp at h1 <;> omega

theorem stripeM_set (k : ℕ) (off : Fin 2 → ℕ) (h : off = ![256 * k, 0]) (inb : ∀ a, off a + S256x4096.size a ≤ S4096x4096.size a) :
    (stripeM off inb).view.set = stripeSet c k := by
  rw [← rect_stripe_set c k off h inb]
  exact View.set_slice_whole _ _

theorem ring_write (A : Vec F S4096x4096 .f32) (b : ℕ) (k : Fin 16) (off : Fin 3 → ℕ) (h : off = ![b, 0, 0])
    (inb : ∀ a, off a + S1x256x4096.size a ≤ S5x256x4096.size a)
    (soff : Fin 2 → ℕ) (hs : soff = ![256 * k.val, 0]) (sinb : ∀ a, soff a + S256x4096.size a ≤ S4096x4096.size a) (f : Vec F S5x256x4096 .f32) :
    ∀ i ∈ slotSet c b, (slotM off inb).view.write (Elt F) f ((stripeM soff sinb).view.read (Elt F) A) Finset.univ i = ringVec A k i := by
  intro i hi
  rw [← slotM_set c b off h inb] at hi
  obtain ⟨x, -, rfl⟩ := Finset.mem_map.mp hi
  refine (View.write_emb_of_mem _ _ (M := Finset.univ) (Finset.mem_univ x)).trans ?_
  subst h hs
  have hx : x = ix2 (n0 := 256) (n1 := 4096) (x 0) (x 1) := by funext a; fin_cases a <;> rfl
  have he : (slotM ![b, 0, 0] inb).view.emb x
      = (Rect.unit (s := S5x256x4096) ![b, 0, 0] S1x256x4096.size inb).emb (ix3 (n0 := 1) (n1 := 256) (n2 := 4096) 0 (x 0) (x 1)) := by
    conv_lhs => rw [hx]
    show (Rect.unit (s := S5x256x4096) ![b, 0, 0] S1x256x4096.size inb).emb (Shape.reshapeEquiv _ _) = _
    exact congrArg _ (reshapeEquiv_ix2_1ab (a := 256) (b := 4096) _ _ _)
  rw [he]
  show A _ = A _
  congr 1
  funext a
  fin_cases a
  · exact Fin.ext (by show 256 * k.val + 1 * (x 0).val = 256 * k.val + (0 + 1 * (x 0).val); omega)
  · exact Fin.ext (by show 0 + 1 * (x 1).val = 0 + 1 * (x 1).val; omega)

/-! ## The ring's states -/

/-- The ring's cell `b`. -/
def cell (b : Fin 5) : DmaSem sig := ⟨32 + b.val, by have := b.isLt; show 32 + b.val < 37; omega⟩

/-- What one stripe's transfer credits. -/
abbrev stripeCredit : ℕ := (slotM ![0, 0, 0] inb_S5x256x4096_S1x256x4096_0_0_0).view.dmaCredit

/-- Slot `b` free: its elements at anything, its read share of the adjacency, its cell at zero. -/
def Free (A : BufOf (F := F) c hAdj) (b : Fin 5) : sProp 𝕄 :=
  iprop(semVal ((c : Thread nD τ), SemLoc.dma (cell b)) 0 ∗ (∃ f, sRing.view.loc (c : Thread nD τ) ↦[slotSet c b]{fullShare} f)
    ∗ (hAdj.view.loc (c : Thread nD τ) ↦{shareTok fullShare 5 b} A))

/-- Slot `b` landed, holding stripe `k`. -/
def Landed (A : BufOf (F := F) c hAdj) (b : Fin 5) (k : Fin 16) : sProp 𝕄 :=
  iprop(semVal ((c : Thread nD τ), SemLoc.dma (cell b)) 0 ∗ (sRing.view.loc (c : Thread nD τ) ↦[slotSet c b]{fullShare} ringVec A k)
    ∗ (hAdj.view.loc (c : Thread nD τ) ↦{shareTok fullShare 5 b} A))

/-- Stripe `k` in flight to slot `b`. -/
def Flying (A : BufOf (F := F) c hAdj) (b : Fin 5) (k : Fin 16) : sProp 𝕄 :=
  iprop(Flight (EC (F := F)) (c : Thread nD τ) (SemLoc.dma (cell b)) () stripeCredit
      iprop((sRing.view.loc (c : Thread nD τ) ↦[slotSet c b]{fullShare} ringVec A k)
        ∗ (hAdj.view.loc (c : Thread nD τ) ↦[stripeSet c k]{shareTok fullShare 5 b} A))
    ∗ (hAdj.view.loc (c : Thread nD τ) ↦[Finset.univ \ stripeSet c k]{shareTok fullShare 5 b} A))

theorem Landed_free (A : BufOf (F := F) c hAdj) (b : Fin 5) (k : Fin 16) : (Landed c A b k : sProp 𝕄) ⊢ Free c A b := by
  unfold Landed Free
  iintro ⟨H1, H2, H3⟩
  isplitl [H1]; · iexact H1
  isplitl [H2]; · iexists _; iexact H2
  iexact H3

/-- The transfer of stripe `k` to the free slot `b`. -/
theorem issue_one {α : Type} {Q : α → sProp 𝕄} (A : BufOf (F := F) c hAdj) (b : Fin 5) (k : Fin 16) (sm : DmaSem sig) (hsm : sm = cell b)
    (off : Fin 3 → ℕ) (h : off = ![b.val, 0, 0]) (inb : ∀ a, off a + S1x256x4096.size a ≤ S5x256x4096.size a)
    (soff : Fin 2 → ℕ) (hs : soff = ![256 * k.val, 0]) (sinb : ∀ a, soff a + S256x4096.size a ≤ S4096x4096.size a)
    (h1 : (stripeM soff sinb).view.WordExact) (h2 : (slotM off inb).view.WordExact)
    (h3 : DmaTarget.Typed (nD := nD) (Space.hbm) (SemLoc.dma sm) (DmaTarget.here (p := .tc) (slotM off inb)))
    (K : PUnit → Prog (TpuEff nD τ sig (Elt F) Λ₀ .tc) α) :
    (Free c A b : sProp 𝕄) ⊢ iprop((Flying c A b k -∗ wpc c (K ⟨⟩) Q)
      -∗ wpc c (Prog.lift (.enqueueDma (stripeM soff sinb) (.here (slotM off inb)) (.dma sm) h1 h2 h3) >>= K) Q) := by
  subst hsm
  unfold Free Flying
  have e1 := stripeM_set c k.val soff hs sinb
  have e2 := slotM_set c b.val off h inb
  have hd := fun fd => wp_dmaLocal (fd := fd) (EC (F := F)) (defs := defs₀ (F := F)) Variants.none (c : Thread nD τ) none (src := stripeM soff sinb) (via := .same) (dst := slotM off inb)
    (sm := SemLoc.dma (cell b)) (hsrc := h1) (hdst := h2) (hsem := h3) (k := K) (Q := Q) (Sd := slotSet c b) (fs := A)
    (q := shareTok fullShare 5 b) () stripeCredit rfl (View.dmaCredit_pos _ (by decide)) (by rw [e2])
  rw [e1] at hd
  iintro ⟨Hsem, ⟨%f, Hslot⟩, HA⟩ Hk
  ihave HA := (pointsTo_split_subset (Finset.subset_univ (stripeSet c k))).1 $$ HA
  icases HA with ⟨HA, HR⟩
  iapply (hd f) $$ [HA Hslot Hsem]
  · isplitl [HA]; · iexact HA
    isplitl [Hslot]; · iexact Hslot
    iexact Hsem
  iintro HF
  iapply Hk
  isplitl [HF]
  · iapply (Flight_mono (EC (F := F)) (c : Thread nD τ) _) $$ HF
    iintro ⟨H1, H2⟩
    isplitl [H1]
    · rw [← pointsTo_congr (ring_write c A b.val k off h inb soff hs sinb f)]
      iexact H1
    iexact H2
  iexact HR

/-- The wait for the stripe in flight to slot `b`. -/
theorem wait_one {α : Type} {Q : α → sProp 𝕄} (A : BufOf (F := F) c hAdj) (b : Fin 5) (k : Fin 16) (sm : DmaSem sig) (hsm : sm = cell b)
    (off : Fin 3 → ℕ) (inb : ∀ a, off a + S1x256x4096.size a ≤ S5x256x4096.size a)
    (soff : Fin 2 → ℕ) (sinb : ∀ a, soff a + S256x4096.size a ≤ S4096x4096.size a)
    (h1 : (stripeM soff sinb).view.WordExact) (h2 : (slotM off inb).view.WordExact)
    (K : PUnit → Prog (TpuEff nD τ sig (Elt F) Λ₀ .tc) α) (W : Waits sig Unit) :
    iprop(Flying c A b k ∗ owes (c : Thread nD τ) 0 W : sProp 𝕄)
      ⊢ iprop((iprop(Landed c A b k ∗ ∃ W', owes (c : Thread nD τ) 0 W') -∗ wpc c (K ⟨⟩) Q)
      -∗ wpc c (Prog.lift (.waitDma2 sm (stripeM soff sinb) (slotM off inb) h1 h2) >>= K) Q) := by
  subst hsm
  unfold Landed Flying
  iintro ⟨⟨HF, HR⟩, HW⟩ Hk
  iapply (wp_waitLocal (EC (F := F)) (defs := defs₀ (F := F)) Variants.none (c : Thread nD τ) none (sem := cell b) (srcw := stripeM soff sinb)
    (dstw := slotM off inb) (hsrc := h1) (hdst := h2) (k := K) (Q := Q) () (N := stripeCredit) rfl) $$ [HF HW]
  · isplitl [HF]; · iexact HF
    iexact HW
  iintro ⟨⟨H1, H2⟩, Hs, HW⟩
  iapply Hk
  isplitr [HW]
  · isplitl [Hs]; · iexact Hs
    isplitl [H1]; · iexact H1
    iapply (pointsTo_split_subset (Finset.subset_univ (stripeSet c k))).2
    isplitl [H2]; · iexact H2
    iexact HR
  iexists _; iexact HW

end Cert.KernelIdeal.Run

end
-- ==== Proof.Run.Pieces.lean ====
/-
  The incidence's four pieces: a piece not yet asked for, in flight, or held in the scratch; the transfer that starts a
  piece and the wait that gives it.
-/
module

public import proofs.«01_k».proof.Proof.Run.Ring

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD)

/-- A load of some elements of a buffer, from the elements held. -/
theorem load_on {α : Type} {Q : α → sProp 𝕄} {S : Shape} {e : EltTy} {M : Memref sig .tc .vmem S e} {R : Rect S} {hl : M.view.LoadsAt R.toLoadRect}
    {q : PosShare TreeShare} {T : Finset (Idx (M.view.loc (c : Thread nD τ)))} {X : BufOf (F := F) c M} (v : R.shape.Idx → Elt F e)
    (hS : M.view.setOn R.set ⊆ T) (hv : M.view.readAt (Elt F) R.toLoadRect X = v)
    {k : (R.shape.Idx → Elt F e) → Prog (TpuEff nD τ sig (Elt F) Λ₀ .tc) α} :
    (M.view.loc (c : Thread nD τ) ↦[T]{q} X : sProp 𝕄)
      ⊢ iprop(((M.view.loc (c : Thread nD τ) ↦[T]{q} X) -∗ wpc c (k v) Q)
        -∗ wpc c (Prog.lift (.load M R.toLoadRect hl) >>= k) Q) := by
  subst hv
  exact wp_load (defs := defs₀ (F := F)) Variants.none (c : Thread nD τ) none Set.univ hS

theorem setOn_whole (b : Ref sig .tc) (S : Finset b.ty.shape.Idx) : (Memref.whole b).view.setOn S = S := by
  show S.map (Function.Embedding.refl _) = S
  exact Finset.map_refl

/-! ## One piece -/

/-- The elements of piece `p` of the incidence, in the scratch and in HBM. -/
def pieceIdx (p : ℕ) : Finset S4096x1024.Idx :=
  Finset.univ.filter fun i : S4096x1024.Idx => 1024 * p ≤ (i 0).val ∧ (i 0).val < 1024 * p + 1024
abbrev pieceS (p : ℕ) : Finset (Idx (sInc.view.loc (c : Thread nD τ))) := pieceIdx p
abbrev pieceH (p : ℕ) : Finset (Idx (hInc.view.loc (c : Thread nD τ))) := pieceIdx p

abbrev pieceSM (off : Fin 2 → ℕ) (inb : ∀ a, off a + S1024x1024.size a ≤ S4096x1024.size a) : Memref sig .tc .vmem S1024x1024 .f32 :=
  sInc.slice (Rect.unit (s := S4096x1024) off S1024x1024.size inb) (fun _ => rfl)
abbrev pieceHM (off : Fin 2 → ℕ) (inb : ∀ a, off a + S1024x1024.size a ≤ S4096x1024.size a) : Memref sig .tc .hbm S1024x1024 .f32 :=
  hInc.slice (Rect.unit (s := S4096x1024) off S1024x1024.size inb) (fun _ => rfl)

theorem rect_piece_set (p : ℕ) (off : Fin 2 → ℕ) (h : off = ![1024 * p, 0]) (inb : ∀ a, off a + S1024x1024.size a ≤ S4096x1024.size a) :
    (Rect.unit (s := S4096x1024) off S1024x1024.size inb).set = pieceIdx p := by
  subst h
  ext i
  rw [Rect.mem_set_unit]
  unfold pieceIdx
  simp only [Finset.mem_filter, Finset.mem_univ, true_and]
  constructor
  · intro h
    have := h 0
    simp at this
    omega
  · intro h a
    have h1 := (i 1).isLt
    fin_cases a <;> simp <;> simp at h1 <;> omega

/-- A block of rows inside one piece. -/
theorem rect_rows_sub (p r n : ℕ) (off : Fin 2 → ℕ) (h : off = ![r, 0]) (sz : Fin 2 → ℕ) (h0 : sz 0 = n) (inb : ∀ a, off a + sz a ≤ S4096x1024.size a)
    (h1 : 1024 * p ≤ r) (h2 : r + n ≤ 1024 * p + 1024) : (Rect.unit (s := S4096x1024) off sz inb).set ⊆ pieceIdx p := by
  subst h
  intro i hi
  rw [Rect.mem_set_unit] at hi
  have := hi 0
  unfold pieceIdx
  simp only [Finset.mem_filter, Finset.mem_univ, true_and]
  simp [h0] at this
  omega

theorem piece_write (A : Vec F S4096x1024 .f32) (p : ℕ) (off : Fin 2 → ℕ) (h : off = ![1024 * p, 0])
    (inb : ∀ a, off a + S1024x1024.size a ≤ S4096x1024.size a) (f : Vec F S4096x1024 .f32) :
    ∀ i ∈ pieceS c p, (pieceSM off inb).view.write (Elt F) f ((pieceHM off inb).view.read (Elt F) A) Finset.univ i = A i := by
  intro i hi
  have hi' : i ∈ (pieceSM off inb).view.set := by
    rw [show (pieceSM off inb).view.set = pieceS c p from (View.set_slice_whole _ _).trans (rect_piece_set p off h inb)]; exact hi
  obtain ⟨x, -, rfl⟩ := Finset.mem_map.mp hi'
  exact View.write_emb_of_mem _ _ (M := Finset.univ) (Finset.mem_univ x)

/-! ## A piece's states -/

/-- The cell of piece `p`. -/
def cellI (p : Fin 4) : DmaSem sig := ⟨28 + p.val, by have := p.isLt; show 28 + p.val < 37; omega⟩
abbrev pieceCredit : ℕ := (pieceSM ![0, 0] inb_S4096x1024_S1024x1024_0_0).view.dmaCredit

def PFree (A : Vec F S4096x1024 .f32) (p : Fin 4) : sProp 𝕄 :=
  iprop(semVal ((c : Thread nD τ), SemLoc.dma (cellI p)) 0 ∗ (∃ f, sInc.view.loc (c : Thread nD τ) ↦[pieceS c p]{fullShare} f)
    ∗ (hInc.view.loc (c : Thread nD τ) ↦[pieceH c p]{fullShare} A))

def PHeld (A : Vec F S4096x1024 .f32) (p : Fin 4) : sProp 𝕄 :=
  iprop(semVal ((c : Thread nD τ), SemLoc.dma (cellI p)) 0 ∗ (sInc.view.loc (c : Thread nD τ) ↦[pieceS c p]{fullShare} A)
    ∗ (hInc.view.loc (c : Thread nD τ) ↦[pieceH c p]{fullShare} A))

def PFlying (A : Vec F S4096x1024 .f32) (p : Fin 4) : sProp 𝕄 :=
  Flight (EC (F := F)) (c : Thread nD τ) (SemLoc.dma (cellI p)) () pieceCredit
      iprop((sInc.view.loc (c : Thread nD τ) ↦[pieceS c p]{fullShare} A) ∗ (hInc.view.loc (c : Thread nD τ) ↦[pieceH c p]{fullShare} A))

/-- The transfer of piece `p`. -/
theorem issue_piece {α : Type} {Q : α → sProp 𝕄} (A : Vec F S4096x1024 .f32) (p : Fin 4) (sm : DmaSem sig) (hsm : sm = cellI p)
    (off : Fin 2 → ℕ) (h : off = ![1024 * p.val, 0]) (inb : ∀ a, off a + S1024x1024.size a ≤ S4096x1024.size a)
    (h1 : (pieceHM off inb).view.WordExact) (h2 : (pieceSM off inb).view.WordExact)
    (h3 : DmaTarget.Typed (nD := nD) (Space.hbm) (SemLoc.dma sm) (DmaTarget.here (p := .tc) (pieceSM off inb)))
    (K : PUnit → Prog (TpuEff nD τ sig (Elt F) Λ₀ .tc) α) :
    (PFree c A p : sProp 𝕄) ⊢ iprop((PFlying c A p -∗ wpc c (K ⟨⟩) Q)
      -∗ wpc c (Prog.lift (.enqueueDma (pieceHM off inb) (.here (pieceSM off inb)) (.dma sm) h1 h2 h3) >>= K) Q) := by
  subst hsm
  unfold PFree PFlying
  have e1 : (pieceHM off inb).view.set = pieceH c p.val := (View.set_slice_whole _ _).trans (rect_piece_set p.val off h inb)
  have e2 : (pieceSM off inb).view.set = pieceS c p.val := (View.set_slice_whole _ _).trans (rect_piece_set p.val off h inb)
  have hd := fun fd => wp_dmaLocal (fd := fd) (EC (F := F)) (defs := defs₀ (F := F)) Variants.none (c : Thread nD τ) none (src := pieceHM off inb) (via := .same) (dst := pieceSM off inb)
    (sm := SemLoc.dma (cellI p)) (hsrc := h1) (hdst := h2) (hsem := h3) (k := K) (Q := Q) (Sd := pieceS c p.val) (fs := A)
    (q := fullShare) () pieceCredit rfl (View.dmaCredit_pos _ (by decide)) (by rw [e2])
  rw [e1] at hd
  iintro ⟨Hsem, ⟨%f, Hslot⟩, HA⟩ Hk
  iapply (hd f) $$ [HA Hslot Hsem]
  · isplitl [HA]; · iexact HA
    isplitl [Hslot]; · iexact Hslot
    iexact Hsem
  iintro HF
  iapply Hk
  iapply (Flight_mono (EC (F := F)) (c : Thread nD τ) _) $$ HF
  iintro ⟨H1, H2⟩
  isplitl [H1]
  · rw [← pointsTo_congr (piece_write c A p.val off h inb f)]
    iexact H1
  iexact H2

/-- The wait for piece `p`. -/
theorem wait_piece {α : Type} {Q : α → sProp 𝕄} (A : Vec F S4096x1024 .f32) (p : Fin 4) (sm : DmaSem sig) (hsm : sm = cellI p)
    (off : Fin 2 → ℕ) (inb : ∀ a, off a + S1024x1024.size a ≤ S4096x1024.size a)
    (h1 : (pieceHM off inb).view.WordExact) (h2 : (pieceSM off inb).view.WordExact)
    (K : PUnit → Prog (TpuEff nD τ sig (Elt F) Λ₀ .tc) α) (W : Waits sig Unit) :
    iprop(PFlying c A p ∗ owes (c : Thread nD τ) 0 W : sProp 𝕄)
      ⊢ iprop((iprop(PHeld c A p ∗ ∃ W', owes (c : Thread nD τ) 0 W') -∗ wpc c (K ⟨⟩) Q)
      -∗ wpc c (Prog.lift (.waitDma2 sm (pieceHM off inb) (pieceSM off inb) h1 h2) >>= K) Q) := by
  subst hsm
  unfold PHeld PFlying
  iintro ⟨HF, HW⟩ Hk
  iapply (wp_waitLocal (EC (F := F)) (defs := defs₀ (F := F)) Variants.none (c : Thread nD τ) none (sem := cellI p) (srcw := pieceHM off inb)
    (dstw := pieceSM off inb) (hsrc := h1) (hdst := h2) (k := K) (Q := Q) () (N := pieceCredit) rfl) $$ [HF HW]
  · isplitl [HF]; · iexact HF
    iexact HW
  iintro ⟨⟨H1, H2⟩, Hs, HW⟩
  iapply Hk
  isplitr [HW]
  · isplitl [Hs]; · iexact Hs
    isplitl [H1]; · iexact H1
    iexact H2
  iexists _; iexact HW

end Cert.KernelIdeal.Run

end
-- ==== Proof.Run.Sections.lean ====
/-
  The body as four sections run one after another — the launch point's set-up, the issue of a stripe of the adjacency, the
  first four points' phase and the other points' phase —, each a program over what follows it.
-/
module

public import proofs.«01_k».proof.Proof.Run.Base

@[expose] public section

set_option maxRecDepth 4096

noncomputable section

namespace Cert.KernelIdeal.Run

open Cert.KernelIdeal Cert.KernelIdeal.Gen
open Idealize.ShloMosaic Idealize.ShloMosaic.TcCoe Idealize.ShloMosaic.Tactic
open Idealize.SL Idealize.SL.Sem

variable {F : FTy → Type} [FloatOps F]

/-- The memrefs of the staged windows. -/
structure Win where
  arg1 : Memref sig .tc .vmem S1x1024 .f32
  harg1 : arg1.IsWhole
  arg2 : Memref sig .tc .vmem S2x1024x128 .f32
  harg2 : arg2.IsWhole
  arg5 : Memref sig .tc .vmem S64x128 .f32
  harg5 : arg5.IsWhole
  arg6 : Memref sig .tc .vmem S1x64 .f32
  harg6 : arg6.IsWhole
  arg7 : Memref sig .tc .vmem S64x128 .f32
  harg7 : arg7.IsWhole
  arg8 : Memref sig .tc .vmem S1x64 .f32
  harg8 : arg8.IsWhole
  arg9 : Memref sig .tc .vmem S64x64 .f32
  harg9 : arg9.IsWhole
  arg10 : Memref sig .tc .vmem S64x64 .f32
  harg10 : arg10.IsWhole
  arg11 : Memref sig .tc .vmem S1x64 .f32
  harg11 : arg11.IsWhole
  arg12 : Memref sig .tc .vmem S64x64 .f32
  harg12 : arg12.IsWhole
  arg13 : Memref sig .tc .vmem S1x64 .f32
  harg13 : arg13.IsWhole
  arg14 : Memref sig .tc .vmem S64x64 .f32
  harg14 : arg14.IsWhole
  arg15 : Memref sig .tc .vmem S1x64 .f32
  harg15 : arg15.IsWhole
  arg16 : Memref sig .tc .vmem S16x64 .f32
  harg16 : arg16.IsWhole
  arg17 : Memref sig .tc .vmem S1x16 .f32
  harg17 : arg17.IsWhole
  arg18 : Memref sig .tc .vmem S1x16 .f32
  harg18 : arg18.IsWhole
  arg19 : Memref sig .tc .vmem S1x1 .f32
  harg19 : arg19.IsWhole
  arg20 : Memref sig .tc .vmem S1x64 .f32
  harg20 : arg20.IsWhole
  arg21 : Memref sig .tc .vmem S1x64 .f32
  harg21 : arg21.IsWhole
  arg22 : Memref sig .tc .vmem S64x128 .f32
  harg22 : arg22.IsWhole
  arg23 : Memref sig .tc .vmem S1x64 .f32
  harg23 : arg23.IsWhole
  arg24 : Memref sig .tc .vmem S1x64 .f32
  harg24 : arg24.IsWhole
  arg25 : Memref sig .tc .vmem S1x64 .f32
  harg25 : arg25.IsWhole
  arg26 : Memref sig .tc .vmem S2x64x256 .f32
  harg26 : arg26.IsWhole
  arg27 : Memref sig .tc .vmem S1x1 .f32
  harg27 : arg27.IsWhole

/-- A program of the body that ends with no result. -/
abbrev Body (F : FTy → Type) [FloatOps F] : Type 1 := Prog (TpuEff nD τ sig (Elt F) Λ₀ .tc) PUnit
/-- The word of the test that point `i` is point `n`. -/
abbrev isPt (i : grid0.Coords) (n : BitVec 32) : BitVec 1 := Scalar.cmpi .ne (Scalar.extui (Scalar.cmpi .eq (BitVec.ofNat 32 (i 0).val) n) : BitVec 32) 0#32

def secInit (i : grid0.Coords) (w : Win) (k : Body F) : Body F :=
  if isPt i 0#32 = 1#1 then do
    let v36 : Vec F S64x128 .f32 ← k0_part1 i w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8
    let v37 : Vec F S64x128 .f32 ← Prog.lift (.load sNw (Rect.unit (s := S128x256) ![0, 0] S64x128.size inb_S128x256_S64x128_0_0).toLoadRect (View.loadsAt_vmem h_S64x128))
    Prog.lift (.store sNw (Rect.unit (s := S128x256) ![0, 0] S64x128.size inb_S128x256_S64x128_0_0) (k0_pay1 v36) Finset.univ (View.stores_vmem_bits_univ h_S64x128 rfl) (.inl rfl))
    let v40 : Vec F S64x128 .f32 ← Prog.lift (.load w.arg5 (Rect.unit (s := S64x128) ![0, 0] S64x128.size inb_S64x128_S64x128_0_0).toLoadRect (View.loadsAt_vmem h_S64x128))
    let v41 : Vec F S64x128 .f32 ← Prog.lift (.load sNw (Rect.unit (s := S128x256) ![64, 128] S64x128.size inb_S128x256_S64x128_64_128).toLoadRect (View.loadsAt_vmem h_S64x128))
    Prog.lift (.store sNw (Rect.unit (s := S128x256) ![64, 128] S64x128.size inb_S128x256_S64x128_64_128) (k0_pay2 v40) Finset.univ (View.stores_vmem_bits_univ h_S64x128 rfl) (.inl rfl))
    let v44 : Vec F S64x128 .f32 ← Prog.lift (.load w.arg7 (Rect.unit (s := S64x128) ![0, 0] S64x128.size inb_S64x128_S64x128_0_0).toLoadRect (View.loadsAt_vmem h_S64x128))
    let v45 : Vec F S64x128 .f32 ← Prog.lift (.load sCw (Rect.unit (s := S128x256) ![0, 0] S64x128.size inb_S128x256_S64x128_0_0).toLoadRect (View.loadsAt_vmem h_S64x128))
    Prog.lift (.store sCw (Rect.unit (s := S128x256) ![0, 0] S64x128.size inb_S128x256_S64x128_0_0) (k0_pay3 v44) Finset.univ (View.stores_vmem_bits_univ h_S64x128 rfl) (.inl rfl))
    let v48 : Vec F S64x128 .f32 ← Prog.lift (.load w.arg7 (Rect.unit (s := S64x128) ![0, 0] S64x128.size inb_S64x128_S64x128_0_0).toLoadRect (View.loadsAt_vmem h_S64x128))
    let v49 : Vec F S64x128 .f32 ← Prog.lift (.load sCw (Rect.unit (s := S128x256) ![64, 128] S64x128.size inb_S128x256_S64x128_64_128).toLoadRect (View.loadsAt_vmem h_S64x128))
    Prog.lift (.store sCw (Rect.unit (s := S128x256) ![64, 128] S64x128.size inb_S128x256_S64x128_64_128) (k0_pay4 v48) Finset.univ (View.stores_vmem_bits_univ h_S64x128 rfl) (.inl rfl))
    k
  else k

def issue0 (i : grid0.Coords) (k0_h2 : k0_cond2 i = 1#1) (k : Body F) : Body F :=
  if k0_h3 : k0_cond3 i = 1#1 then do
    let v33 : DmaSems sig S1 := cc0_scratch8.slice (Rect.unit (s := S5) ![0] S1.size inb_S5_S1_0)
    let v34 : DmaSems sig S_ := v33.squeeze S_ squeezes_S1_S_
    let v35 : Memref sig .tc .vmem S1x256x4096 .f32 := sRing.slice (Rect.unit (s := S5x256x4096) ![0, 0, 0] S1x256x4096.size inb_S5x256x4096_S1x256x4096_0_0_0) (fun _ => rfl)
    let v36 : Memref sig .tc .vmem S256x4096 .f32 := v35.squeeze S256x4096 squeezes_S1x256x4096_S256x4096
    let v37 : Memref sig .tc .hbm S256x4096 .f32 := hAdj.slice (Rect.unit (s := S4096x4096) (k0_off1 i) S256x4096.size (k0_off1_inb i k0_h2 k0_h3)) (fun _ => rfl)
    Prog.lift (.enqueueDma v37 (.here v36) (.dma v34.sem) (View.wordExact_bits rfl) ((View.wordExact_bits rfl).reshape _ _) ⟨Or.inl rfl, trivial⟩)
    k
  else k

def issue1 (i : grid0.Coords) (k0_h2 : k0_cond2 i = 1#1) (k : Body F) : Body F :=
  if k0_h4 : k0_cond4 i = 1#1 then do
    let v33 : DmaSems sig S1 := cc0_scratch8.slice (Rect.unit (s := S5) ![1] S1.size inb_S5_S1_1)
    let v34 : DmaSems sig S_ := v33.squeeze S_ squeezes_S1_S_
    let v35 : Memref sig .tc .vmem S1x256x4096 .f32 := sRing.slice (Rect.unit (s := S5x256x4096) ![1, 0, 0] S1x256x4096.size inb_S5x256x4096_S1x256x4096_1_0_0) (fun _ => rfl)
    let v36 : Memref sig .tc .vmem S256x4096 .f32 := v35.squeeze S256x4096 squeezes_S1x256x4096_S256x4096
    let v37 : Memref sig .tc .hbm S256x4096 .f32 := hAdj.slice (Rect.unit (s := S4096x4096) (k0_off2 i) S256x4096.size (k0_off2_inb i k0_h2 k0_h4)) (fun _ => rfl)
    Prog.lift (.enqueueDma v37 (.here v36) (.dma v34.sem) (View.wordExact_bits rfl) ((View.wordExact_bits rfl).reshape _ _) ⟨Or.inl rfl, trivial⟩)
    k
  else k

def issue2 (i : grid0.Coords) (k0_h2 : k0_cond2 i = 1#1) (k : Body F) : Body F :=
  if k0_h5 : k0_cond5 i = 1#1 then do
    let v33 : DmaSems sig S1 := cc0_scratch8.slice (Rect.unit (s := S5) ![2] S1.size inb_S5_S1_2)
    let v34 : DmaSems sig S_ := v33.squeeze S_ squeezes_S1_S_
    let v35 : Memref sig .tc .vmem S1x256x4096 .f32 := sRing.slice (Rect.unit (s := S5x256x4096) ![2, 0, 0] S1x256x4096.size inb_S5x256x4096_S1x256x4096_2_0_0) (fun _ => rfl)
    let v36 : Memref sig .tc .vmem S256x4096 .f32 := v35.squeeze S256x4096 squeezes_S1x256x4096_S256x4096
    let v37 : Memref sig .tc .hbm S256x4096 .f32 := hAdj.slice (Rect.unit (s := S4096x4096) (k0_off3 i) S256x4096.size (k0_off3_inb i k0_h2 k0_h5)) (fun _ => rfl)
    Prog.lift (.enqueueDma v37 (.here v36) (.dma v34.sem) (View.wordExact_bits rfl) ((View.wordExact_bits rfl).reshape _ _) ⟨Or.inl rfl, trivial⟩)
    k
  else k

def issue3 (i : grid0.Coords) (k0_h2 : k0_cond2 i = 1#1) (k : Body F) : Body F :=
  if k0_h6 : k0_cond6 i = 1#1 then do
    let v33 : DmaSems sig S1 := cc0_scratch8.slice (Rect.unit (s := S5) ![3] S1.size inb_S5_S1_3)
    let v34 : DmaSems sig S_ := v33.squeeze S_ squeezes_S1_S_
    let v35 : Memref sig .tc .vmem S1x256x4096 .f32 := sRing.slice (Rect.unit (s := S5x256x4096) ![3, 0, 0] S1x256x4096.size inb_S5x256x4096_S1x256x4096_3_0_0) (fun _ => rfl)
    let v36 : Memref sig .tc .vmem S256x4096 .f32 := v35.squeeze S256x4096 squeezes_S1x256x4096_S256x4096
    let v37 : Memref sig .tc .hbm S256x4096 .f32 := hAdj.slice (Rect.unit (s := S4096x4096) (k0_off4 i) S256x4096.size (k0_off4_inb i k0_h2 k0_h6)) (fun _ => rfl)
    Prog.lift (.enqueueDma v37 (.here v36) (.dma v34.sem) (View.wordExact_bits rfl) ((View.wordExact_bits rfl).reshape _ _) ⟨Or.inl rfl, trivial⟩)
    k
  else k

def issue4 (i : grid0.Coords) (k0_h2 : k0_cond2 i = 1#1) (k : Body F) : Body F :=
  if k0_h7 : k0_cond7 i = 1#1 then do
    let v33 : DmaSems sig S1 := cc0_scratch8.slice (Rect.unit (s := S5) ![4] S1.size inb_S5_S1_4)
    let v34 : DmaSems sig S_ := v33.squeeze S_ squeezes_S1_S_
    let v35 : Memref sig .tc .vmem S1x256x4096 .f32 := sRing.slice (Rect.unit (s := S5x256x4096) ![4, 0, 0] S1x256x4096.size inb_S5x256x4096_S1x256x4096_4_0_0) (fun _ => rfl)
    let v36 : Memref sig .tc .vmem S256x4096 .f32 := v35.squeeze S256x4096 squeezes_S1x256x4096_S256x4096
    let v37 : Memref sig .tc .hbm S256x4096 .f32 := hAdj.slice (Rect.unit (s := S4096x4096) (k0_off5 i) S256x4096.size (k0_off5_inb i k0_h2 k0_h7)) (fun _ => rfl)
    Prog.lift (.enqueueDma v37 (.here v36) (.dma v34.sem) (View.wordExact_bits rfl) ((View.wordExact_bits rfl).reshape _ _) ⟨Or.inl rfl, trivial⟩)
    k
  else k

def secIssue (i : grid0.Coords) (k : Body F) : Body F :=
  if h : k0_cond2 i = 1#1 then issue0 i h (issue1 i h (issue2 i h (issue3 i h (issue4 i h k)))) else k

def accFirst (i : grid0.Coords) (w : Win) (v34 : FVec F S1024x256 .f32) (v50 : Vec F S128x256 .f32) (v54 : Vec F S1024x1024 .f32) (k : Body F) : Body F :=
  if isPt i 0#32 = 1#1 then do
    let v65 : Vec F S1024x128 .f32 ← Prog.lift (.load sAcc (Rect.unit (s := S1024x128) ![0, 0] S1024x128.size inb_S1024x128_S1024x128_0_0).toLoadRect (View.loadsAt_vmem h_S1024x128))
    Prog.lift (.store sAcc (Rect.unit (s := S1024x128) ![0, 0] S1024x128.size inb_S1024x128_S1024x128_0_0) (k0_pay7 v34 v50 v54) Finset.univ (View.stores_vmem_bits_univ h_S1024x128 rfl) (.inl rfl))
    k
  else k

abbrev isLater (i : grid0.Coords) : BitVec 1 := Scalar.cmpi .ne (Scalar.extui (Scalar.cmpi .sgt (BitVec.ofNat 32 (i 0).val) 0#32) : BitVec 32) 0#32
def accMore (i : grid0.Coords) (w : Win) (v34 : FVec F S1024x256 .f32) (v50 : Vec F S128x256 .f32) (v54 : Vec F S1024x1024 .f32) (k : Body F) : Body F :=
  if isLater i = 1#1 then do
    let v65 : Vec F S1024x128 .f32 ← Prog.lift (.load sAcc (Rect.unit (s := S1024x128) ![0, 0] S1024x128.size inb_S1024x128_S1024x128_0_0).toLoadRect (View.loadsAt_vmem h_S1024x128))
    let v67 : Vec F S1024x128 .f32 ← Prog.lift (.load sAcc (Rect.unit (s := S1024x128) ![0, 0] S1024x128.size inb_S1024x128_S1024x128_0_0).toLoadRect (View.loadsAt_vmem h_S1024x128))
    Prog.lift (.store sAcc (Rect.unit (s := S1024x128) ![0, 0] S1024x128.size inb_S1024x128_S1024x128_0_0) (k0_pay8 v34 v50 v54 v65) Finset.univ (View.stores_vmem_bits_univ h_S1024x128 rfl) (.inl rfl))
    k
  else k

def cells (i : grid0.Coords) (w : Win) (k : Body F) : Body F :=
  if k0_h15 : k0_cond15 i = 1#1 then do
    let v102 : FVec F S2048x64 .f32 ← k0_part2 i w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8
    let v103 : Vec F S64x64 .f32 ← Prog.lift (.load w.arg9 (Rect.unit (s := S64x64) ![0, 0] S64x64.size inb_S64x64_S64x64_0_0).toLoadRect (View.loadsAt_vmem h_S64x64))
    let v108 : Vec F S1024x128 .f32 ← Prog.lift (.load sPc (Rect.unit (s := S1024x128) ![0, 0] S1024x128.size inb_S1024x128_S1024x128_0_0).toLoadRect (View.loadsAt_vmem h_S1024x128))
    Prog.lift (.store sPc (Rect.unit (s := S1024x128) ![0, 0] S1024x128.size inb_S1024x128_S1024x128_0_0) (k0_pay9 v102 v103) Finset.univ (View.stores_vmem_bits_univ h_S1024x128 rfl) (.inl rfl))
    let v124 : Vec F S1x1 .f32 ← Prog.lift (.load w.arg27 (Rect.unit (s := S1x1) ![0, 0] S1x1.size inb_S1x1_S1x1_0_0).toLoadRect (View.loadsAt_vmem h_S1x1))
    Prog.lift (.store w.arg27 (Rect.unit (s := S1x1) ![0, 0] S1x1.size inb_S1x1_S1x1_0_0) (k0_pay10 v102) Finset.univ (View.stores_vmem_bits_univ h_S1x1 rfl) (.inl rfl))
    k
  else k

def secA (i : grid0.Coords) (w : Win) (k : Body F) : Body F :=
  if k0_h8 : k0_cond8 i = 1#1 then do
    let ⟨v34, v44⟩ : Σ' (v34 : FVec F S1024x256 .f32), FVec F S1024x128 .f32 ← k0_part3 i w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8 (BitVec.ofNat 32 (i 0).val)
    let v47 : Vec F S1024x128 .f32 ← Prog.lift (.load sH0 (Rect.unit (s := S4096x128) (k0_off6 i) S1024x128.size (k0_off6_inb i k0_h8)).toLoadRect (View.loadsAt_vmem h_S1024x128))
    Prog.lift (.store sH0 (Rect.unit (s := S4096x128) (k0_off6 i) S1024x128.size (k0_off6_inb i k0_h8)) (k0_pay5 v44) Finset.univ (View.stores_vmem_bits_univ h_S1024x128 rfl) (.inl rfl))
    let v50 : Vec F S128x256 .f32 ← Prog.lift (.load sCw (Rect.unit (s := S128x256) ![0, 0] S128x256.size inb_S128x256_S128x256_0_0).toLoadRect (View.loadsAt_vmem h_S128x256))
    let v54 : Vec F S1024x1024 .f32 ← Prog.lift (.load sInc (Rect.unit (s := S4096x1024) (k0_off7 i) S1024x1024.size (k0_off7_inb i k0_h8)).toLoadRect (View.loadsAt_vmem h_S1024x1024))
    accFirst i w v34 v50 v54 (accMore i w v34 v50 v54 (cells i w k))
  else k

def secB (i : grid0.Coords) (w : Win) (k : Body F) : Body F :=
  if k0_h16 : k0_cond16 i = 1#1 then do
    let v164 : FVec F S64x256 .f32 ← k0_part7 i w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8 (BitVec.ofNat 32 (i 0).val) k0_h16
    Prog.lift (.store w.arg26 (Rect.unit (s := S2x64x256) ![1, 0, 0] S1x64x256.size inb_S2x64x256_S1x64x256_1_0_0) (k0_pay11 v164) Finset.univ (View.stores_vmem_bits_univ h_S1x64x256 rfl) (.inl rfl))
    k
  else k

theorem body_eq (i : grid0.Coords) (w : Win) : cc0__fused (F := F) i w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8 = secInit i w (secIssue i (secA i w (secB i w (pure ⟨⟩)))) := rfl

def incWait0 {α : Type} (i : grid0.Coords) (k : Prog (TpuEff nD τ sig (Elt F) Λ₀ .tc) α) : Prog (TpuEff nD τ sig (Elt F) Λ₀ .tc) α :=
  if isPt i 0#32 = 1#1 then do
    let v65 : DmaSems sig S1 := cc0_scratch7.slice (Rect.unit (s := S4) ![0] S1.size inb_S4_S1_0)
    let v66 : DmaSems sig S_ := v65.squeeze S_ squeezes_S1_S_
    let v67 : Memref sig .tc .vmem S1024x1024 .f32 := sInc.slice (Rect.unit (s := S4096x1024) ![0, 0] S1024x1024.size inb_S4096x1024_S1024x1024_0_0) (fun _ => rfl)
    let v68 : Memref sig .tc .hbm S1024x1024 .f32 := hInc.slice (Rect.unit (s := S4096x1024) ![0, 0] S1024x1024.size inb_S4096x1024_S1024x1024_0_0) (fun _ => rfl)
    Prog.lift (.waitDma2 v66.sem v68 v67 (View.wordExact_bits rfl) (View.wordExact_bits rfl))
    k
  else k

def incWait1 {α : Type} (i : grid0.Coords) (k : Prog (TpuEff nD τ sig (Elt F) Λ₀ .tc) α) : Prog (TpuEff nD τ sig (Elt F) Λ₀ .tc) α :=
  if isPt i 1#32 = 1#1 then do
    let v65 : DmaSems sig S1 := cc0_scratch7.slice (Rect.unit (s := S4) ![1] S1.size inb_S4_S1_1)
    let v66 : DmaSems sig S_ := v65.squeeze S_ squeezes_S1_S_
    let v67 : Memref sig .tc .vmem S1024x1024 .f32 := sInc.slice (Rect.unit (s := S4096x1024) ![1024, 0] S1024x1024.size inb_S4096x1024_S1024x1024_1024_0) (fun _ => rfl)
    let v68 : Memref sig .tc .hbm S1024x1024 .f32 := hInc.slice (Rect.unit (s := S4096x1024) ![1024, 0] S1024x1024.size inb_S4096x1024_S1024x1024_1024_0) (fun _ => rfl)
    Prog.lift (.waitDma2 v66.sem v68 v67 (View.wordExact_bits rfl) (View.wordExact_bits rfl))
    k
  else k

def incWait2 {α : Type} (i : grid0.Coords) (k : Prog (TpuEff nD τ sig (Elt F) Λ₀ .tc) α) : Prog (TpuEff nD τ sig (Elt F) Λ₀ .tc) α :=
  if isPt i 2#32 = 1#1 then do
    let v65 : DmaSems sig S1 := cc0_scratch7.slice (Rect.unit (s := S4) ![2] S1.size inb_S4_S1_2)
    let v66 : DmaSems sig S_ := v65.squeeze S_ squeezes_S1_S_
    let v67 : Memref sig .tc .vmem S1024x1024 .f32 := sInc.slice (Rect.unit (s := S4096x1024) ![2048, 0] S1024x1024.size inb_S4096x1024_S1024x1024_2048_0) (fun _ => rfl)
    let v68 : Memref sig .tc .hbm S1024x1024 .f32 := hInc.slice (Rect.unit (s := S4096x1024) ![2048, 0] S1024x1024.size inb_S4096x1024_S1024x1024_2048_0) (fun _ => rfl)
    Prog.lift (.waitDma2 v66.sem v68 v67 (View.wordExact_bits rfl) (View.wordExact_bits rfl))
    k
  else k

def incWait3 {α : Type} (i : grid0.Coords) (k : Prog (TpuEff nD τ sig (Elt F) Λ₀ .tc) α) : Prog (TpuEff nD τ sig (Elt F) Λ₀ .tc) α :=
  if isPt i 3#32 = 1#1 then do
    let v65 : DmaSems sig S1 := cc0_scratch7.slice (Rect.unit (s := S4) ![3] S1.size inb_S4_S1_3)
    let v66 : DmaSems sig S_ := v65.squeeze S_ squeezes_S1_S_
    let v67 : Memref sig .tc .vmem S1024x1024 .f32 := sInc.slice (Rect.unit (s := S4096x1024) ![3072, 0] S1024x1024.size inb_S4096x1024_S1024x1024_3072_0) (fun _ => rfl)
    let v68 : Memref sig .tc .hbm S1024x1024 .f32 := hInc.slice (Rect.unit (s := S4096x1024) ![3072, 0] S1024x1024.size inb_S4096x1024_S1024x1024_3072_0) (fun _ => rfl)
    Prog.lift (.waitDma2 v66.sem v68 v67 (View.wordExact_bits rfl) (View.wordExact_bits rfl))
    k
  else k

def loadsA (w : Win) : Prog (TpuEff nD τ sig (Elt F) Λ₀ .tc) (Σ' (v34 : FVec F S1024x256 .f32), FVec F S1024x128 .f32) := do
  let v24 : Vec F S1x1024 .f32 ← Prog.lift (.load w.arg1 (Rect.unit (s := S1x1024) ![0, 0] S1x1024.size inb_S1x1024_S1x1024_0_0).toLoadRect (View.loadsAt_vmem h_S1x1024))
  let v27 : Vec F S1x1024x128 .f32 ← Prog.lift (.load w.arg2 (Rect.unit (s := S2x1024x128) ![0, 0, 0] S1x1024x128.size inb_S2x1024x128_S1x1024x128_0_0_0).toLoadRect (View.loadsAt_vmem h_S1x1024x128))
  let v29 : Vec F S1x1024x128 .f32 ← Prog.lift (.load w.arg2 (Rect.unit (s := S2x1024x128) ![1, 0, 0] S1x1024x128.size inb_S2x1024x128_S1x1024x128_1_0_0).toLoadRect (View.loadsAt_vmem h_S1x1024x128))
  let v35 : Vec F S1x64 .f32 ← Prog.lift (.load w.arg6 (Rect.unit (s := S1x64) ![0, 0] S1x64.size inb_S1x64_S1x64_0_0).toLoadRect (View.loadsAt_vmem h_S1x64))
  let v37 : Vec F S1x64 .f32 ← Prog.lift (.load w.arg6 (Rect.unit (s := S1x64) ![0, 0] S1x64.size inb_S1x64_S1x64_0_0).toLoadRect (View.loadsAt_vmem h_S1x64))
  let v40 : Vec F S128x256 .f32 ← Prog.lift (.load sNw (Rect.unit (s := S128x256) ![0, 0] S128x256.size inb_S128x256_S128x256_0_0).toLoadRect (View.loadsAt_vmem h_S128x256))
  pure ⟨k0_pay15 v24 v27 v29, k0_pay16 v24 v27 v29 v35 v37 v40⟩

theorem part3_eq (i : grid0.Coords) (w : Win) : k0_part3 (F := F) i w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8 (BitVec.ofNat 32 (i 0).val) = incWait0 i (incWait1 i (incWait2 i (incWait3 i (loadsA w)))) := rfl

def adjWait0 {α : Type} (i : grid0.Coords) (k0_h16 : k0_cond16 i = 1#1) (k : Prog (TpuEff nD τ sig (Elt F) Λ₀ .tc) α) : Prog (TpuEff nD τ sig (Elt F) Λ₀ .tc) α :=
  if k0_h17 : k0_cond17 i = 1#1 then do
    let v169 : DmaSems sig S1 := cc0_scratch8.slice (Rect.unit (s := S5) ![0] S1.size inb_S5_S1_0)
    let v170 : DmaSems sig S_ := v169.squeeze S_ squeezes_S1_S_
    let v171 : Memref sig .tc .vmem S1x256x4096 .f32 := sRing.slice (Rect.unit (s := S5x256x4096) ![0, 0, 0] S1x256x4096.size inb_S5x256x4096_S1x256x4096_0_0_0) (fun _ => rfl)
    let v172 : Memref sig .tc .vmem S256x4096 .f32 := v171.squeeze S256x4096 squeezes_S1x256x4096_S256x4096
    let v173 : Memref sig .tc .hbm S256x4096 .f32 := hAdj.slice (Rect.unit (s := S4096x4096) (k0_off8 i) S256x4096.size (k0_off8_inb i k0_h16 k0_h17)) (fun _ => rfl)
    Prog.lift (.waitDma2 v170.sem v173 v172 (View.wordExact_bits rfl) ((View.wordExact_bits rfl).reshape _ _))
    k
  else k

def adjWait1 {α : Type} (i : grid0.Coords) (k0_h16 : k0_cond16 i = 1#1) (k : Prog (TpuEff nD τ sig (Elt F) Λ₀ .tc) α) : Prog (TpuEff nD τ sig (Elt F) Λ₀ .tc) α :=
  if k0_h18 : k0_cond18 i = 1#1 then do
    let v169 : DmaSems sig S1 := cc0_scratch8.slice (Rect.unit (s := S5) ![1] S1.size inb_S5_S1_1)
    let v170 : DmaSems sig S_ := v169.squeeze S_ squeezes_S1_S_
    let v171 : Memref sig .tc .vmem S1x256x4096 .f32 := sRing.slice (Rect.unit (s := S5x256x4096) ![1, 0, 0] S1x256x4096.size inb_S5x256x4096_S1x256x4096_1_0_0) (fun _ => rfl)
    let v172 : Memref sig .tc .vmem S256x4096 .f32 := v171.squeeze S256x4096 squeezes_S1x256x4096_S256x4096
    let v173 : Memref sig .tc .hbm S256x4096 .f32 := hAdj.slice (Rect.unit (s := S4096x4096) (k0_off9 i) S256x4096.size (k0_off9_inb i k0_h16 k0_h18)) (fun _ => rfl)
    Prog.lift (.waitDma2 v170.sem v173 v172 (View.wordExact_bits rfl) ((View.wordExact_bits rfl).reshape _ _))
    k
  else k

def adjWait2 {α : Type} (i : grid0.Coords) (k0_h16 : k0_cond16 i = 1#1) (k : Prog (TpuEff nD τ sig (Elt F) Λ₀ .tc) α) : Prog (TpuEff nD τ sig (Elt F) Λ₀ .tc) α :=
  if k0_h19 : k0_cond19 i = 1#1 then do
    let v169 : DmaSems sig S1 := cc0_scratch8.slice (Rect.unit (s := S5) ![2] S1.size inb_S5_S1_2)
    let v170 : DmaSems sig S_ := v169.squeeze S_ squeezes_S1_S_
    let v171 : Memref sig .tc .vmem S1x256x4096 .f32 := sRing.slice (Rect.unit (s := S5x256x4096) ![2, 0, 0] S1x256x4096.size inb_S5x256x4096_S1x256x4096_2_0_0) (fun _ => rfl)
    let v172 : Memref sig .tc .vmem S256x4096 .f32 := v171.squeeze S256x4096 squeezes_S1x256x4096_S256x4096
    let v173 : Memref sig .tc .hbm S256x4096 .f32 := hAdj.slice (Rect.unit (s := S4096x4096) (k0_off10 i) S256x4096.size (k0_off10_inb i k0_h16 k0_h19)) (fun _ => rfl)
    Prog.lift (.waitDma2 v170.sem v173 v172 (View.wordExact_bits rfl) ((View.wordExact_bits rfl).reshape _ _))
    k
  else k

def adjWait3 {α : Type} (i : grid0.Coords) (k0_h16 : k0_cond16 i = 1#1) (k : Prog (TpuEff nD τ sig (Elt F) Λ₀ .tc) α) : Prog (TpuEff nD τ sig (Elt F) Λ₀ .tc) α :=
  if k0_h20 : k0_cond20 i = 1#1 then do
    let v169 : DmaSems sig S1 := cc0_scratch8.slice (Rect.unit (s := S5) ![3] S1.size inb_S5_S1_3)
    let v170 : DmaSems sig S_ := v169.squeeze S_ squeezes_S1_S_
    let v171 : Memref sig .tc .vmem S1x256x4096 .f32 := sRing.slice (Rect.unit (s := S5x256x4096) ![3, 0, 0] S1x256x4096.size inb_S5x256x4096_S1x256x4096_3_0_0) (fun _ => rfl)
    let v172 : Memref sig .tc .vmem S256x4096 .f32 := v171.squeeze S256x4096 squeezes_S1x256x4096_S256x4096
    let v173 : Memref sig .tc .hbm S256x4096 .f32 := hAdj.slice (Rect.unit (s := S4096x4096) (k0_off11 i) S256x4096.size (k0_off11_inb i k0_h16 k0_h20)) (fun _ => rfl)
    Prog.lift (.waitDma2 v170.sem v173 v172 (View.wordExact_bits rfl) ((View.wordExact_bits rfl).reshape _ _))
    k
  else k

def adjWait4 {α : Type} (i : grid0.Coords) (k0_h16 : k0_cond16 i = 1#1) (k : Prog (TpuEff nD τ sig (Elt F) Λ₀ .tc) α) : Prog (TpuEff nD τ sig (Elt F) Λ₀ .tc) α :=
  if k0_h21 : k0_cond21 i = 1#1 then do
    let v169 : DmaSems sig S1 := cc0_scratch8.slice (Rect.unit (s := S5) ![4] S1.size inb_S5_S1_4)
    let v170 : DmaSems sig S_ := v169.squeeze S_ squeezes_S1_S_
    let v171 : Memref sig .tc .vmem S1x256x4096 .f32 := sRing.slice (Rect.unit (s := S5x256x4096) ![4, 0, 0] S1x256x4096.size inb_S5x256x4096_S1x256x4096_4_0_0) (fun _ => rfl)
    let v172 : Memref sig .tc .vmem S256x4096 .f32 := v171.squeeze S256x4096 squeezes_S1x256x4096_S256x4096
    let v173 : Memref sig .tc .hbm S256x4096 .f32 := hAdj.slice (Rect.unit (s := S4096x4096) (k0_off12 i) S256x4096.size (k0_off12_inb i k0_h16 k0_h21)) (fun _ => rfl)
    Prog.lift (.waitDma2 v170.sem v173 v172 (View.wordExact_bits rfl) ((View.wordExact_bits rfl).reshape _ _))
    k
  else k

def loadsB (i : grid0.Coords) (w : Win) (k0_h16 : k0_cond16 i = 1#1) : Prog (TpuEff nD τ sig (Elt F) Λ₀ .tc) (Σ' (v38 : FVec F S256x128 .f32), Vec F S256x1024 .f32) := do
  let v35 : Vec F S1x256x4096 .f32 ← Prog.lift (.load sRing (Rect.unit (s := S5x256x4096) (k0_off13 i) S1x256x4096.size (k0_off13_inb i k0_h16)).toLoadRect (View.loadsAt_vmem h_S1x256x4096))
  let v37 : Vec F S4096x128 .f32 ← Prog.lift (.load sH0 (Rect.unit (s := S4096x128) ![0, 0] S4096x128.size inb_S4096x128_S4096x128_0_0).toLoadRect (View.loadsAt_vmem h_S4096x128))
  let v41 : Vec F S256x1024 .f32 ← Prog.lift (.load sInc (Rect.unit (s := S4096x1024) (k0_off14 i) S256x1024.size (k0_off14_inb i k0_h16)).toLoadRect (View.loadsAt_vmem h_S256x1024))
  pure ⟨k0_pay17 v35 v37, v41⟩

theorem part4_eq (i : grid0.Coords) (w : Win) (h : k0_cond16 i = 1#1) : k0_part4 (F := F) i w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8 (BitVec.ofNat 32 (i 0).val) h = adjWait0 i h (adjWait1 i h (adjWait2 i h (adjWait3 i h (adjWait4 i h (loadsB i w h))))) := rfl

end Cert.KernelIdeal.Run

end
-- ==== Proof.Run.State.lean ====
/-
  The ring's and the pieces' state at each grid point, the kernel's conditions and offsets in closed form, and the sections
  that issue and wait.
-/
module

public import proofs.«01_k».proof.Proof.Run.Pieces
public import proofs.«01_k».proof.Proof.Run.Sections

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD)

/-! ## The kernel's conditions and offsets -/

theorem isPt0 : ∀ t : Fin cfg0.N, isPt (grid0.coords t) 0#32 = 1#1 ↔ t.val = 0 := by decide
theorem isPt1 : ∀ t : Fin cfg0.N, isPt (grid0.coords t) 1#32 = 1#1 ↔ t.val = 1 := by decide
theorem isPt2 : ∀ t : Fin cfg0.N, isPt (grid0.coords t) 2#32 = 1#1 ↔ t.val = 2 := by decide
theorem isPt3 : ∀ t : Fin cfg0.N, isPt (grid0.coords t) 3#32 = 1#1 ↔ t.val = 3 := by decide
theorem isLater_iff : ∀ t : Fin cfg0.N, isLater (grid0.coords t) = 1#1 ↔ t.val ≠ 0 := by decide
theorem cond2_iff : ∀ t : Fin cfg0.N, k0_cond2 (grid0.coords t) = 1#1 ↔ t.val < 16 := by decide
theorem cond3_iff : ∀ t : Fin cfg0.N, k0_cond3 (grid0.coords t) = 1#1 ↔ t.val % 5 = 0 := by decide
theorem cond4_iff : ∀ t : Fin cfg0.N, k0_cond4 (grid0.coords t) = 1#1 ↔ t.val % 5 = 1 := by decide
theorem cond5_iff : ∀ t : Fin cfg0.N, k0_cond5 (grid0.coords t) = 1#1 ↔ t.val % 5 = 2 := by decide
theorem cond6_iff : ∀ t : Fin cfg0.N, k0_cond6 (grid0.coords t) = 1#1 ↔ t.val % 5 = 3 := by decide
theorem cond7_iff : ∀ t : Fin cfg0.N, k0_cond7 (grid0.coords t) = 1#1 ↔ t.val % 5 = 4 := by decide
theorem cond8_iff : ∀ t : Fin cfg0.N, k0_cond8 (grid0.coords t) = 1#1 ↔ t.val < 4 := by decide
theorem cond15_iff : ∀ t : Fin cfg0.N, k0_cond15 (grid0.coords t) = 1#1 ↔ t.val = 3 := by decide
theorem cond16_iff : ∀ t : Fin cfg0.N, k0_cond16 (grid0.coords t) = 1#1 ↔ 4 ≤ t.val := by decide
theorem cond17_iff : ∀ t : Fin cfg0.N, 4 ≤ t.val → (k0_cond17 (grid0.coords t) = 1#1 ↔ (t.val + 1) % 5 = 0) := by decide
theorem cond18_iff : ∀ t : Fin cfg0.N, 4 ≤ t.val → (k0_cond18 (grid0.coords t) = 1#1 ↔ (t.val + 1) % 5 = 1) := by decide
theorem cond19_iff : ∀ t : Fin cfg0.N, 4 ≤ t.val → (k0_cond19 (grid0.coords t) = 1#1 ↔ (t.val + 1) % 5 = 2) := by decide
theorem cond20_iff : ∀ t : Fin cfg0.N, 4 ≤ t.val → (k0_cond20 (grid0.coords t) = 1#1 ↔ (t.val + 1) % 5 = 3) := by decide
theorem cond21_iff : ∀ t : Fin cfg0.N, 4 ≤ t.val → (k0_cond21 (grid0.coords t) = 1#1 ↔ (t.val + 1) % 5 = 4) := by decide
theorem off1_eq : ∀ t : Fin cfg0.N, k0_off1 (grid0.coords t) = ![256 * t.val, 0] := by decide
theorem off2_eq : ∀ t : Fin cfg0.N, k0_off2 (grid0.coords t) = ![256 * t.val, 0] := by decide
theorem off3_eq : ∀ t : Fin cfg0.N, k0_off3 (grid0.coords t) = ![256 * t.val, 0] := by decide
theorem off4_eq : ∀ t : Fin cfg0.N, k0_off4 (grid0.coords t) = ![256 * t.val, 0] := by decide
theorem off5_eq : ∀ t : Fin cfg0.N, k0_off5 (grid0.coords t) = ![256 * t.val, 0] := by decide
theorem off6_eq : ∀ t : Fin cfg0.N, k0_off6 (grid0.coords t) = ![1024 * t.val, 0] := by decide
theorem off7_eq : ∀ t : Fin cfg0.N, k0_off7 (grid0.coords t) = ![1024 * t.val, 0] := by decide
theorem off13_eq : ∀ t : Fin cfg0.N, 4 ≤ t.val → k0_off13 (grid0.coords t) = ![(t.val + 1) % 5, 0, 0] := by decide
theorem off14_eq : ∀ t : Fin cfg0.N, 4 ≤ t.val → k0_off14 (grid0.coords t) = ![256 * (t.val - 4), 0] := by decide

/-! ## The ring's state -/

/-- The stripe in flight to slot `b` before point `t`, -/
def st (t : ℕ) (b : Fin 5) : Option (Fin 16) := (List.finRange 16).find? fun k => decide (k.val % 5 = b.val ∧ k.val < t ∧ t ≤ k.val + 4)
/-- and after the point's issue. -/
def mid (t : ℕ) (b : Fin 5) : Option (Fin 16) := (List.finRange 16).find? fun k => decide (k.val % 5 = b.val ∧ k.val < t + 1 ∧ t ≤ k.val + 4)

theorem st_issue : ∀ (t : Fin 20) (b : Fin 5) (h : t.val < 16), t.val % 5 = b.val → st t.val b = none ∧ mid t.val b = some ⟨t.val, h⟩ := by decide
theorem st_skip : ∀ (t : Fin 20) (b : Fin 5), ¬ (t.val < 16 ∧ t.val % 5 = b.val) → mid t.val b = st t.val b := by decide
theorem mid_wait : ∀ (t : Fin 20) (b : Fin 5) (h : 4 ≤ t.val), (t.val + 1) % 5 = b.val →
    mid t.val b = some ⟨t.val - 4, by have := t.isLt; omega⟩ ∧ st (t.val + 1) b = none := by decide
theorem mid_skip : ∀ (t : Fin 20) (b : Fin 5), ¬ (4 ≤ t.val ∧ (t.val + 1) % 5 = b.val) → st (t.val + 1) b = mid t.val b := by decide
theorem st_first : ∀ b : Fin 5, st 0 b = none := by decide
theorem st_last : ∀ b : Fin 5, st 20 b = none := by decide

/-- A slot by what is in flight to it. -/
def RS (A : BufOf (F := F) c hAdj) (b : Fin 5) (o : Option (Fin 16)) : sProp 𝕄 :=
  match o with
  | some k => Flying c A b k
  | none => Free c A b

theorem RS_none (A : BufOf (F := F) c hAdj) (b : Fin 5) : (RS c A b none : sProp 𝕄) = Free c A b := rfl
theorem RS_some (A : BufOf (F := F) c hAdj) (b : Fin 5) (k : Fin 16) : (RS c A b (some k) : sProp 𝕄) = Flying c A b k := rfl

/-- A slot between the point's wait and its end: the slot waited for holds its stripe. -/
def RW (A : BufOf (F := F) c hAdj) (t : Fin 20) (b : Fin 5) : sProp 𝕄 :=
  if 4 ≤ t.val ∧ (t.val + 1) % 5 = b.val then Landed c A b ⟨t.val - 4, by have := t.isLt; omega⟩ else RS c A b (mid t.val b)

theorem five (Φ : Fin 5 → sProp 𝕄) : bigSep Finset.univ Φ = iprop(Φ 0 ∗ Φ 1 ∗ Φ 2 ∗ Φ 3 ∗ Φ 4) := by
  rw [BI.bigSep_eq_bigSepL_of_eq [0, 1, 2, 3, 4] (by decide) (by decide)]; rfl
theorem four (Φ : Fin 4 → sProp 𝕄) : bigSep Finset.univ Φ = iprop(Φ 0 ∗ Φ 1 ∗ Φ 2 ∗ Φ 3) := by
  rw [BI.bigSep_eq_bigSepL_of_eq [0, 1, 2, 3] (by decide) (by decide)]; rfl

/-! ## Issuing and waiting, one slot -/

theorem slot_inb (b : Fin 5) : ∀ a, (![b.val, 0, 0] : Fin 3 → ℕ) a + S1x256x4096.size a ≤ S5x256x4096.size a := by
  intro a; have := b.isLt; fin_cases a <;> simp <;> omega

/-- The issue of a stripe to slot `b` under a condition. -/
def issueAt (b : Fin 5) (cnd : BitVec 1) (off : Fin 2 → ℕ) (inb : cnd = 1#1 → ∀ a, off a + S256x4096.size a ≤ S4096x4096.size a) (k : Body F) : Body F :=
  if h : cnd = 1#1 then
    Prog.lift (.enqueueDma (stripeM off (inb h)) (.here (slotM ![b.val, 0, 0] (slot_inb b))) (.dma (cell b)) (View.wordExact_bits rfl)
      ((View.wordExact_bits rfl).reshape _ _) ⟨Or.inl rfl, trivial⟩) >>= fun _ => k
  else k

theorem secIssue_eq (i : grid0.Coords) (k : Body F) : secIssue i k = if h : k0_cond2 i = 1#1 then
    issueAt 0 (k0_cond3 i) (k0_off1 i) (k0_off1_inb i h) (issueAt 1 (k0_cond4 i) (k0_off2 i) (k0_off2_inb i h)
    (issueAt 2 (k0_cond5 i) (k0_off3 i) (k0_off3_inb i h) (issueAt 3 (k0_cond6 i) (k0_off4 i) (k0_off4_inb i h)
    (issueAt 4 (k0_cond7 i) (k0_off5 i) (k0_off5_inb i h) k)))) else k := rfl

theorem issueAt_spec {Q : PUnit → sProp 𝕄} (A : BufOf (F := F) c hAdj) (t : Fin 20) (h16 : t.val < 16) (b : Fin 5) (cnd : BitVec 1)
    (off : Fin 2 → ℕ) (inb : cnd = 1#1 → ∀ a, off a + S256x4096.size a ≤ S4096x4096.size a) (hc : cnd = 1#1 ↔ t.val % 5 = b.val)
    (ho : off = ![256 * t.val, 0]) (k : Body F) :
    (RS c A b (st t.val b) : sProp 𝕄) ⊢ iprop((RS c A b (mid t.val b) -∗ wpc c k Q) -∗ wpc c (issueAt b cnd off inb k) Q) := by
  unfold issueAt
  by_cases h : cnd = 1#1
  · rw [dif_pos h, (st_issue t b h16 (hc.mp h)).1, (st_issue t b h16 (hc.mp h)).2, RS_none, RS_some]
    exact issue_one c A b ⟨t.val, h16⟩ (cell b) rfl _ rfl _ _ ho _ _ _ _ (fun _ => k)
  · rw [dif_neg h, st_skip t b (fun hh => h (hc.mpr hh.2))]
    iintro H Hk
    iapply Hk $$ H

theorem secIssue_spec {Q : PUnit → sProp 𝕄} (A : BufOf (F := F) c hAdj) (t : Fin cfg0.N) (k : Body F) :
    (bigSep Finset.univ (fun b => RS c A b (st t.val b)) : sProp 𝕄)
      ⊢ iprop((bigSep Finset.univ (fun b => RS c A b (mid t.val b)) -∗ wpc c k Q) -∗ wpc c (secIssue (grid0.coords t) k) Q) := by
  rw [secIssue_eq]
  by_cases h : t.val < 16
  · rw [dif_pos ((cond2_iff t).mpr h), five, five]
    iintro ⟨H0, H1, H2, H3, H4⟩ Hk
    iapply (issueAt_spec c A t h 0 _ _ _ (cond3_iff t) (off1_eq t) _) $$ H0; iintro H0
    iapply (issueAt_spec c A t h 1 _ _ _ (cond4_iff t) (off2_eq t) _) $$ H1; iintro H1
    iapply (issueAt_spec c A t h 2 _ _ _ (cond5_iff t) (off3_eq t) _) $$ H2; iintro H2
    iapply (issueAt_spec c A t h 3 _ _ _ (cond6_iff t) (off4_eq t) _) $$ H3; iintro H3
    iapply (issueAt_spec c A t h 4 _ _ _ (cond7_iff t) (off5_eq t) _) $$ H4; iintro H4
    iapply Hk
    iframe
  · rw [dif_neg (fun hh => h ((cond2_iff t).mp hh))]
    have e : (fun b => RS c A b (mid t.val b)) = fun b => RS c A b (st t.val b) :=
      funext fun b => by rw [st_skip t b (fun hh => h hh.1)]
    rw [e]
    iintro H Hk
    iapply Hk $$ H

/-- The wait for slot `b` under a condition. -/
def waitAt {α : Type} (b : Fin 5) (cnd : BitVec 1) (off : Fin 2 → ℕ) (inb : cnd = 1#1 → ∀ a, off a + S256x4096.size a ≤ S4096x4096.size a)
    (k : Prog (TpuEff nD τ sig (Elt F) Λ₀ .tc) α) : Prog (TpuEff nD τ sig (Elt F) Λ₀ .tc) α :=
  if h : cnd = 1#1 then
    Prog.lift (.waitDma2 (cell b) (stripeM off (inb h)) (slotM ![b.val, 0, 0] (slot_inb b)) (View.wordExact_bits rfl)
      ((View.wordExact_bits rfl).reshape _ _)) >>= fun _ => k
  else k

theorem adjWaits_eq {α : Type} (i : grid0.Coords) (h : k0_cond16 i = 1#1) (k : Prog (TpuEff nD τ sig (Elt F) Λ₀ .tc) α) :
    adjWait0 i h (adjWait1 i h (adjWait2 i h (adjWait3 i h (adjWait4 i h k)))) =
    waitAt 0 (k0_cond17 i) (k0_off8 i) (k0_off8_inb i h) (waitAt 1 (k0_cond18 i) (k0_off9 i) (k0_off9_inb i h)
    (waitAt 2 (k0_cond19 i) (k0_off10 i) (k0_off10_inb i h) (waitAt 3 (k0_cond20 i) (k0_off11 i) (k0_off11_inb i h)
    (waitAt 4 (k0_cond21 i) (k0_off12 i) (k0_off12_inb i h) k)))) := rfl

theorem waitAt_spec {α : Type} {Q : α → sProp 𝕄} (A : BufOf (F := F) c hAdj) (t : Fin 20) (h4 : 4 ≤ t.val) (b : Fin 5) (cnd : BitVec 1)
    (off : Fin 2 → ℕ) (inb : cnd = 1#1 → ∀ a, off a + S256x4096.size a ≤ S4096x4096.size a) (hc : cnd = 1#1 ↔ (t.val + 1) % 5 = b.val)
    (k : Prog (TpuEff nD τ sig (Elt F) Λ₀ .tc) α) :
    iprop(RS c A b (mid t.val b) ∗ (∃ W, owes (c : Thread nD τ) 0 W) : sProp 𝕄)
      ⊢ iprop((iprop(RW c A t b ∗ ∃ W, owes (c : Thread nD τ) 0 W) -∗ wpc c k Q) -∗ wpc c (waitAt b cnd off inb k) Q) := by
  unfold waitAt RW
  by_cases h : cnd = 1#1
  · rw [dif_pos h, (mid_wait t b h4 (hc.mp h)).1, if_pos ⟨h4, hc.mp h⟩, RS_some]
    iintro ⟨H, ⟨%W, HW⟩⟩ Hk
    iapply (wait_one c A b ⟨t.val - 4, by have := t.isLt; omega⟩ (cell b) rfl _ _ _ _ _ _ (fun _ => k) W) $$ [H HW]
    · isplitl [H]; · iexact H
      iexact HW
    iexact Hk
  · rw [dif_neg h, if_neg (fun hh => h (hc.mpr hh.2))]
    iintro H Hk
    iapply Hk $$ H

theorem adjWaits_spec {α : Type} {Q : α → sProp 𝕄} (A : BufOf (F := F) c hAdj) (t : Fin cfg0.N) (h4 : 4 ≤ t.val) (h : k0_cond16 (grid0.coords t) = 1#1)
    (k : Prog (TpuEff nD τ sig (Elt F) Λ₀ .tc) α) :
    iprop(bigSep Finset.univ (fun b => RS c A b (mid t.val b)) ∗ (∃ W, owes (c : Thread nD τ) 0 W) : sProp 𝕄)
      ⊢ iprop((iprop(bigSep Finset.univ (RW c A t) ∗ ∃ W, owes (c : Thread nD τ) 0 W) -∗ wpc c k Q)
        -∗ wpc c (adjWait0 (grid0.coords t) h (adjWait1 (grid0.coords t) h (adjWait2 (grid0.coords t) h (adjWait3 (grid0.coords t) h
          (adjWait4 (grid0.coords t) h k))))) Q) := by
  rw [adjWaits_eq, five, five]
  iintro ⟨⟨H0, H1, H2, H3, H4⟩, HW⟩ Hk
  iapply (waitAt_spec c A t h4 0 _ _ _ (cond17_iff t h4) _) $$ [H0 HW]; · iframe
  iintro ⟨H0, HW⟩
  iapply (waitAt_spec c A t h4 1 _ _ _ (cond18_iff t h4) _) $$ [H1 HW]; · iframe
  iintro ⟨H1, HW⟩
  iapply (waitAt_spec c A t h4 2 _ _ _ (cond19_iff t h4) _) $$ [H2 HW]; · iframe
  iintro ⟨H2, HW⟩
  iapply (waitAt_spec c A t h4 3 _ _ _ (cond20_iff t h4) _) $$ [H3 HW]; · iframe
  iintro ⟨H3, HW⟩
  iapply (waitAt_spec c A t h4 4 _ _ _ (cond21_iff t h4) _) $$ [H4 HW]; · iframe
  iintro ⟨H4, HW⟩
  iapply Hk
  iframe

/-- The slot waited for, out of the ring and back. -/
theorem ring_take (A : BufOf (F := F) c hAdj) (t : Fin 20) (h4 : 4 ≤ t.val) :
    (bigSep Finset.univ (RW c A t) : sProp 𝕄) ⊢ iprop(Landed c A ⟨(t.val + 1) % 5, Nat.mod_lt _ (by decide)⟩ ⟨t.val - 4, by have := t.isLt; omega⟩
      ∗ (Landed c A ⟨(t.val + 1) % 5, Nat.mod_lt _ (by decide)⟩ ⟨t.val - 4, by have := t.isLt; omega⟩ -∗ bigSep Finset.univ (RW c A t))) := by
  rw [bigSep_univ_split (⟨(t.val + 1) % 5, Nat.mod_lt _ (by decide)⟩ : Fin 5)]
  have e : RW c A t ⟨(t.val + 1) % 5, Nat.mod_lt _ (by decide)⟩ = (Landed c A ⟨(t.val + 1) % 5, Nat.mod_lt _ (by decide)⟩ ⟨t.val - 4, by have := t.isLt; omega⟩ : sProp 𝕄) := by
    unfold RW; rw [if_pos ⟨h4, rfl⟩]
  rw [e]
  show iprop(Landed c A _ _ ∗ bigSep (Finset.univ.erase _) (RW c A t)) ⊢ iprop(Landed c A _ _ ∗ (Landed c A _ _ -∗ iprop(Landed c A _ _ ∗ bigSep (Finset.univ.erase _) (RW c A t))))
  iintro ⟨H, HR⟩
  isplitl [H]; · iexact H
  iintro H
  isplitl [H]; · iexact H
  iexact HR

/-- After the point the slot waited for is free. -/
theorem ring_next (A : BufOf (F := F) c hAdj) (t : Fin 20) :
    (bigSep Finset.univ (RW c A t) : sProp 𝕄) ⊢ bigSep Finset.univ (fun b => RS c A b (st (t.val + 1) b)) := by
  refine bigSep_mono fun b _ => ?_
  unfold RW
  split
  · next h => rw [(mid_wait t b h.1 h.2).2]; exact Landed_free c A b _
  · next h => rw [mid_skip t b h]; exact (BIBase.Entails.rfl : (RS c A b (mid t.val b) : sProp 𝕄) ⊢ _)

theorem ring_next_early (A : BufOf (F := F) c hAdj) (t : Fin 20) (h : t.val < 4) :
    (bigSep Finset.univ (fun b => RS c A b (mid t.val b)) : sProp 𝕄) ⊢ bigSep Finset.univ (fun b => RS c A b (st (t.val + 1) b)) := by
  refine bigSep_mono fun b _ => ?_
  rw [mid_skip t b (by omega)]; exact (BIBase.Entails.rfl : (RS c A b (mid t.val b) : sProp 𝕄) ⊢ _)

/-! ## The incidence's pieces -/

/-- A piece before point `t`: not asked for, in flight, or held. -/
def PS (A : Vec F S4096x1024 .f32) (t : ℕ) (p : Fin 4) : sProp 𝕄 :=
  if t = 0 then PFree c A p else if t ≤ p.val then PFlying c A p else PHeld c A p

/-- A piece between the launch point's set-up and the wait. -/
def PM (A : Vec F S4096x1024 .f32) (t : ℕ) (p : Fin 4) : sProp 𝕄 :=
  if t ≤ p.val then PFlying c A p else PHeld c A p

theorem piece_inb (p : Fin 4) : ∀ a, (![1024 * p.val, 0] : Fin 2 → ℕ) a + S1024x1024.size a ≤ S4096x1024.size a := by
  intro a; have := p.isLt; fin_cases a <;> simp <;> omega

def pieceWaitAt {α : Type} (p : Fin 4) (cnd : BitVec 1) (k : Prog (TpuEff nD τ sig (Elt F) Λ₀ .tc) α) : Prog (TpuEff nD τ sig (Elt F) Λ₀ .tc) α :=
  if cnd = 1#1 then
    Prog.lift (.waitDma2 (cellI p) (pieceHM ![1024 * p.val, 0] (piece_inb p)) (pieceSM ![1024 * p.val, 0] (piece_inb p)) (View.wordExact_bits rfl)
      (View.wordExact_bits rfl)) >>= fun _ => k
  else k

theorem incWaits_eq {α : Type} (i : grid0.Coords) (k : Prog (TpuEff nD τ sig (Elt F) Λ₀ .tc) α) :
    incWait0 i (incWait1 i (incWait2 i (incWait3 i k))) = pieceWaitAt 0 (isPt i 0#32) (pieceWaitAt 1 (isPt i 1#32) (pieceWaitAt 2 (isPt i 2#32)
      (pieceWaitAt 3 (isPt i 3#32) k))) := rfl

theorem pieceWaitAt_spec {α : Type} {Q : α → sProp 𝕄} (A : Vec F S4096x1024 .f32) (t : ℕ) (p : Fin 4) (cnd : BitVec 1) (hc : cnd = 1#1 ↔ t = p.val)
    (k : Prog (TpuEff nD τ sig (Elt F) Λ₀ .tc) α) :
    iprop(PM c A t p ∗ (∃ W, owes (c : Thread nD τ) 0 W) : sProp 𝕄)
      ⊢ iprop((iprop(PM c A (t + 1) p ∗ ∃ W, owes (c : Thread nD τ) 0 W) -∗ wpc c k Q) -∗ wpc c (pieceWaitAt p cnd k) Q) := by
  unfold pieceWaitAt PM
  by_cases h : cnd = 1#1
  · have := hc.mp h
    rw [if_pos h, if_pos (by omega), if_neg (by omega)]
    iintro ⟨H, ⟨%W, HW⟩⟩ Hk
    iapply (wait_piece c A p (cellI p) rfl _ _ _ _ (fun _ => k) W) $$ [H HW]
    · isplitl [H]; · iexact H
      iexact HW
    iexact Hk
  · rw [if_neg h]
    have hne : t ≠ p.val := fun e => h (hc.mpr e)
    have e : (if t + 1 ≤ p.val then PFlying c A p else PHeld c A p : sProp 𝕄) = if t ≤ p.val then PFlying c A p else PHeld c A p := by
      by_cases ht : t ≤ p.val
      · rw [if_pos ht, if_pos (by omega)]
      · rw [if_neg ht, if_neg (by omega)]
    rw [e]
    iintro H Hk
    iapply Hk $$ H

theorem incWaits_spec {α : Type} {Q : α → sProp 𝕄} (A : Vec F S4096x1024 .f32) (t : Fin cfg0.N)
    (k : Prog (TpuEff nD τ sig (Elt F) Λ₀ .tc) α) :
    iprop(bigSep Finset.univ (PM c A t.val) ∗ (∃ W, owes (c : Thread nD τ) 0 W) : sProp 𝕄)
      ⊢ iprop((iprop(bigSep Finset.univ (PM c A (t.val + 1)) ∗ ∃ W, owes (c : Thread nD τ) 0 W) -∗ wpc c k Q)
        -∗ wpc c (incWait0 (grid0.coords t) (incWait1 (grid0.coords t) (incWait2 (grid0.coords t) (incWait3 (grid0.coords t) k)))) Q) := by
  rw [incWaits_eq, four, four]
  iintro ⟨⟨H0, H1, H2, H3⟩, HW⟩ Hk
  iapply (pieceWaitAt_spec c A t.val 0 _ (isPt0 t) _) $$ [H0 HW]; · iframe
  iintro ⟨H0, HW⟩
  iapply (pieceWaitAt_spec c A t.val 1 _ (isPt1 t) _) $$ [H1 HW]; · iframe
  iintro ⟨H1, HW⟩
  iapply (pieceWaitAt_spec c A t.val 2 _ (isPt2 t) _) $$ [H2 HW]; · iframe
  iintro ⟨H2, HW⟩
  iapply (pieceWaitAt_spec c A t.val 3 _ (isPt3 t) _) $$ [H3 HW]; · iframe
  iintro ⟨H3, HW⟩
  iapply Hk
  iframe

/-- A piece already waited for, out of the pieces and back. -/
theorem piece_take (A : Vec F S4096x1024 .f32) (t : ℕ) (p : Fin 4) (h : p.val < t) :
    (bigSep Finset.univ (PM c A t) : sProp 𝕄) ⊢ iprop(PHeld c A p ∗ (PHeld c A p -∗ bigSep Finset.univ (PM c A t))) := by
  rw [bigSep_univ_split p]
  have e : PM c A t p = (PHeld c A p : sProp 𝕄) := by unfold PM; rw [if_neg (by omega)]
  rw [e]
  show iprop(PHeld c A p ∗ bigSep (Finset.univ.erase _) (PM c A t)) ⊢ iprop(PHeld c A p ∗ (PHeld c A p -∗ iprop(PHeld c A p ∗ bigSep (Finset.univ.erase _) (PM c A t))))
  iintro ⟨H, HR⟩
  isplitl [H]; · iexact H
  iintro H
  isplitl [H]; · iexact H
  iexact HR

theorem PS_eq (A : Vec F S4096x1024 .f32) (t : ℕ) (h : t ≠ 0) : (PS c A t : Fin 4 → sProp 𝕄) = PM c A t := by
  funext p; unfold PS PM; rw [if_neg h]

end Cert.KernelIdeal.Run

end
-- ==== Proof.Run.Init.lean ====
/-
  The launch point's set-up: the four pieces of the incidence are started and the two block-diagonal weights are stored.
-/
module

public import proofs.«01_k».proof.Proof.Run.State

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD)

/-- The blocks of the staged operands at one grid point, by the body's arguments. -/
structure In (F : FTy → Type) [FloatOps F] where
  x1 : Vec F S1x1024 .f32
  x2 : Vec F S2x1024x128 .f32
  x5 : Vec F S64x128 .f32
  x6 : Vec F S1x64 .f32
  x7 : Vec F S64x128 .f32
  x8 : Vec F S1x64 .f32
  x9 : Vec F S64x64 .f32
  x10 : Vec F S64x64 .f32
  x11 : Vec F S1x64 .f32
  x12 : Vec F S64x64 .f32
  x13 : Vec F S1x64 .f32
  x14 : Vec F S64x64 .f32
  x15 : Vec F S1x64 .f32
  x16 : Vec F S16x64 .f32
  x17 : Vec F S1x16 .f32
  x18 : Vec F S1x16 .f32
  x19 : Vec F S1x1 .f32
  x20 : Vec F S1x64 .f32
  x21 : Vec F S1x64 .f32
  x22 : Vec F S64x128 .f32
  x23 : Vec F S1x64 .f32
  x24 : Vec F S1x64 .f32
  x25 : Vec F S1x64 .f32

/-- What a program returns at once. -/
theorem wpc_pure {α : Type} (a : α) {Q : α → sProp 𝕄} : (Q a : sProp 𝕄) ⊢ wpc c (pure a) Q := by
  unfold wpc; rw [wp_pure]
  iintro H
  imodintro
  iexact H

theorem wpc_bind {α β : Type} (p : Prog (TpuEff nD τ sig (Elt F) Λ₀ .tc) α) (k : α → Prog (TpuEff nD τ sig (Elt F) Λ₀ .tc) β) (Q : β → sProp 𝕄) :
    wpc c (p >>= k) Q = wpc c p (fun a => wpc c (k a) Q) := wp_bind _ _ _ _ _ _

/-- The node weight written twice on the diagonal of a zero matrix, -/
def nwOf (x5 : Vec F S64x128 .f32) : Vec F S128x256 .f32 :=
  put (Rect.unit (s := S128x256) ![64, 128] S64x128.size inb_S128x256_S64x128_64_128) (k0_pay2 x5)
    (put (Rect.unit (s := S128x256) ![0, 0] S64x128.size inb_S128x256_S64x128_0_0) (k0_pay1 x5) (k0_pay12 (F := F)))
/-- and the cell weight. -/
def cwOf (x7 : Vec F S64x128 .f32) : Vec F S128x256 .f32 :=
  put (Rect.unit (s := S128x256) ![64, 128] S64x128.size inb_S128x256_S64x128_64_128) (k0_pay4 x7)
    (put (Rect.unit (s := S128x256) ![0, 0] S64x128.size inb_S128x256_S64x128_0_0) (k0_pay3 x7) (k0_pay13 (F := F)))

def InsInit (w : Win) (D : In F) : sProp 𝕄 := iprop(owns (c : Thread nD τ) w.arg5 fullShare D.x5 ∗ owns (c : Thread nD τ) w.arg7 fullShare D.x7)
def InsA (w : Win) (D : In F) : sProp 𝕄 := iprop(owns (c : Thread nD τ) w.arg1 fullShare D.x1 ∗ owns (c : Thread nD τ) w.arg2 fullShare D.x2 ∗ owns (c : Thread nD τ) w.arg6 fullShare D.x6)
def InsC (w : Win) (D : In F) : sProp 𝕄 := iprop(owns (c : Thread nD τ) w.arg8 fullShare D.x8 ∗ owns (c : Thread nD τ) w.arg9 fullShare D.x9 ∗ owns (c : Thread nD τ) w.arg10 fullShare D.x10 ∗ owns (c : Thread nD τ) w.arg11 fullShare D.x11 ∗ owns (c : Thread nD τ) w.arg12 fullShare D.x12 ∗ owns (c : Thread nD τ) w.arg13 fullShare D.x13)
def InsB (w : Win) (D : In F) : sProp 𝕄 := iprop(owns (c : Thread nD τ) w.arg14 fullShare D.x14 ∗ owns (c : Thread nD τ) w.arg15 fullShare D.x15 ∗ owns (c : Thread nD τ) w.arg16 fullShare D.x16 ∗ owns (c : Thread nD τ) w.arg17 fullShare D.x17 ∗ owns (c : Thread nD τ) w.arg18 fullShare D.x18 ∗ owns (c : Thread nD τ) w.arg19 fullShare D.x19 ∗ owns (c : Thread nD τ) w.arg20 fullShare D.x20 ∗ owns (c : Thread nD τ) w.arg21 fullShare D.x21 ∗ owns (c : Thread nD τ) w.arg22 fullShare D.x22 ∗ owns (c : Thread nD τ) w.arg23 fullShare D.x23 ∗ owns (c : Thread nD τ) w.arg24 fullShare D.x24 ∗ owns (c : Thread nD τ) w.arg25 fullShare D.x25)

theorem part1_spec {Q : Vec F S64x128 .f32 → sProp 𝕄} (Inc : Vec F S4096x1024 .f32) (i : grid0.Coords) (w : Win) (x5 : Vec F S64x128 .f32) :
    iprop(owns (c : Thread nD τ) w.arg5 fullShare x5 ∗ (∃ f, owns (c : Thread nD τ) sNw fullShare f) ∗ (∃ f, owns (c : Thread nD τ) sCw fullShare f) ∗ bigSep Finset.univ (PFree c Inc) : sProp 𝕄)
      ⊢ iprop((iprop(owns (c : Thread nD τ) w.arg5 fullShare x5 ∗ owns (c : Thread nD τ) sNw fullShare (k0_pay12 (F := F)) ∗ owns (c : Thread nD τ) sCw fullShare (k0_pay13 (F := F))
          ∗ bigSep Finset.univ (PFlying c Inc)) -∗ Q x5)
        -∗ wpc c (k0_part1 i w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8) Q) := by
  rw [k0_part1_eq_skeleton, four, four]
  unfold k0_part1_skel
  iintro ⟨H5, ⟨%f, HN⟩, ⟨%g, HC⟩, H0, H1, H2, H3⟩ Hk
  iapply (issue_piece c Inc 0 _ rfl _ rfl _ _ _ _ _) $$ H0; iintro H0
  iapply (issue_piece c Inc 1 _ rfl _ rfl _ _ _ _ _) $$ H1; iintro H1
  iapply (issue_piece c Inc 2 _ rfl _ rfl _ _ _ _ _) $$ H2; iintro H2
  iapply (issue_piece c Inc 3 _ rfl _ rfl _ _ _ _ _) $$ H3; iintro H3
  iapply (load_full c) $$ HN; iintro HN
  iapply (store_full c) $$ HN; iintro HN
  iapply (load_full c) $$ HC; iintro HC
  iapply (store_full c) $$ HC; iintro HC
  iapply (load_full c) $$ H5; iintro H5
  iapply (wpc_pure c x5)
  iapply Hk
  iframe

/-- The set-up at the launch point. -/
theorem secInit_first {Q : PUnit → sProp 𝕄} (Inc : Vec F S4096x1024 .f32) (i : grid0.Coords) (hi : isPt i 0#32 = 1#1) (w : Win) (D : In F) (k : Body F) :
    iprop(InsInit c w D ∗ (∃ f, owns (c : Thread nD τ) sNw fullShare f) ∗ (∃ f, owns (c : Thread nD τ) sCw fullShare f) ∗ bigSep Finset.univ (PFree c Inc) : sProp 𝕄)
      ⊢ iprop((iprop(InsInit c w D ∗ owns (c : Thread nD τ) sNw fullShare (nwOf D.x5) ∗ owns (c : Thread nD τ) sCw fullShare (cwOf D.x7) ∗ bigSep Finset.univ (PFlying c Inc)) -∗ wpc c k Q)
        -∗ wpc c (secInit i w k) Q) := by
  unfold secInit InsInit nwOf cwOf
  rw [if_pos hi, wpc_bind]
  iintro ⟨⟨H5, H7⟩, HN, HC, HP⟩ Hk
  iapply (part1_spec c Inc i w D.x5) $$ [H5 HN HC HP]; · iframe
  iintro ⟨H5, HN, HC, HP⟩
  iapply (load_rect c) $$ HN; iintro HN
  iapply (store_rect c) $$ HN; iintro HN
  iapply (load_full c) $$ H5; iintro H5
  iapply (load_rect c) $$ HN; iintro HN
  iapply (store_rect c) $$ HN; iintro HN
  iapply (load_full c) $$ H7; iintro H7
  iapply (load_rect c) $$ HC; iintro HC
  iapply (store_rect c) $$ HC; iintro HC
  iapply (load_full c) $$ H7; iintro H7
  iapply (load_rect c) $$ HC; iintro HC
  iapply (store_rect c) $$ HC; iintro HC
  iapply Hk
  iframe

theorem secInit_skip (i : grid0.Coords) (hi : ¬ isPt i 0#32 = 1#1) (w : Win) (k : Body F) : secInit i w k = k := by
  unfold secInit; rw [if_neg hi]

end Cert.KernelIdeal.Run

end
-- ==== Proof.Run.PhaseA.lean ====
/-
  The first four points' phase: the block of node features, the partial sum of the cells' features, and, at the last of the
  four, the predicted cells and the entropy.
-/
module

public import proofs.«01_k».proof.Proof.Run.Init

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD)

/-- The gated features of one block, both batches side by side, -/
def xOf (D : In F) : FVec F S1024x256 .f32 := k0_pay15 D.x1 (fun (j : (Rect.unit (s := S2x1024x128) ![0, 0, 0] S1x1024x128.size inb_S2x1024x128_S1x1024x128_0_0_0).shape.Idx) => D.x2 ((Rect.unit (s := S2x1024x128) ![0, 0, 0] S1x1024x128.size inb_S2x1024x128_S1x1024x128_0_0_0).emb j))
    (fun (j : (Rect.unit (s := S2x1024x128) ![1, 0, 0] S1x1024x128.size inb_S2x1024x128_S1x1024x128_1_0_0).shape.Idx) => D.x2 ((Rect.unit (s := S2x1024x128) ![1, 0, 0] S1x1024x128.size inb_S2x1024x128_S1x1024x128_1_0_0).emb j))
/-- and the block's node features. -/
def hOf (D : In F) (N : Vec F S128x256 .f32) : FVec F S1024x128 .f32 := k0_pay16 D.x1 (fun (j : (Rect.unit (s := S2x1024x128) ![0, 0, 0] S1x1024x128.size inb_S2x1024x128_S1x1024x128_0_0_0).shape.Idx) => D.x2 ((Rect.unit (s := S2x1024x128) ![0, 0, 0] S1x1024x128.size inb_S2x1024x128_S1x1024x128_0_0_0).emb j))
    (fun (j : (Rect.unit (s := S2x1024x128) ![1, 0, 0] S1x1024x128.size inb_S2x1024x128_S1x1024x128_1_0_0).shape.Idx) => D.x2 ((Rect.unit (s := S2x1024x128) ![1, 0, 0] S1x1024x128.size inb_S2x1024x128_S1x1024x128_1_0_0).emb j)) D.x6 D.x6 N

theorem loadsA_spec {Q : (Σ' (v34 : FVec F S1024x256 .f32), FVec F S1024x128 .f32) → sProp 𝕄} (w : Win) (D : In F) (N : Vec F S128x256 .f32) :
    iprop(InsA c w D ∗ owns (c : Thread nD τ) sNw fullShare N : sProp 𝕄)
      ⊢ iprop((iprop(InsA c w D ∗ owns (c : Thread nD τ) sNw fullShare N) -∗ Q ⟨xOf D, hOf D N⟩) -∗ wpc c (loadsA w) Q) := by
  unfold loadsA InsA xOf hOf
  iintro ⟨⟨H1, H2, H6⟩, HN⟩ Hk
  iapply (load_full c) $$ H1; iintro H1
  iapply (load_rect c) $$ H2; iintro H2
  iapply (load_rect c) $$ H2; iintro H2
  iapply (load_full c) $$ H6; iintro H6
  iapply (load_full c) $$ H6; iintro H6
  iapply (load_full c) $$ HN; iintro HN
  iapply (wpc_pure c _)
  iapply Hk
  iframe

theorem part3_spec {Q : (Σ' (v34 : FVec F S1024x256 .f32), FVec F S1024x128 .f32) → sProp 𝕄} (Inc : Vec F S4096x1024 .f32) (t : Fin cfg0.N) (w : Win) (D : In F)
    (N : Vec F S128x256 .f32) :
    iprop(InsA c w D ∗ owns (c : Thread nD τ) sNw fullShare N ∗ bigSep Finset.univ (PM c Inc t.val) ∗ (∃ W, owes (c : Thread nD τ) 0 W) : sProp 𝕄)
      ⊢ iprop((iprop(InsA c w D ∗ owns (c : Thread nD τ) sNw fullShare N ∗ bigSep Finset.univ (PM c Inc (t.val + 1)) ∗ (∃ W, owes (c : Thread nD τ) 0 W)) -∗ Q ⟨xOf D, hOf D N⟩)
        -∗ wpc c (k0_part3 (grid0.coords t) w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8 (BitVec.ofNat 32 ((grid0.coords t) 0).val)) Q) := by
  rw [part3_eq]
  iintro ⟨HA, HN, HP, HW⟩ Hk
  iapply (incWaits_spec c Inc t (loadsA w)) $$ [HP HW]; · iframe
  iintro ⟨HP, HW⟩
  iapply (loadsA_spec c w D N) $$ [HA HN]; · iframe
  iintro ⟨HA, HN⟩
  iapply Hk
  iframe

/-- The incidence's rows of block `t`. -/
def incBlk (Inc : Vec F S4096x1024 .f32) (off : Fin 2 → ℕ) (inb : ∀ a, off a + S1024x1024.size a ≤ S4096x1024.size a) : Vec F S1024x1024 .f32 :=
  fun j => Inc ((Rect.unit (s := S4096x1024) off S1024x1024.size inb).emb j)

/-- The accumulator after one more block. -/
def accOf (first : Prop) [Decidable first] (v34 : FVec F S1024x256 .f32) (C : Vec F S128x256 .f32) (v54 : Vec F S1024x1024 .f32) (Y : Vec F S1024x128 .f32) : Vec F S1024x128 .f32 :=
  if first then k0_pay7 v34 C v54 else k0_pay8 v34 C v54 Y

theorem acc_spec {Q : PUnit → sProp 𝕄} (t : Fin cfg0.N) (w : Win) (v34 : FVec F S1024x256 .f32) (C : Vec F S128x256 .f32) (v54 : Vec F S1024x1024 .f32)
    (Y : Vec F S1024x128 .f32) (k : Body F) :
    (owns (c : Thread nD τ) sAcc fullShare Y : sProp 𝕄)
      ⊢ iprop((owns (c : Thread nD τ) sAcc fullShare (accOf (t.val = 0) v34 C v54 Y) -∗ wpc c k Q)
        -∗ wpc c (accFirst (grid0.coords t) w v34 C v54 (accMore (grid0.coords t) w v34 C v54 k)) Q) := by
  unfold accFirst accMore accOf
  by_cases h : t.val = 0
  · rw [if_pos ((isPt0 t).mpr h), if_neg (fun hh => (isLater_iff t).mp hh h), if_pos h]
    iintro H Hk
    iapply (load_full c) $$ H; iintro H
    iapply (store_full c) $$ H; iintro H
    iapply Hk $$ H
  · rw [if_neg (fun hh => h ((isPt0 t).mp hh)), if_pos ((isLater_iff t).mpr h), if_neg h]
    iintro H Hk
    iapply (load_full c) $$ H; iintro H
    iapply (load_full c) $$ H; iintro H
    iapply (store_full c) $$ H; iintro H
    iapply Hk $$ H

theorem secA_spec {Q : PUnit → sProp 𝕄} (Inc : Vec F S4096x1024 .f32) (t : Fin cfg0.N) (h4 : t.val < 4) (w : Win) (D : In F)
    (N C : Vec F S128x256 .f32) (H : Vec F S4096x128 .f32) (Y : Vec F S1024x128 .f32) (k : Body F) :
    iprop(InsA c w D ∗ owns (c : Thread nD τ) sNw fullShare N ∗ owns (c : Thread nD τ) sCw fullShare C ∗ owns (c : Thread nD τ) sH0 fullShare H ∗ owns (c : Thread nD τ) sAcc fullShare Y ∗ bigSep Finset.univ (PM c Inc t.val) ∗ (∃ W, owes (c : Thread nD τ) 0 W) : sProp 𝕄)
      ⊢ iprop((iprop(InsA c w D ∗ owns (c : Thread nD τ) sNw fullShare N ∗ owns (c : Thread nD τ) sCw fullShare C
            ∗ owns (c : Thread nD τ) sH0 fullShare (put (Rect.unit (s := S4096x128) (k0_off6 (grid0.coords t)) S1024x128.size (k0_off6_inb _ ((cond8_iff t).mpr h4))) (k0_pay5 (hOf D N)) H)
            ∗ owns (c : Thread nD τ) sAcc fullShare (accOf (t.val = 0) (xOf D) C (incBlk Inc (k0_off7 (grid0.coords t)) (k0_off7_inb _ ((cond8_iff t).mpr h4))) Y)
            ∗ bigSep Finset.univ (PM c Inc (t.val + 1)) ∗ (∃ W, owes (c : Thread nD τ) 0 W)) -∗ wpc c (cells (grid0.coords t) w k) Q)
        -∗ wpc c (secA (grid0.coords t) w k) Q) := by
  unfold secA
  rw [dif_pos ((cond8_iff t).mpr h4), wpc_bind]
  iintro ⟨HA, HN, HC, HH, HY, HP, HW⟩ Hk
  iapply (part3_spec c Inc t w D N) $$ [HA HN HP HW]; · iframe
  iintro ⟨HA, HN, HP, HW⟩
  iapply (load_rect c) $$ HH; iintro HH
  iapply (store_rect c) $$ HH; iintro HH
  iapply (load_full c) $$ HC; iintro HC
  ihave HP := (piece_take c Inc (t.val + 1) ⟨t.val, h4⟩ (Nat.lt_succ_self _)) $$ HP
  unfold PHeld
  icases HP with ⟨⟨Hs, HS, HI⟩, HR⟩
  iapply (load_on c (incBlk Inc (k0_off7 (grid0.coords t)) (k0_off7_inb _ ((cond8_iff t).mpr h4)))
    (by rw [setOn_whole, rect_piece_set t.val _ (off7_eq t)]) rfl) $$ HS
  iintro HS
  ihave HP := HR $$ [Hs HS HI]; · iframe
  iapply (acc_spec c t w _ _ _ Y _) $$ HY; iintro HY
  iapply Hk
  iframe

theorem secA_skip (i : grid0.Coords) (hi : ¬ k0_cond8 i = 1#1) (w : Win) (k : Body F) : secA i w k = k := by
  unfold secA; rw [dif_neg hi]

theorem cells_skip (i : grid0.Coords) (hi : ¬ k0_cond15 i = 1#1) (w : Win) (k : Body F) : cells i w k = k := by
  unfold cells; rw [dif_neg hi]

/-- The softmax weights of the cells over the atoms. -/
def wOf (D : In F) (Y : Vec F S1024x128 .f32) : FVec F S2048x64 .f32 := k0_pay14 Y D.x8 D.x10 D.x11 D.x9 D.x12 D.x13

theorem part2_spec {Q : FVec F S2048x64 .f32 → sProp 𝕄} (i : grid0.Coords) (w : Win) (D : In F) (Y : Vec F S1024x128 .f32) :
    iprop(InsC c w D ∗ owns (c : Thread nD τ) sAcc fullShare Y : sProp 𝕄)
      ⊢ iprop((iprop(InsC c w D ∗ owns (c : Thread nD τ) sAcc fullShare Y) -∗ Q (wOf D Y))
        -∗ wpc c (k0_part2 i w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8) Q) := by
  rw [k0_part2_eq_skeleton]
  unfold k0_part2_skel InsC wOf
  iintro ⟨⟨H8, H9, H10, H11, H12, H13⟩, HY⟩ Hk
  iapply (load_full c) $$ HY; iintro HY
  iapply (load_full c) $$ H8; iintro H8
  iapply (load_full c) $$ H10; iintro H10
  iapply (load_full c) $$ H11; iintro H11
  iapply (load_full c) $$ H9; iintro H9
  iapply (load_full c) $$ H12; iintro H12
  iapply (load_full c) $$ H13; iintro H13
  iapply (wpc_pure c _)
  iapply Hk
  iframe

theorem cells_spec {Q : PUnit → sProp 𝕄} (i : grid0.Coords) (hi : k0_cond15 i = 1#1) (w : Win) (D : In F) (Y : Vec F S1024x128 .f32) (k : Body F) :
    iprop(InsC c w D ∗ owns (c : Thread nD τ) sAcc fullShare Y ∗ (∃ f, owns (c : Thread nD τ) sPc fullShare f) ∗ (∃ f, owns (c : Thread nD τ) w.arg27 fullShare f) : sProp 𝕄)
      ⊢ iprop((iprop(InsC c w D ∗ owns (c : Thread nD τ) sAcc fullShare Y ∗ owns (c : Thread nD τ) sPc fullShare (k0_pay9 (wOf D Y) D.x9) ∗ owns (c : Thread nD τ) w.arg27 fullShare (k0_pay10 (wOf D Y))) -∗ wpc c k Q)
        -∗ wpc c (cells i w k) Q) := by
  unfold cells
  rw [dif_pos hi, wpc_bind]
  iintro ⟨HC, HY, ⟨%f, HP⟩, ⟨%g, HE⟩⟩ Hk
  iapply (part2_spec c i w D Y) $$ [HC HY]; · iframe
  iintro ⟨HC, HY⟩
  unfold InsC
  icases HC with ⟨H8, H9, H10⟩
  iapply (load_full c) $$ H9; iintro H9
  iapply (load_full c) $$ HP; iintro HP
  iapply (store_full c) $$ HP; iintro HP
  iapply (load_full c) $$ HE; iintro HE
  iapply (store_full c) $$ HE; iintro HE
  iapply Hk
  iframe

end Cert.KernelIdeal.Run

end
-- ==== Proof.Run.PhaseB.lean ====
/-
  The other points' phase: one stripe of the adjacency is waited for and one block of the result is stored.
-/
module

public import proofs.«01_k».proof.Proof.Run.Init

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD)

/-- The rows of the incidence at one stripe. -/
def incRows (Inc : Vec F S4096x1024 .f32) (off : Fin 2 → ℕ) (inb : ∀ a, off a + S256x1024.size a ≤ S4096x1024.size a) : Vec F S256x1024 .f32 :=
  fun j => Inc ((Rect.unit (s := S4096x1024) off S256x1024.size inb).emb j)
/-- A stripe of the adjacency. -/
def stripeOf (A : Vec F S4096x4096 .f32) (k : Fin 16) : Vec F S1x256x4096 .f32 := fun j =>
  A (ix2 (n0 := 4096) (n1 := 4096) ⟨256 * k.val + (j 1).val, by have := k.isLt; have : (j 1).val < 256 := (j 1).isLt; omega⟩ (j 2))

theorem loadsB_spec {Q : (Σ' (v38 : FVec F S256x128 .f32), Vec F S256x1024 .f32) → sProp 𝕄} (A : Vec F S4096x4096 .f32) (Inc : Vec F S4096x1024 .f32) (t : Fin cfg0.N)
    (h4 : 4 ≤ t.val) (w : Win) (H : Vec F S4096x128 .f32) :
    iprop(bigSep Finset.univ (RW c A t) ∗ owns (c : Thread nD τ) sH0 fullShare H ∗ bigSep Finset.univ (PM c Inc t.val) : sProp 𝕄)
      ⊢ iprop((iprop(bigSep Finset.univ (RW c A t) ∗ owns (c : Thread nD τ) sH0 fullShare H ∗ bigSep Finset.univ (PM c Inc t.val))
            -∗ Q ⟨k0_pay17 (stripeOf A ⟨t.val - 4, by have : t.val < 20 := t.isLt; omega⟩) H, incRows Inc (k0_off14 (grid0.coords t)) (k0_off14_inb _ ((cond16_iff t).mpr h4))⟩)
        -∗ wpc c (loadsB (grid0.coords t) w ((cond16_iff t).mpr h4)) Q) := by
  unfold loadsB
  have ht : t.val < 20 := t.isLt
  iintro ⟨HR, HH, HP⟩ Hk
  ihave HR := (ring_take c A t h4) $$ HR
  unfold Landed
  icases HR with ⟨⟨Hs, HS, HA⟩, HR⟩
  iapply (load_on c (stripeOf A ⟨t.val - 4, by omega⟩) (by rw [setOn_whole, rect_slot_set c _ _ (off13_eq t h4)])
    (by
      funext j
      show A _ = A _
      congr 1
      have e := off13_eq t h4
      funext a
      fin_cases a
      · refine Fin.ext ?_
        show 256 * (t.val - 4) + (k0_off13 (grid0.coords t) 1 + 1 * (j 1).val) = 256 * (t.val - 4) + (j 1).val
        have e1 : k0_off13 (grid0.coords t) 1 = 0 := congrFun e 1
        omega
      · refine Fin.ext ?_
        show k0_off13 (grid0.coords t) 2 + 1 * (j 2).val = (j 2).val
        have e2 : k0_off13 (grid0.coords t) 2 = 0 := congrFun e 2
        omega)) $$ HS
  iintro HS
  ihave HR := HR $$ [Hs HS HA]; · iframe
  iapply (load_full c) $$ HH; iintro HH
  ihave HP := (piece_take c Inc t.val ⟨(t.val - 4) / 4, by omega⟩ (by show (t.val - 4) / 4 < t.val; omega)) $$ HP
  unfold PHeld
  icases HP with ⟨⟨Hs, HS, HI⟩, HQ⟩
  iapply (load_on c (incRows Inc (k0_off14 (grid0.coords t)) (k0_off14_inb _ ((cond16_iff t).mpr h4)))
    (by rw [setOn_whole]; exact rect_rows_sub ((t.val - 4) / 4) (256 * (t.val - 4)) 256 _ (off14_eq t h4) _ rfl _ (by omega) (by omega)) rfl) $$ HS
  iintro HS
  ihave HP := HQ $$ [Hs HS HI]; · iframe
  iapply (wpc_pure c _)
  iapply Hk
  iframe

theorem part4_spec {Q : (Σ' (v38 : FVec F S256x128 .f32), Vec F S256x1024 .f32) → sProp 𝕄} (A : Vec F S4096x4096 .f32) (Inc : Vec F S4096x1024 .f32) (t : Fin cfg0.N)
    (h4 : 4 ≤ t.val) (w : Win) (H : Vec F S4096x128 .f32) :
    iprop(bigSep Finset.univ (fun b => RS c A b (mid t.val b)) ∗ owns (c : Thread nD τ) sH0 fullShare H ∗ bigSep Finset.univ (PM c Inc t.val) ∗ (∃ W, owes (c : Thread nD τ) 0 W) : sProp 𝕄)
      ⊢ iprop((iprop(bigSep Finset.univ (RW c A t) ∗ owns (c : Thread nD τ) sH0 fullShare H ∗ bigSep Finset.univ (PM c Inc t.val) ∗ (∃ W, owes (c : Thread nD τ) 0 W))
            -∗ Q ⟨k0_pay17 (stripeOf A ⟨t.val - 4, by have : t.val < 20 := t.isLt; omega⟩) H, incRows Inc (k0_off14 (grid0.coords t)) (k0_off14_inb _ ((cond16_iff t).mpr h4))⟩)
        -∗ wpc c (k0_part4 (grid0.coords t) w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8 (BitVec.ofNat 32 ((grid0.coords t) 0).val) ((cond16_iff t).mpr h4)) Q) := by
  rw [part4_eq]
  iintro ⟨HR, HH, HP, HW⟩ Hk
  iapply (adjWaits_spec c A t h4 _ _) $$ [HR HW]; · iframe
  iintro ⟨HR, HW⟩
  iapply (loadsB_spec c A Inc t h4 w H) $$ [HR HH HP]; · iframe
  iintro ⟨HR, HH, HP⟩
  iapply Hk
  iframe

/-- The last stage before the final normalization, from the stripe's product and the incidence's rows. -/
def v124Of (D : In F) (v38 : FVec F S256x128 .f32) (v41 : Vec F S256x1024 .f32) (P : Vec F S1024x128 .f32) : FVec F S512x64 .f32 :=
  k0_pay24 (k0_pay18 v38) (k0_pay19 v41 P) (k0_pay21 v38 v41 P) (k0_pay22 v38 v41 P D.x14 D.x15) (k0_pay23 v38 v41 P D.x16 D.x17 D.x18)
    D.x19 D.x20 D.x21 D.x22

theorem part5_spec {Q : (Σ' (v46 : FVec F S512x64 .f32) (v49 : FVec F S512x64 .f32) (v58 : FVec F S512x1 .f32) (v66 : FVec F S512x64 .f32), FVec F S512x1 .f32) → sProp 𝕄} (i : grid0.Coords) (w : Win)
    (D : In F) (v38 : FVec F S256x128 .f32) (v41 : Vec F S256x1024 .f32) (P : Vec F S1024x128 .f32) :
    iprop(InsB c w D ∗ owns (c : Thread nD τ) sPc fullShare P : sProp 𝕄)
      ⊢ iprop((iprop(InsB c w D ∗ owns (c : Thread nD τ) sPc fullShare P)
          -∗ Q ⟨k0_pay18 v38, k0_pay19 v41 P, k0_pay21 v38 v41 P, k0_pay22 v38 v41 P D.x14 D.x15, k0_pay23 v38 v41 P D.x16 D.x17 D.x18⟩)
        -∗ wpc c (k0_part5 i w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8 v38 v41) Q) := by
  rw [k0_part5_eq_skeleton]
  unfold k0_part5_skel InsB
  iintro ⟨⟨H14, H15, H16, H17, H18, HR⟩, HP⟩ Hk
  iapply (load_full c) $$ HP; iintro HP
  iapply (load_full c) $$ H14; iintro H14
  iapply (load_full c) $$ H15; iintro H15
  iapply (load_full c) $$ H16; iintro H16
  iapply (load_full c) $$ H17; iintro H17
  iapply (load_full c) $$ H18; iintro H18
  iapply (wpc_pure c _)
  iapply Hk
  iframe

theorem part6_spec {Q : (Σ' (v124 : FVec F S512x64 .f32), Vec F S1x64 .f32) → sProp 𝕄} (i : grid0.Coords) (w : Win)
    (D : In F) (v46 : FVec F S512x64 .f32) (v49 : FVec F S512x64 .f32) (v58 : FVec F S512x1 .f32) (v66 : FVec F S512x64 .f32) (v81 : FVec F S512x1 .f32) :
    (InsB c w D : sProp 𝕄)
      ⊢ iprop((InsB c w D -∗ Q ⟨k0_pay24 v46 v49 v58 v66 v81 D.x19 D.x20 D.x21 D.x22, D.x23⟩)
        -∗ wpc c (k0_part6 i w.arg1 w.harg1 w.arg2 w.harg2 hInc (Memref.isWhole_whole _) hAdj (Memref.isWhole_whole _) w.arg5 w.harg5 w.arg6 w.harg6 w.arg7 w.harg7 w.arg8 w.harg8 w.arg9 w.harg9 w.arg10 w.harg10 w.arg11 w.harg11 w.arg12 w.harg12 w.arg13 w.harg13 w.arg14 w.harg14 w.arg15 w.harg15 w.arg16 w.harg16 w.arg17 w.harg17 w.arg18 w.harg18 w.arg19 w.harg19 w.arg20 w.harg20 w.arg21 w.harg21 w.arg22 w.harg22 w.arg23 w.harg23 w.arg24 w.harg24 w.arg25 w.harg25 w.arg26 w.harg26 w.arg27 w.harg27 sInc (Memref.isWhole_whole _) sRing (Memref.isWhole_whole _) sH0 (Memref.isWhole_whole _) sAcc (Memref.isWhole_whole _) sPc (Memref.isWhole_whole _) sNw (Memref.isWhole_whole _) sCw (Memref.isWhole_whole _) cc0_scratch7 cc0_scratch8 v46 v49 v58 v66 v81) Q) := by
  rw [k0_part6_eq_skeleton]
  unfold k0_part6_skel InsB
  iintro ⟨H14, H15, H16, H17, H18, H19, H20, H21, H22, H23, HR⟩ Hk
  iapply (load_full c) $$ H19; iintro H19
  iapply (load_full c) $$ H20; iintro H20
  iapply (load_full c) $$ H21; iintro H21
  iapply (load_full c) $$ H22; iintro H22
  iapply (load_full c) $$ H23; iintro H23
  iapply (wpc_pure c _)
  iapply Hk
  iframe

/-- The output block: one slab per batch. -/
def outOf (D : In F) (v124 : FVec F S512x64 .f32) (O : Vec F S2x64x256 .f32) : Vec F S2x64x256 .f32 :=
  put (Rect.unit (s := S2x64x256) ![1, 0, 0] S1x64x256.size inb_S2x64x256_S1x64x256_1_0_0) (k0_pay11 (k0_pay27 v124 D.x23 D.x24 D.x25))
    (put (Rect.unit (s := S2x64x256) ![0, 0, 0] S1x64x256.size inb_S2x64x256_S1x64x256_0_0_0) (k0_pay26 v124 D.x23 D.x24 D.x25) O)

theorem secB_spec {Q : PUnit → sProp 𝕄} (A : Vec F S4096x4096 .f32) (Inc : Vec F S4096x1024 .f32) (t : Fin cfg0.N)
    (h4 : 4 ≤ t.val) (w : Win) (D : In F) (H : Vec F S4096x128 .f32) (P : Vec F S1024x128 .f32) (O : Vec F S2x64x256 .f32) (k : Body F) :
    iprop(InsB c w D ∗ bigSep Finset.univ (fun b => RS c A b (mid t.val b)) ∗ owns (c : Thread nD τ) sH0 fullShare H ∗ bigSep Finset.univ (PM c Inc t.val) ∗ (∃ W, owes (c : Thread nD τ) 0 W) ∗ owns (c : Thread nD τ) sPc fullShare P
        ∗ owns (c : Thread nD τ) w.arg26 fullShare O : sProp 𝕄)
      ⊢ iprop((iprop(InsB c w D ∗ bigSep Finset.univ (RW c A t) ∗ owns (c : Thread nD τ) sH0 fullShare H ∗ bigSep Finset.univ (PM c Inc t.val) ∗ (∃ W, owes (c : Thread nD τ) 0 W) ∗ owns (c : Thread nD τ) sPc fullShare P
            ∗ owns (c : Thread nD τ) w.arg26 fullShare (outOf D (v124Of D (k0_pay17 (stripeOf A ⟨t.val - 4, by have : t.val < 20 := t.isLt; omega⟩) H) (incRows Inc (k0_off14 (grid0.coords t)) (k0_off14_inb _ ((cond16_iff t).mpr h4))) P) O))
          -∗ wpc c k Q)
        -∗ wpc c (secB (grid0.coords t) w k) Q) := by
  unfold secB
  rw [dif_pos ((cond16_iff t).mpr h4), wpc_bind, k0_part7_eq_skeleton]
  unfold k0_part7_skel
  rw [wpc_bind]
  iintro ⟨HB, HR, HH, HP, HW, HC, HO⟩ Hk
  iapply (part4_spec c A Inc t h4 w H) $$ [HR HH HP HW]; · iframe
  iintro ⟨HR, HH, HP, HW⟩
  dsimp only
  rw [wpc_bind]
  iapply (part5_spec c (grid0.coords t) w D _ _ P) $$ [HB HC]; · iframe
  iintro ⟨HB, HC⟩
  dsimp only
  rw [wpc_bind]
  iapply (part6_spec c (grid0.coords t) w D _ _ _ _ _) $$ HB
  iintro HB
  dsimp only
  unfold InsB outOf v124Of
  icases HB with ⟨H14, H15, H16, H17, H18, H19, H20, H21, H22, H23, H24, H25⟩
  iapply (load_full c) $$ H24; iintro H24
  iapply (load_full c) $$ H25; iintro H25
  iapply (load_rect c) $$ HO; iintro HO
  iapply (store_rect c) $$ HO; iintro HO
  iapply (load_rect c) $$ HO; iintro HO
  iapply (wpc_pure c _)
  iapply (store_rect c) $$ HO; iintro HO
  iapply Hk
  iframe

theorem secB_skip (i : grid0.Coords) (hi : ¬ k0_cond16 i = 1#1) (w : Win) (k : Body F) : secB i w k = k := by
  unfold secB; rw [dif_neg hi]

end Cert.KernelIdeal.Run

end
-- ==== Proof.Run.Data.lean ====
/-
  The values the launch goes through, from the blocks the points are handed: the padded weights, the node features, the partial
  sums of the cells, the predicted cells, the entropy and the result's blocks; and the body's invariant.
-/
module

public import proofs.«01_k».proof.Proof.Run.PhaseA
public import proofs.«01_k».proof.Proof.Run.PhaseB

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD)

/-- A point by its number. -/
def pt20 (n : ℕ) : Fin cfg0.N := ⟨n % 20, Nat.mod_lt _ (by decide)⟩

theorem pt20_val (t : Fin cfg0.N) : pt20 t.val = t := Fin.ext (Nat.mod_eq_of_lt t.isLt)

section Values
omit c
variable (Ds : Fin cfg0.N → In F) (A : Vec F S4096x4096 .f32) (Inc : Vec F S4096x1024 .f32)

def nwV : Vec F S128x256 .f32 := nwOf (Ds (pt20 0)).x5
def cwV : Vec F S128x256 .f32 := cwOf (Ds (pt20 0)).x7

/-- All the node features. -/
def hFull : Vec F S4096x128 .f32 := fun i =>
  k0_pay5 (hOf (Ds (pt20 ((i 0).val / 1024))) (nwV Ds)) (ix2 (n0 := 1024) (n1 := 128) ⟨(i 0).val % 1024, Nat.mod_lt _ (by decide)⟩ (i 1))

/-- The incidence's rows of block `n`. -/
def incAt (n : ℕ) : Vec F S1024x1024 .f32 := fun j =>
  Inc (ix2 (n0 := 4096) (n1 := 1024) ⟨(1024 * n + (j 0).val) % 4096, Nat.mod_lt _ (by decide)⟩ (j 1))

/-- The incidence's rows of stripe `k`. -/
def rowsAt (k : Fin 16) : Vec F S256x1024 .f32 := fun j =>
  Inc (ix2 (n0 := 4096) (n1 := 1024) ⟨256 * k.val + (j 0).val, by have := k.isLt; have : (j 0).val < 256 := (j 0).isLt; omega⟩ (j 1))

/-- The partial sum of the cells after block `n`. -/
def accV : ℕ → Vec F S1024x128 .f32
  | 0 => k0_pay7 (xOf (Ds (pt20 0))) (cwV Ds) (incAt Inc 0)
  | n + 1 => k0_pay8 (xOf (Ds (pt20 (n + 1)))) (cwV Ds) (incAt Inc (n + 1)) (accV n)

def wV : FVec F S2048x64 .f32 := wOf (Ds (pt20 3)) (accV Ds Inc 3)
def pcV : Vec F S1024x128 .f32 := k0_pay9 (wV Ds Inc) (Ds (pt20 3)).x9
def entV : Vec F S1x1 .f32 := k0_pay10 (wV Ds Inc)

/-- A block of the result from the last stage. -/
def outBlk (D : In F) (v : FVec F S512x64 .f32) : Vec F S2x64x256 .f32 := fun i =>
  if (i 0).val = 0 then k0_pay26 v D.x23 D.x24 D.x25 (ix3 (n0 := 1) (n1 := 64) (n2 := 256) 0 (i 1) (i 2))
  else k0_pay11 (k0_pay27 v D.x23 D.x24 D.x25) (ix3 (n0 := 1) (n1 := 64) (n2 := 256) 0 (i 1) (i 2))

/-- The stripe of a point. -/
def strp (t : ℕ) : Fin 16 := ⟨(t - 4) % 16, Nat.mod_lt _ (by decide)⟩

def outV (t : Fin cfg0.N) : Vec F S2x64x256 .f32 :=
  outBlk (Ds t) (v124Of (Ds t) (k0_pay17 (stripeOf A (strp t.val)) (hFull Ds)) (rowsAt Inc (strp t.val)) (pcV Ds Inc))

theorem outBlk_0 (D : In F) (v : FVec F S512x64 .f32) (b : Fin 64) (d : Fin 256) :
    outBlk D v (ix3 (n0 := 2) (n1 := 64) (n2 := 256) 0 b d) = k0_pay26 v D.x23 D.x24 D.x25 (ix3 (n0 := 1) (n1 := 64) (n2 := 256) 0 b d) := rfl
theorem outBlk_1 (D : In F) (v : FVec F S512x64 .f32) (b : Fin 64) (d : Fin 256) :
    outBlk D v (ix3 (n0 := 2) (n1 := 64) (n2 := 256) 1 b d) = k0_pay11 (k0_pay27 v D.x23 D.x24 D.x25) (ix3 (n0 := 1) (n1 := 64) (n2 := 256) 0 b d) := rfl

theorem outOf_eq (D : In F) (v : FVec F S512x64 .f32) (O : Vec F S2x64x256 .f32) : outOf D v O = outBlk D v := by
  funext i
  obtain ⟨a, b, d, rfl⟩ : ∃ (a : Fin 2) (b : Fin 64) (d : Fin 256), i = ix3 a b d := ⟨i 0, i 1, i 2, eq_ix3 i⟩
  unfold outOf
  by_cases h : a = 0
  · subst h
    rw [outBlk_0, put_of_not_mem _ _ _ _ (by
      rw [Rect.mem_set_unit]
      intro hh
      have h1 : (1 : ℕ) ≤ 0 := (hh 0).1
      omega)]
    have e : ix3 (n0 := 2) (n1 := 64) (n2 := 256) 0 b d = (Rect.unit (s := S2x64x256) ![0, 0, 0] S1x64x256.size inb_S2x64x256_S1x64x256_0_0_0).emb (ix3 (n0 := 1) (n1 := 64) (n2 := 256) 0 b d) := by
      funext x
      fin_cases x
      · rfl
      · refine Fin.ext ?_
        show b.val = 0 + 1 * b.val
        omega
      · refine Fin.ext ?_
        show d.val = 0 + 1 * d.val
        omega
    conv_lhs => rw [e]
    rw [put_emb]
  · have h1 : a = 1 := by omega
    subst h1
    rw [outBlk_1]
    have e : ix3 (n0 := 2) (n1 := 64) (n2 := 256) 1 b d = (Rect.unit (s := S2x64x256) ![1, 0, 0] S1x64x256.size inb_S2x64x256_S1x64x256_1_0_0).emb (ix3 (n0 := 1) (n1 := 64) (n2 := 256) 0 b d) := by
      funext x
      fin_cases x
      · rfl
      · refine Fin.ext ?_
        show b.val = 0 + 1 * b.val
        omega
      · refine Fin.ext ?_
        show d.val = 0 + 1 * d.val
        omega
    conv_lhs => rw [e]
    rw [put_emb]

theorem incBlk_eq (t : Fin cfg0.N) (h4 : t.val < 4) (inb : ∀ a, k0_off7 (grid0.coords t) a + S1024x1024.size a ≤ S4096x1024.size a) :
    incBlk Inc (k0_off7 (grid0.coords t)) inb = incAt Inc t.val := by
  funext j
  unfold incBlk incAt
  congr 1
  have e := off7_eq t
  funext a
  fin_cases a
  · refine Fin.ext ?_
    show k0_off7 (grid0.coords t) 0 + 1 * (j 0).val = (1024 * t.val + (j 0).val) % 4096
    have e0 : k0_off7 (grid0.coords t) 0 = 1024 * t.val := congrFun e 0
    have : (j 0).val < 1024 := (j 0).isLt
    omega
  · refine Fin.ext ?_
    show k0_off7 (grid0.coords t) 1 + 1 * (j 1).val = (j 1).val
    have e1 : k0_off7 (grid0.coords t) 1 = 0 := congrFun e 1
    omega

theorem incRows_eq (t : Fin cfg0.N) (h4 : 4 ≤ t.val) (inb : ∀ a, k0_off14 (grid0.coords t) a + S256x1024.size a ≤ S4096x1024.size a) :
    incRows Inc (k0_off14 (grid0.coords t)) inb = rowsAt Inc (strp t.val) := by
  funext j
  unfold incRows rowsAt strp
  congr 1
  have e := off14_eq t h4
  have ht : t.val < 20 := t.isLt
  funext a
  fin_cases a
  · refine Fin.ext ?_
    show k0_off14 (grid0.coords t) 0 + 1 * (j 0).val = 256 * ((t.val - 4) % 16) + (j 0).val
    have e0 : k0_off14 (grid0.coords t) 0 = 256 * (t.val - 4) := congrFun e 0
    omega
  · refine Fin.ext ?_
    show k0_off14 (grid0.coords t) 1 + 1 * (j 1).val = (j 1).val
    have e1 : k0_off14 (grid0.coords t) 1 = 0 := congrFun e 1
    omega

theorem strp_eq (t : Fin cfg0.N) (h : t.val - 4 < 16) : (⟨t.val - 4, h⟩ : Fin 16) = strp t.val := Fin.ext (Nat.mod_eq_of_lt h).symm

/-- One more block of node features. -/
theorem hFull_step (t : Fin cfg0.N) (h4 : t.val < 4) (inb : ∀ a, k0_off6 (grid0.coords t) a + S1024x128.size a ≤ S4096x128.size a) (H : Vec F S4096x128 .f32)
    (hH : ∀ i : S4096x128.Idx, (i 0).val < 1024 * t.val → H i = hFull Ds i) (i : S4096x128.Idx) (hi : (i 0).val < 1024 * (t.val + 1)) :
    put (Rect.unit (s := S4096x128) (k0_off6 (grid0.coords t)) S1024x128.size inb) (k0_pay5 (hOf (Ds t) (nwV Ds))) H i = hFull Ds i := by
  have e := off6_eq t
  have e0 : k0_off6 (grid0.coords t) 0 = 1024 * t.val := congrFun e 0
  have e1 : k0_off6 (grid0.coords t) 1 = 0 := congrFun e 1
  by_cases h : (i 0).val < 1024 * t.val
  · rw [put_of_not_mem _ _ _ _ (by
      rw [Rect.mem_set_unit]
      intro hh
      have := (hh 0).1
      omega)]
    exact hH i h
  · have hx : i = (Rect.unit (s := S4096x128) (k0_off6 (grid0.coords t)) S1024x128.size inb).emb
        (ix2 (n0 := 1024) (n1 := 128) ⟨(i 0).val % 1024, Nat.mod_lt _ (by decide)⟩ (i 1)) := by
      funext x
      fin_cases x
      · refine Fin.ext ?_
        show (i 0).val = k0_off6 (grid0.coords t) 0 + 1 * ((i 0).val % 1024)
        omega
      · refine Fin.ext ?_
        show (i 1).val = k0_off6 (grid0.coords t) 1 + 1 * (i 1).val
        omega
    have hd : (i 0).val / 1024 = t.val := by omega
    conv_lhs => rw [hx]
    rw [put_emb]
    unfold hFull
    rw [hd, pt20_val]

theorem acc_step (t : Fin cfg0.N) (h4 : t.val < 4) (inb : ∀ a, k0_off7 (grid0.coords t) a + S1024x1024.size a ≤ S4096x1024.size a) (Y : Vec F S1024x128 .f32)
    (hY : 1 ≤ t.val → Y = accV Ds Inc (t.val - 1)) :
    accOf (t.val = 0) (xOf (Ds t)) (cwV Ds) (incBlk Inc (k0_off7 (grid0.coords t)) inb) Y = accV Ds Inc t.val := by
  rw [incBlk_eq Inc t h4]
  unfold accOf
  by_cases h : t.val = 0
  · rw [if_pos h, h]
    have : t = pt20 0 := by rw [← h, pt20_val]
    rw [this]; rfl
  · rw [if_neg h, hY (by omega)]
    obtain ⟨n, hn⟩ : ∃ n, t.val = n + 1 := ⟨t.val - 1, by omega⟩
    have : t = pt20 (n + 1) := by rw [← hn, pt20_val]
    rw [hn, this]; rfl

end Values

/-! ## The invariant -/

variable (Ds : Fin cfg0.N → In F) (A : Vec F S4096x4096 .f32) (Inc : Vec F S4096x1024 .f32)

def hSt (t : ℕ) : sProp 𝕄 := iprop(∃ H : Vec F S4096x128 .f32, ⌜∀ i : S4096x128.Idx, (i 0).val < 1024 * t → H i = hFull Ds i⌝ ∗ owns (c : Thread nD τ) sH0 fullShare H)
def aSt (t : ℕ) : sProp 𝕄 := iprop(∃ Y : Vec F S1024x128 .f32, ⌜1 ≤ t → t ≤ 4 → Y = accV Ds Inc (t - 1)⌝ ∗ owns (c : Thread nD τ) sAcc fullShare Y)
def pSt (t : ℕ) : sProp 𝕄 := iprop(∃ P : Vec F S1024x128 .f32, ⌜4 ≤ t → P = pcV Ds Inc⌝ ∗ owns (c : Thread nD τ) sPc fullShare P)
def nSt (t : ℕ) : sProp 𝕄 := iprop(∃ N : Vec F S128x256 .f32, ⌜t ≠ 0 → N = nwV Ds⌝ ∗ owns (c : Thread nD τ) sNw fullShare N)
def cSt (t : ℕ) : sProp 𝕄 := iprop(∃ C : Vec F S128x256 .f32, ⌜t ≠ 0 → C = cwV Ds⌝ ∗ owns (c : Thread nD τ) sCw fullShare C)

def Inv (t : ℕ) : sProp 𝕄 :=
  iprop(bigSep Finset.univ (fun b => RS c A b (st t b)) ∗ bigSep Finset.univ (PS c Inc t) ∗ hSt c Ds t ∗ aSt c Ds Inc t ∗ pSt c Ds Inc t ∗ nSt c Ds t ∗ cSt c Ds t)

def Ins (w : Win) (D : In F) : sProp 𝕄 := iprop(InsInit c w D ∗ InsA c w D ∗ InsC c w D ∗ InsB c w D)

theorem PM_late (t : ℕ) (h : 4 ≤ t) : (PM c Inc t : Fin 4 → sProp 𝕄) = PM c Inc (t + 1) := by
  funext p; have := p.isLt; unfold PM; rw [if_neg (by omega), if_neg (by omega)]

/-! ## The body, section by section -/

theorem initStep {Q : PUnit → sProp 𝕄} (t : Fin cfg0.N) (w : Win) (k : Body F) :
    iprop(InsInit c w (Ds t) ∗ nSt c Ds t.val ∗ cSt c Ds t.val ∗ bigSep Finset.univ (PS c Inc t.val) : sProp 𝕄)
      ⊢ iprop((iprop(InsInit c w (Ds t) ∗ owns (c : Thread nD τ) sNw fullShare (nwV Ds) ∗ owns (c : Thread nD τ) sCw fullShare (cwV Ds) ∗ bigSep Finset.univ (PM c Inc t.val)) -∗ wpc c k Q)
        -∗ wpc c (secInit (grid0.coords t) w k) Q) := by
  unfold nSt cSt
  by_cases h : t.val = 0
  · have ht : t = pt20 0 := by rw [← h, pt20_val]
    rw [show (PS c Inc t.val : Fin 4 → sProp 𝕄) = PFree c Inc from by funext p; unfold PS; rw [if_pos h],
      show (PM c Inc t.val : Fin 4 → sProp 𝕄) = PFlying c Inc from by funext p; unfold PM; rw [if_pos (by omega)]]
    unfold nwV cwV
    rw [← ht]
    iintro ⟨HI, ⟨%N, -, HN⟩, ⟨%C, -, HC⟩, HP⟩ Hk
    iapply (secInit_first c Inc (grid0.coords t) ((isPt0 t).mpr h) w (Ds t) k) $$ [HI HN HC HP]
    · isplitl [HI]; · iexact HI
      isplitl [HN]; · iexists _; iexact HN
      isplitl [HC]; · iexists _; iexact HC
      iexact HP
    iintro H
    iapply Hk $$ H
  · rw [PS_eq c Inc t.val h, secInit_skip _ (fun hh => h ((isPt0 t).mp hh))]
    iintro ⟨HI, ⟨%N, %hN, HN⟩, ⟨%C, %hC, HC⟩, HP⟩ Hk
    rw [hN h, hC h]
    iapply Hk
    iframe

theorem cellsStep {Q : PUnit → sProp 𝕄} (t : Fin cfg0.N) (h4 : t.val < 4) (w : Win) (E : Vec F S1x1 .f32) (k : Body F) :
    iprop(InsC c w (Ds t) ∗ owns (c : Thread nD τ) sAcc fullShare (accV Ds Inc t.val) ∗ pSt c Ds Inc t.val ∗ owns (c : Thread nD τ) w.arg27 fullShare E : sProp 𝕄)
      ⊢ iprop((iprop(InsC c w (Ds t) ∗ owns (c : Thread nD τ) sAcc fullShare (accV Ds Inc t.val) ∗ pSt c Ds Inc (t.val + 1)
          ∗ owns (c : Thread nD τ) w.arg27 fullShare (if t.val = 3 then entV Ds Inc else E)) -∗ wpc c k Q)
        -∗ wpc c (cells (grid0.coords t) w k) Q) := by
  unfold pSt
  by_cases h : t.val = 3
  · have ht : t = pt20 3 := by rw [← h, pt20_val]
    rw [if_pos h, h]
    unfold pcV entV wV
    rw [← ht]
    iintro ⟨HI, HA, ⟨%P, -, HP⟩, HE⟩ Hk
    iapply (cells_spec c (grid0.coords t) ((cond15_iff t).mpr h) w (Ds t) (accV Ds Inc 3) k) $$ [HI HA HP HE]
    · isplitl [HI]; · iexact HI
      isplitl [HA]; · iexact HA
      isplitl [HP]; · iexists _; iexact HP
      iexists _; iexact HE
    iintro ⟨HI, HA, HP, HE⟩
    iapply Hk
    isplitl [HI]; · iexact HI
    isplitl [HA]; · iexact HA
    isplitl [HP]
    · iexists _
      isplitr
      swap; · iexact HP
      ipureintro; intro _; rfl
    iexact HE
  · rw [if_neg h, cells_skip _ (fun hh => h ((cond15_iff t).mp hh))]
    iintro ⟨HI, HA, ⟨%P, -, HP⟩, HE⟩ Hk
    iapply Hk
    isplitl [HI]; · iexact HI
    isplitl [HA]; · iexact HA
    isplitl [HP]
    · iexists P
      isplitr
      swap; · iexact HP
      ipureintro; intro hh; exact absurd hh (by omega)
    iexact HE

theorem aStep {Q : PUnit → sProp 𝕄} (t : Fin cfg0.N) (w : Win) (E : Vec F S1x1 .f32) (k : Body F) :
    iprop(InsA c w (Ds t) ∗ InsC c w (Ds t) ∗ owns (c : Thread nD τ) sNw fullShare (nwV Ds) ∗ owns (c : Thread nD τ) sCw fullShare (cwV Ds)
        ∗ hSt c Ds t.val ∗ aSt c Ds Inc t.val ∗ pSt c Ds Inc t.val ∗ bigSep Finset.univ (PM c Inc t.val) ∗ (∃ W, owes (c : Thread nD τ) 0 W)
        ∗ owns (c : Thread nD τ) w.arg27 fullShare E : sProp 𝕄)
      ⊢ iprop((iprop(InsA c w (Ds t) ∗ InsC c w (Ds t) ∗ owns (c : Thread nD τ) sNw fullShare (nwV Ds) ∗ owns (c : Thread nD τ) sCw fullShare (cwV Ds)
          ∗ hSt c Ds (t.val + 1) ∗ aSt c Ds Inc (t.val + 1) ∗ pSt c Ds Inc (t.val + 1) ∗ bigSep Finset.univ (PM c Inc (t.val + 1)) ∗ (∃ W, owes (c : Thread nD τ) 0 W)
          ∗ owns (c : Thread nD τ) w.arg27 fullShare (if t.val = 3 then entV Ds Inc else E)) -∗ wpc c k Q)
        -∗ wpc c (secA (grid0.coords t) w k) Q) := by
  by_cases h4 : t.val < 4
  · unfold hSt aSt
    iintro ⟨HA, HC, HNw, HCw, ⟨%H, %hH, HH⟩, ⟨%Y, %hY, HY⟩, HP, HM, HW, HE⟩ Hk
    iapply (secA_spec c Inc t h4 w (Ds t) (nwV Ds) (cwV Ds) H Y k) $$ [HA HNw HCw HH HY HM HW]; · iframe
    iintro ⟨HA, HNw, HCw, HH, HY, HM, HW⟩
    rw [acc_step Ds Inc t h4 _ Y (fun h1 => hY h1 (by omega))]
    iapply (cellsStep c Ds Inc t h4 w E k) $$ [HC HY HP HE]; · iframe
    iintro ⟨HC, HY, HP, HE⟩
    iapply Hk
    isplitl [HA]; · iexact HA
    isplitl [HC]; · iexact HC
    isplitl [HNw]; · iexact HNw
    isplitl [HCw]; · iexact HCw
    isplitl [HH]
    · iexists _
      isplitr
      swap; · iexact HH
      ipureintro; exact hFull_step Ds t h4 _ H hH
    isplitl [HY]
    · iexists _
      isplitr
      swap; · iexact HY
      ipureintro; intro _ _; rfl
    iframe
  · rw [secA_skip _ (fun hh => h4 ((cond8_iff t).mp hh)), if_neg (by omega), PM_late c Inc t.val (by omega)]
    unfold hSt aSt pSt
    iintro ⟨HA, HC, HNw, HCw, ⟨%H, %hH, HH⟩, ⟨%Y, %hY, HY⟩, ⟨%P, %hP, HP⟩, HM, HW, HE⟩ Hk
    iapply Hk
    isplitl [HA]; · iexact HA
    isplitl [HC]; · iexact HC
    isplitl [HNw]; · iexact HNw
    isplitl [HCw]; · iexact HCw
    isplitl [HH]
    · iexists _
      isplitr
      swap; · iexact HH
      ipureintro; intro i hi; exact hH i (by have : (i 0).val < 4096 := (i 0).isLt; omega)
    isplitl [HY]
    · iexists _
      isplitr
      swap; · iexact HY
      ipureintro; intro _ hh; exact absurd hh (by omega)
    isplitl [HP]
    · iexists _
      isplitr
      swap; · iexact HP
      ipureintro; intro _; exact hP (by omega)
    iframe

theorem bStep {Q : PUnit → sProp 𝕄} (t : Fin cfg0.N) (w : Win) (O : Vec F S2x64x256 .f32) (k : Body F) :
    iprop(InsB c w (Ds t) ∗ bigSep Finset.univ (fun b => RS c A b (mid t.val b)) ∗ hSt c Ds (t.val + 1) ∗ bigSep Finset.univ (PM c Inc (t.val + 1)) ∗ (∃ W, owes (c : Thread nD τ) 0 W)
        ∗ pSt c Ds Inc (t.val + 1) ∗ owns (c : Thread nD τ) w.arg26 fullShare O : sProp 𝕄)
      ⊢ iprop((iprop(InsB c w (Ds t) ∗ bigSep Finset.univ (fun b => RS c A b (st (t.val + 1) b)) ∗ hSt c Ds (t.val + 1) ∗ bigSep Finset.univ (PM c Inc (t.val + 1)) ∗ (∃ W, owes (c : Thread nD τ) 0 W)
          ∗ pSt c Ds Inc (t.val + 1) ∗ owns (c : Thread nD τ) w.arg26 fullShare (if 4 ≤ t.val then outV Ds A Inc t else O)) -∗ wpc c k Q)
        -∗ wpc c (secB (grid0.coords t) w k) Q) := by
  by_cases h4 : 4 ≤ t.val
  · rw [if_pos h4, ← PM_late c Inc t.val h4]
    unfold hSt pSt
    iintro ⟨HB, HR, ⟨%H, %hH, HH⟩, HM, HW, ⟨%P, %hP, HP⟩, HO⟩ Hk
    iapply (secB_spec c A Inc t h4 w (Ds t) H P O k) $$ [HB HR HH HM HW HP HO]; · iframe
    iintro ⟨HB, HR, HH, HM, HW, HP, HO⟩
    ihave HR := (ring_next c A t) $$ HR
    have eH : H = hFull Ds := funext fun i => hH i (by have : (i 0).val < 4096 := (i 0).isLt; omega)
    rw [outOf_eq, incRows_eq Inc t h4, strp_eq t (by have : t.val < 20 := t.isLt; omega), hP (by omega), eH]
    iapply Hk
    isplitl [HB]; · iexact HB
    isplitl [HR]; · iexact HR
    isplitl [HH]
    · iexists _
      isplitr
      swap; · iexact HH
      ipureintro; intro _ _; rfl
    isplitl [HM]; · iexact HM
    isplitl [HW]; · iexact HW
    isplitl [HP]
    · iexists _
      isplitr
      swap; · iexact HP
      ipureintro; intro _; rfl
    iexact HO
  · rw [secB_skip _ (fun hh => h4 ((cond16_iff t).mp hh)), if_neg h4]
    iintro ⟨HB, HR, HH, HM, HW, HP, HO⟩ Hk
    ihave HR := (ring_next_early c A t (by omega)) $$ HR
    iapply Hk
    iframe

/-- The whole body at a point. -/
theorem body_spec (t : Fin cfg0.N) (w : Win) (O : Vec F S2x64x256 .f32) (E : Vec F S1x1 .f32) :
    iprop(Inv c Ds A Inc t.val ∗ (∃ W, owes (c : Thread nD τ) 0 W) ∗ Ins c w (Ds t) ∗ owns (c : Thread nD τ) w.arg26 fullShare O ∗ owns (c : Thread nD τ) w.arg27 fullShare E : sProp 𝕄)
      ⊢ wpc c (secInit (grid0.coords t) w (secIssue (grid0.coords t) (secA (grid0.coords t) w (secB (grid0.coords t) w (pure ⟨⟩)))))
          (fun _ => iprop(Inv c Ds A Inc (t.val + 1) ∗ (∃ W, owes (c : Thread nD τ) 0 W) ∗ Ins c w (Ds t)
            ∗ owns (c : Thread nD τ) w.arg26 fullShare (if 4 ≤ t.val then outV Ds A Inc t else O)
            ∗ owns (c : Thread nD τ) w.arg27 fullShare (if t.val = 3 then entV Ds Inc else E))) := by
  unfold Inv Ins
  iintro ⟨⟨HR, HP, Hh, Ha, Hp, Hn, Hc⟩, HW, ⟨HI0, HIA, HIC, HIB⟩, HO, HE⟩
  iapply (initStep c Ds Inc t w _) $$ [HI0 Hn Hc HP]; · iframe
  iintro ⟨HI0, Hn, Hc, HP⟩
  iapply (secIssue_spec c A t _) $$ HR
  iintro HR
  iapply (aStep c Ds Inc t w E _) $$ [HIA HIC Hn Hc Hh Ha Hp HP HW HE]; · iframe
  iintro ⟨HIA, HIC, Hn, Hc, Hh, Ha, Hp, HP, HW, HE⟩
  iapply (bStep c Ds A Inc t w O _) $$ [HIB HR Hh HP HW Hp HO]; · iframe
  iintro ⟨HIB, HR, Hh, HP, HW, Hp, HO⟩
  iapply (wpc_pure c _)
  rw [PS_eq c Inc (t.val + 1) (by omega)]
  isplitl [HR HP Hh Ha Hp Hn Hc]
  · isplitl [HR]; · iexact HR
    isplitl [HP]; · iexact HP
    isplitl [Hh]; · iexact Hh
    isplitl [Ha]; · iexact Ha
    isplitl [Hp]; · iexact Hp
    isplitl [Hn]
    · unfold nSt; iexists _
      isplitr
      swap; · iexact Hn
      ipureintro; intro _; rfl
    unfold cSt; iexists _
    isplitr
    swap; · iexact Hc
    ipureintro; intro _; rfl
  iframe

end Cert.KernelIdeal.Run

end
-- ==== Proof.Run.Share.lean ====
/-
  The scratch buffers and the two operands left in HBM shared out among the transfers at the launch, and joined back at the end.
-/
module

public import proofs.«01_k».proof.Proof.Run.Data
public import Idealize.ShloMosaic.Lib.Ring

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD)

/-! ## The ring -/

theorem slot_disj : ∀ b b' : Fin 5, b ≠ b' → Disjoint (slotSet c b.val) (slotSet c b'.val) := by
  intro b b' h
  rw [Finset.disjoint_left]
  intro i hi hi'
  unfold slotSet at hi hi'
  rw [Finset.mem_filter] at hi hi'
  exact h (Fin.ext (hi.2.symm.trans hi'.2))

theorem slot_cover : Finset.univ.biUnion (fun b : Fin 5 => slotSet c b.val) = Finset.univ := by
  ext i
  rw [Finset.mem_biUnion]
  refine ⟨fun _ => Finset.mem_univ _, fun _ => ⟨(i : S5x256x4096.Idx) 0, Finset.mem_univ _, ?_⟩⟩
  unfold slotSet
  rw [Finset.mem_filter]
  exact ⟨Finset.mem_univ _, rfl⟩

theorem ring_blocks (f : BufOf (F := F) c sRing) :
    (pt c sRing f : sProp 𝕄) ⊢ bigSep Finset.univ (fun b : Fin 5 => iprop(∃ f, sRing.view.loc (c : Thread nD τ) ↦[slotSet c b]{fullShare} f)) := by
  have e := Ring.pointsTo_blocks (Ix := Unit) (Name := ℕ) (U := Pipeline.UD sig nD τ) (Lvl := ℕ) (fun b : Fin 5 => slotSet c b.val) (slot_disj c) (slot_cover c) (q := fullShare) f
  show (sRing.view.loc (c : Thread nD τ) ↦{fullShare} f : sProp 𝕄) ⊢ _
  rw [e]
  refine bigSep_mono fun b _ => ?_
  show (sRing.view.loc (c : Thread nD τ) ↦[slotSet c b]{fullShare} f : sProp 𝕄) ⊢ iprop(∃ f, sRing.view.loc (c : Thread nD τ) ↦[slotSet c b]{fullShare} f)
  iintro H
  iexists f
  iexact H

def cellsR : sProp 𝕄 := bigSep Finset.univ (fun b : Fin 5 => semVal ((c : Thread nD τ), SemLoc.dma (cell b)) 0)
def cellsI : sProp 𝕄 := bigSep Finset.univ (fun p : Fin 4 => semVal ((c : Thread nD τ), SemLoc.dma (cellI p)) 0)
def restA (A : BufOf (F := F) c hAdj) : sProp 𝕄 := hAdj.view.loc (c : Thread nD τ) ↦{shareDrop fullShare 5} A

theorem ring_split (A : BufOf (F := F) c hAdj) :
    iprop((∃ f, pt c sRing f) ∗ cellsR (F := F) c ∗ pt c hAdj A : sProp 𝕄) ⊢ iprop(bigSep Finset.univ (fun b => RS c A b none) ∗ restA c A) := by
  have e : (fun b => RS c A b none : Fin 5 → sProp 𝕄) = fun b => iprop(semVal ((c : Thread nD τ), SemLoc.dma (cell b)) 0 ∗ (∃ f, sRing.view.loc (c : Thread nD τ) ↦[slotSet c b]{fullShare} f)
    ∗ (hAdj.view.loc (c : Thread nD τ) ↦{shareTok fullShare 5 b} A)) := rfl
  rw [e, bigSep_sep', bigSep_sep']
  unfold cellsR restA
  iintro ⟨⟨%f, HR⟩, HS, HA⟩
  ihave HR := (ring_blocks c f) $$ HR
  ihave HA := (pointsTo_toks_split fullShare 5) $$ HA
  icases HA with ⟨HA, HT⟩
  iframe

theorem ring_join (A : BufOf (F := F) c hAdj) :
    iprop(bigSep Finset.univ (fun b => RS c A b none) ∗ restA c A : sProp 𝕄) ⊢ iprop((∃ f, pt c sRing f) ∗ cellsR (F := F) c ∗ pt c hAdj A) := by
  have e : (fun b => RS c A b none : Fin 5 → sProp 𝕄) = fun b => iprop(semVal ((c : Thread nD τ), SemLoc.dma (cell b)) 0 ∗ (∃ f, sRing.view.loc (c : Thread nD τ) ↦[slotSet c b]{fullShare} f)
    ∗ (hAdj.view.loc (c : Thread nD τ) ↦{shareTok fullShare 5 b} A)) := rfl
  rw [e, bigSep_sep', bigSep_sep']
  unfold cellsR restA
  iintro ⟨⟨HS, HR, HT⟩, HA⟩
  ihave HR := (Ring.pointsTo_blocks_join_exists (Ix := Unit) (Name := ℕ) (U := Pipeline.UD sig nD τ) (Lvl := ℕ) (fun b : Fin 5 => slotSet c b.val) (slot_disj c) (slot_cover c) (q := fullShare) (ringVec A 0)) $$ HR
  ihave HA := (pointsTo_toks_join fullShare 5) $$ [HA HT]; · iframe
  iframe

/-! ## The incidence -/

theorem piece_disj : ∀ b b' : Fin 4, b ≠ b' → Disjoint (pieceIdx b.val) (pieceIdx b'.val) := by
  intro b b' h
  rw [Finset.disjoint_left]
  intro i hi hi'
  unfold pieceIdx at hi hi'
  rw [Finset.mem_filter] at hi hi'
  exact h (Fin.ext (by omega))

theorem piece_cover : Finset.univ.biUnion (fun b : Fin 4 => pieceIdx b.val) = Finset.univ := by
  ext i
  rw [Finset.mem_biUnion]
  have h : (i 0).val < 4096 := (i 0).isLt
  refine ⟨fun _ => Finset.mem_univ _, fun _ => ⟨⟨(i 0).val / 1024, by omega⟩, Finset.mem_univ _, ?_⟩⟩
  unfold pieceIdx
  rw [Finset.mem_filter]
  exact ⟨Finset.mem_univ _, by show 1024 * ((i 0).val / 1024) ≤ (i 0).val ∧ (i 0).val < 1024 * ((i 0).val / 1024) + 1024; omega⟩

theorem inc_blocks (f : BufOf (F := F) c sInc) :
    (pt c sInc f : sProp 𝕄) ⊢ bigSep Finset.univ (fun b : Fin 4 => iprop(∃ f, sInc.view.loc (c : Thread nD τ) ↦[pieceS c b]{fullShare} f)) := by
  have e := Ring.pointsTo_blocks (Ix := Unit) (Name := ℕ) (U := Pipeline.UD sig nD τ) (Lvl := ℕ) (ℓ := sInc.view.loc (c : Thread nD τ)) (fun b : Fin 4 => pieceS c b.val) piece_disj piece_cover (q := fullShare) f
  show (sInc.view.loc (c : Thread nD τ) ↦{fullShare} f : sProp 𝕄) ⊢ _
  rw [e]
  refine bigSep_mono fun b _ => ?_
  show (sInc.view.loc (c : Thread nD τ) ↦[pieceS c b]{fullShare} f : sProp 𝕄) ⊢ iprop(∃ f, sInc.view.loc (c : Thread nD τ) ↦[pieceS c b]{fullShare} f)
  iintro H
  iexists f
  iexact H

theorem hInc_blocks (f : BufOf (F := F) c hInc) :
    (pt c hInc f : sProp 𝕄) = bigSep Finset.univ (fun b : Fin 4 => iprop(hInc.view.loc (c : Thread nD τ) ↦[pieceH c b]{fullShare} f)) :=
  Ring.pointsTo_blocks (Ix := Unit) (Name := ℕ) (U := Pipeline.UD sig nD τ) (Lvl := ℕ) (ℓ := hInc.view.loc (c : Thread nD τ)) (fun b : Fin 4 => pieceH c b.val) piece_disj piece_cover (q := fullShare) f

theorem pieces_split (Inc : Vec F S4096x1024 .f32) :
    iprop((∃ f, pt c sInc f) ∗ cellsI (F := F) c ∗ pt c hInc Inc : sProp 𝕄) ⊢ bigSep Finset.univ (PS c Inc 0) := by
  have e : (PS c Inc 0 : Fin 4 → sProp 𝕄) = fun p => iprop(semVal ((c : Thread nD τ), SemLoc.dma (cellI p)) 0 ∗ (∃ f, sInc.view.loc (c : Thread nD τ) ↦[pieceS c p]{fullShare} f)
    ∗ (hInc.view.loc (c : Thread nD τ) ↦[pieceH c p]{fullShare} Inc)) := rfl
  rw [e, bigSep_sep', bigSep_sep', hInc_blocks]
  unfold cellsI
  iintro ⟨⟨%f, HR⟩, HS, HA⟩
  ihave HR := (inc_blocks c f) $$ HR
  iframe

theorem pieces_join (Inc : Vec F S4096x1024 .f32) :
    (bigSep Finset.univ (PS c Inc 20) : sProp 𝕄) ⊢ iprop((∃ f, pt c sInc f) ∗ cellsI (F := F) c ∗ pt c hInc Inc) := by
  have e : (PS c Inc 20 : Fin 4 → sProp 𝕄) = fun p => iprop(semVal ((c : Thread nD τ), SemLoc.dma (cellI p)) 0 ∗ (sInc.view.loc (c : Thread nD τ) ↦[pieceS c p]{fullShare} Inc)
    ∗ (hInc.view.loc (c : Thread nD τ) ↦[pieceH c p]{fullShare} Inc)) := by
    funext p; have := p.isLt; unfold PS; rw [if_neg (by omega), if_neg (by omega)]; rfl
  rw [e, bigSep_sep', bigSep_sep', hInc_blocks]
  unfold cellsI
  iintro ⟨HS, HR, HA⟩
  ihave HR := (Ring.pointsTo_blocks_join (Ix := Unit) (Name := ℕ) (U := Pipeline.UD sig nD τ) (Lvl := ℕ) (ℓ := sInc.view.loc (c : Thread nD τ)) (fun b : Fin 4 => pieceS c b.val) piece_disj piece_cover (q := fullShare) (fun _ => Inc) Inc) $$ HR
  iframe

/-! ## Entry and exit -/

variable (Ds : Fin cfg0.N → In F) (A : Vec F S4096x4096 .f32) (Inc : Vec F S4096x1024 .f32)

def Phi (t : ℕ) : sProp 𝕄 := iprop(Inv c Ds A Inc t ∗ restA c A ∗ ∃ r, prngReg c r)

def Handed : sProp 𝕄 :=
  iprop(iprop((∃ f, pt c sInc f) ∗ (∃ f, pt c sRing f) ∗ (∃ f, pt c sH0 f) ∗ (∃ f, pt c sAcc f) ∗ (∃ f, pt c sPc f) ∗ (∃ f, pt c sNw f) ∗ (∃ f, pt c sCw f))
    ∗ (∃ r, prngReg c r)
    ∗ iprop(semVal ((c : Thread nD τ), SemLoc.dma 28) 0 ∗ semVal ((c : Thread nD τ), SemLoc.dma 29) 0 ∗ semVal ((c : Thread nD τ), SemLoc.dma 30) 0
        ∗ semVal ((c : Thread nD τ), SemLoc.dma 31) 0 ∗ semVal ((c : Thread nD τ), SemLoc.dma 32) 0 ∗ semVal ((c : Thread nD τ), SemLoc.dma 33) 0
        ∗ semVal ((c : Thread nD τ), SemLoc.dma 34) 0 ∗ semVal ((c : Thread nD τ), SemLoc.dma 35) 0 ∗ semVal ((c : Thread nD τ), SemLoc.dma 36) 0)
    ∗ iprop(pt c hAdj A ∗ pt c hInc Inc))

theorem cellsR_eq : (cellsR c : sProp 𝕄) = iprop(semVal ((c : Thread nD τ), SemLoc.dma 32) 0 ∗ semVal ((c : Thread nD τ), SemLoc.dma 33) 0
    ∗ semVal ((c : Thread nD τ), SemLoc.dma 34) 0 ∗ semVal ((c : Thread nD τ), SemLoc.dma 35) 0 ∗ semVal ((c : Thread nD τ), SemLoc.dma 36) 0) := by
  unfold cellsR; rw [five]; rfl
theorem cellsI_eq : (cellsI c : sProp 𝕄) = iprop(semVal ((c : Thread nD τ), SemLoc.dma 28) 0 ∗ semVal ((c : Thread nD τ), SemLoc.dma 29) 0
    ∗ semVal ((c : Thread nD τ), SemLoc.dma 30) 0 ∗ semVal ((c : Thread nD τ), SemLoc.dma 31) 0) := by
  unfold cellsI; rw [four]; rfl

theorem Phi_in : (Handed c A Inc : sProp 𝕄) ⊢ Phi c Ds A Inc 0 := by
  unfold Handed Phi Inv hSt aSt pSt nSt cSt
  rw [show (fun b => RS c A b (st 0 b) : Fin 5 → sProp 𝕄) = fun b => RS c A b none from funext fun b => by rw [st_first b]]
  iintro ⟨⟨H1, H2, ⟨%f3, H3⟩, ⟨%f4, H4⟩, ⟨%f5, H5⟩, ⟨%f6, H6⟩, ⟨%f7, H7⟩⟩, HG, ⟨S0, S1, S2, S3, S4, S5, S6, S7, S8⟩, ⟨HA, HI⟩⟩
  ihave HR := (ring_split c A) $$ [H2 S4 S5 S6 S7 S8 HA]
  · rw [cellsR_eq]; iframe
  icases HR with ⟨HR, HX⟩
  ihave HP := (pieces_split c Inc) $$ [H1 S0 S1 S2 S3 HI]
  · rw [cellsI_eq]; iframe
  ihave H3 := (pt_owns (sp := .vmem) c cc0_scratch2 f3) $$ H3
  ihave H4 := (pt_owns (sp := .vmem) c cc0_scratch3 f4) $$ H4
  ihave H5 := (pt_owns (sp := .vmem) c cc0_scratch4 f5) $$ H5
  ihave H6 := (pt_owns (sp := .vmem) c cc0_scratch5 f6) $$ H6
  ihave H7 := (pt_owns (sp := .vmem) c cc0_scratch6 f7) $$ H7
  isplitl [HR HP H3 H4 H5 H6 H7]
  · isplitl [HR]; · iexact HR
    isplitl [HP]; · iexact HP
    isplitl [H3]
    · iexists f3
      isplitr
      swap; · iexact H3
      ipureintro; intro i hi; exact absurd hi (by omega)
    isplitl [H4]
    · iexists f4
      isplitr
      swap; · iexact H4
      ipureintro; intro h; exact absurd h (by omega)
    isplitl [H5]
    · iexists f5
      isplitr
      swap; · iexact H5
      ipureintro; intro h; exact absurd h (by omega)
    isplitl [H6]
    · iexists f6
      isplitr
      swap; · iexact H6
      ipureintro; intro h; exact absurd rfl h
    iexists f7
    isplitr
    swap; · iexact H7
    ipureintro; intro h; exact absurd rfl h
  iframe

theorem Phi_out : (Phi c Ds A Inc 20 : sProp 𝕄) ⊢ Handed c A Inc := by
  unfold Handed Phi Inv hSt aSt pSt nSt cSt
  rw [show (fun b => RS c A b (st 20 b) : Fin 5 → sProp 𝕄) = fun b => RS c A b none from funext fun b => by rw [st_last b]]
  iintro ⟨⟨HR, HP, ⟨%f3, -, H3⟩, ⟨%f4, -, H4⟩, ⟨%f5, -, H5⟩, ⟨%f6, -, H6⟩, ⟨%f7, -, H7⟩⟩, HX, HG⟩
  ihave HR := (ring_join c A) $$ [HR HX]; · iframe
  rw [cellsR_eq]
  icases HR with ⟨H2, ⟨S4, S5, S6, S7, S8⟩, HA⟩
  ihave HP := (pieces_join c Inc) $$ HP
  rw [cellsI_eq]
  icases HP with ⟨H1, ⟨S0, S1, S2, S3⟩, HI⟩
  ihave H3 := (owns_pt (sp := .vmem) c cc0_scratch2 f3) $$ H3
  ihave H4 := (owns_pt (sp := .vmem) c cc0_scratch3 f4) $$ H4
  ihave H5 := (owns_pt (sp := .vmem) c cc0_scratch4 f5) $$ H5
  ihave H6 := (owns_pt (sp := .vmem) c cc0_scratch5 f6) $$ H6
  ihave H7 := (owns_pt (sp := .vmem) c cc0_scratch6 f7) $$ H7
  isplitl [H1 H2 H3 H4 H5 H6 H7]
  · isplitl [H1]; · iexact H1
    isplitl [H2]; · iexact H2
    isplitl [H3]; · iexists f3; iexact H3
    isplitl [H4]; · iexists f4; iexact H4
    isplitl [H5]; · iexists f5; iexact H5
    isplitl [H6]; · iexists f6; iexact H6
    iexists f7; iexact H7
  iframe

end Cert.KernelIdeal.Run

end
-- ==== Proof.Run.Whole.lean ====
/-
  What the staged buffers hold before and after every point.
-/
module

public import proofs.«01_k».proof.Proof.Run.Share

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (c : Dev nD)

/-- The staged buffers at a point, -/
noncomputable def wPt (t : Fin cfg0.N) : Win where
  arg1 := win0_0.stage (cfg0.slots t 0)
  harg1 := hstage0_0 ((cfg0.slots t 0).cast nbuf0_0)
  arg2 := win0_1.stage (cfg0.slots t 1)
  harg2 := hstage0_1 ((cfg0.slots t 1).cast nbuf0_1)
  arg5 := win0_2.stage (cfg0.slots t 2)
  harg5 := hstage0_2 ((cfg0.slots t 2).cast nbuf0_2)
  arg6 := win0_3.stage (cfg0.slots t 3)
  harg6 := hstage0_3 ((cfg0.slots t 3).cast nbuf0_3)
  arg7 := win0_4.stage (cfg0.slots t 4)
  harg7 := hstage0_4 ((cfg0.slots t 4).cast nbuf0_4)
  arg8 := win0_5.stage (cfg0.slots t 5)
  harg8 := hstage0_5 ((cfg0.slots t 5).cast nbuf0_5)
  arg9 := win0_6.stage (cfg0.slots t 6)
  harg9 := hstage0_6 ((cfg0.slots t 6).cast nbuf0_6)
  arg10 := win0_7.stage (cfg0.slots t 7)
  harg10 := hstage0_7 ((cfg0.slots t 7).cast nbuf0_7)
  arg11 := win0_8.stage (cfg0.slots t 8)
  harg11 := hstage0_8 ((cfg0.slots t 8).cast nbuf0_8)
  arg12 := win0_9.stage (cfg0.slots t 9)
  harg12 := hstage0_9 ((cfg0.slots t 9).cast nbuf0_9)
  arg13 := win0_10.stage (cfg0.slots t 10)
  harg13 := hstage0_10 ((cfg0.slots t 10).cast nbuf0_10)
  arg14 := win0_11.stage (cfg0.slots t 11)
  harg14 := hstage0_11 ((cfg0.slots t 11).cast nbuf0_11)
  arg15 := win0_12.stage (cfg0.slots t 12)
  harg15 := hstage0_12 ((cfg0.slots t 12).cast nbuf0_12)
  arg16 := win0_13.stage (cfg0.slots t 13)
  harg16 := hstage0_13 ((cfg0.slots t 13).cast nbuf0_13)
  arg17 := win0_14.stage (cfg0.slots t 14)
  harg17 := hstage0_14 ((cfg0.slots t 14).cast nbuf0_14)
  arg18 := win0_15.stage (cfg0.slots t 15)
  harg18 := hstage0_15 ((cfg0.slots t 15).cast nbuf0_15)
  arg19 := win0_16.stage (cfg0.slots t 16)
  harg19 := hstage0_16 ((cfg0.slots t 16).cast nbuf0_16)
  arg20 := win0_17.stage (cfg0.slots t 17)
  harg20 := hstage0_17 ((cfg0.slots t 17).cast nbuf0_17)
  arg21 := win0_18.stage (cfg0.slots t 18)
  harg21 := hstage0_18 ((cfg0.slots t 18).cast nbuf0_18)
  arg22 := win0_19.stage (cfg0.slots t 19)
  harg22 := hstage0_19 ((cfg0.slots t 19).cast nbuf0_19)
  arg23 := win0_20.stage (cfg0.slots t 20)
  harg23 := hstage0_20 ((cfg0.slots t 20).cast nbuf0_20)
  arg24 := win0_21.stage (cfg0.slots t 21)
  harg24 := hstage0_21 ((cfg0.slots t 21).cast nbuf0_21)
  arg25 := win0_22.stage (cfg0.slots t 22)
  harg25 := hstage0_22 ((cfg0.slots t 22).cast nbuf0_22)
  arg26 := win0_23.stage (cfg0.slots t 23)
  harg26 := hstage0_23 ((cfg0.slots t 23).cast nbuf0_23)
  arg27 := win0_24.stage (cfg0.slots t 24)
  harg27 := hstage0_24 ((cfg0.slots t 24).cast nbuf0_24)
/-- and the blocks in them. -/
noncomputable def blks (t : Fin cfg0.N) : In F := { x1 := iblk m c 0 t, x2 := iblk m c 1 t, x5 := iblk m c 2 t, x6 := iblk m c 3 t, x7 := iblk m c 4 t, x8 := iblk m c 5 t, x9 := iblk m c 6 t, x10 := iblk m c 7 t, x11 := iblk m c 8 t, x12 := iblk m c 9 t, x13 := iblk m c 10 t, x14 := iblk m c 11 t, x15 := iblk m c 12 t, x16 := iblk m c 13 t, x17 := iblk m c 14 t, x18 := iblk m c 15 t, x19 := iblk m c 16 t, x20 := iblk m c 17 t, x21 := iblk m c 18 t, x22 := iblk m c 19 t, x23 := iblk m c 20 t, x24 := iblk m c 21 t, x25 := iblk m c 22 t }

abbrev incM : Vec F S4096x1024 .f32 := V m c main_arg2
abbrev adjM : Vec F S4096x4096 .f32 := V m c main_arg1

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => outV (blks m c) (adjM m c) (incM m c) t
    | ⟨24, _⟩ => entV (blks m c) (incM m c)
    | ⟨n + 25, h⟩ => absurd (show n + 25 < 25 from h) (by omega)
  Φ t := Phi c (blks m c) (adjM m c) (incM m c) t.val
  q _ := fullShare
  owed _ := 0

theorem A_eq (c : Dev nD) (w) : (dats m 0 c).A w = V m c (Pipeline.arrRef spec0 w) := by dsimp only [dats]

theorem wpc_wand {α : Type} {p : Prog (TpuEff nD τ sig (Elt F) Λ₀ .tc) α} {R : sProp 𝕄} {Q Q' : α → sProp 𝕄} (h : R ⊢ wpc c p Q) :
    R ⊢ iprop((∀ a, Q a -∗ Q' a) -∗ wpc c p Q') := by
  unfold wpc at h ⊢
  exact h.trans (wp_wand frame _ _)

/-! ## What the staged buffers hold -/

theorem before_in (w : Fin cfg0.W) (hw : (cfg0.win w).isOut = false) (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hafter : ∀ t, (cfg0.win w).cut (cfg0.grid.coords t) ((dats m 0 c).after w t) = iblk m c w t) (t : Fin cfg0.N) (d) :
    (dats m 0 c).before w t d = (cfg0.win w).fill (cfg0.grid.coords t) d (iblk m c w t) :=
  ((dats m 0 c).before_in_eq_fetched w hw hlive hclip (fun t => by rw [hafter]; unfold Dat.blockOf iblk; rw [A_eq]) t d).trans
    (by unfold Dat.fetched Dat.blockOf iblk; rw [A_eq])

theorem idle23 : ∀ t : Fin cfg0.N, cfg0.idle 23 (cfg0.grid.coords t) = true ↔ t.val < 4 := by decide
theorem idle24 : ∀ t : Fin cfg0.N, cfg0.idle 24 (cfg0.grid.coords t) = true ↔ t.val ≠ 3 := by decide
theorem flush23 : ∀ t : Fin cfg0.N, t.val < 4 → (cfg0.win 23).flush t = false := by decide

theorem before24 (d) : ∀ (n : ℕ) (h : n < 20), 4 ≤ n → (dats m 0 c).before 24 ⟨n, h⟩ d = entV (blks m c) (incM m c) := by
  intro n
  induction n with
  | zero => intro _ h; exact absurd h (by omega)
  | succ n ih =>
    intro h h4
    have hn : n < 20 := by omega
    have hf : (cfg0.win 24).flush ⟨n, hn⟩ = false := by
      rw [Bool.eq_false_iff]
      intro hh
      have := (flush0_24 ⟨n, hn⟩).mp hh
      have : n % 20 = 19 := this
      omega
    rw [(dats m 0 c).before_of_pos 24 ⟨n + 1, h⟩ (Nat.succ_ne_zero n) ((cfg0.win 24).fetch_out rfl _) d]
    show (if (cfg0.win 24).flush ⟨n, hn⟩ then d else (dats m 0 c).left 24 ⟨n, hn⟩ d) = _
    rw [hf, if_neg Bool.false_ne_true]
    unfold Dat.left
    by_cases h3 : n = 3
    · have hi : cfg0.idle 24 (cfg0.grid.coords ⟨n, hn⟩) = false := by
        rw [Bool.eq_false_iff]
        intro hh
        exact (idle24 ⟨n, hn⟩).mp hh h3
      rw [hi]
      rfl
    · have hi : cfg0.idle 24 (cfg0.grid.coords ⟨n, hn⟩) = true := (idle24 ⟨n, hn⟩).mpr h3
      rw [hi]
      exact ih hn (by omega)

/-! ## The body's obligation -/

/-- The inputs' buffers and what is beside them, in the windows' order. -/
def InsFlat (w : Win) (D : In F) (R : sProp 𝕄) : sProp 𝕄 := iprop(owns (c : Thread nD τ) w.arg1 fullShare D.x1 ∗ owns (c : Thread nD τ) w.arg2 fullShare D.x2 ∗ owns (c : Thread nD τ) w.arg5 fullShare D.x5 ∗ owns (c : Thread nD τ) w.arg6 fullShare D.x6 ∗ owns (c : Thread nD τ) w.arg7 fullShare D.x7 ∗ owns (c : Thread nD τ) w.arg8 fullShare D.x8 ∗ owns (c : Thread nD τ) w.arg9 fullShare D.x9 ∗ owns (c : Thread nD τ) w.arg10 fullShare D.x10 ∗ owns (c : Thread nD τ) w.arg11 fullShare D.x11 ∗ owns (c : Thread nD τ) w.arg12 fullShare D.x12 ∗ owns (c : Thread nD τ) w.arg13 fullShare D.x13 ∗ owns (c : Thread nD τ) w.arg14 fullShare D.x14 ∗ owns (c : Thread nD τ) w.arg15 fullShare D.x15 ∗ owns (c : Thread nD τ) w.arg16 fullShare D.x16 ∗ owns (c : Thread nD τ) w.arg17 fullShare D.x17 ∗ owns (c : Thread nD τ) w.arg18 fullShare D.x18 ∗ owns (c : Thread nD τ) w.arg19 fullShare D.x19 ∗ owns (c : Thread nD τ) w.arg20 fullShare D.x20 ∗ owns (c : Thread nD τ) w.arg21 fullShare D.x21 ∗ owns (c : Thread nD τ) w.arg22 fullShare D.x22 ∗ owns (c : Thread nD τ) w.arg23 fullShare D.x23 ∗ owns (c : Thread nD τ) w.arg24 fullShare D.x24 ∗ owns (c : Thread nD τ) w.arg25 fullShare D.x25 ∗ R)

theorem flat_ins (w : Win) (D : In F) (R : sProp 𝕄) : (InsFlat c w D R : sProp 𝕄) ⊢ iprop(Ins c w D ∗ R) := by
  unfold InsFlat Ins InsInit InsA InsC InsB
  iintro ⟨H1, H2, H5, H6, H7, H8, H9, H10, H11, H12, H13, H14, H15, H16, H17, H18, H19, H20, H21, H22, H23, H24, H25, HR⟩
  iframe

theorem ins_flat (w : Win) (D : In F) (R : sProp 𝕄) : (iprop(Ins c w D ∗ R) : sProp 𝕄) ⊢ InsFlat c w D R := by
  unfold InsFlat Ins InsInit InsA InsC InsB
  iintro ⟨⟨⟨H5, H7⟩, ⟨H1, H2, H6⟩, ⟨H8, H9, H10, H11, H12, H13⟩, ⟨H14, H15, H16, H17, H18, H19, H20, H21, H22, H23, H24, H25⟩⟩, HR⟩
  iframe

def bef (t : Fin cfg0.N) (w : Fin cfg0.W) : sProp 𝕄 := iprop(∃ d, owns c ((cfg0.win w).stage (cfg0.slots t w)) fullShare ((dats m 0 c).before w t d))
def aft (t : Fin cfg0.N) (w : Fin cfg0.W) : sProp 𝕄 :=
  match cfg0.idle w (cfg0.grid.coords t) with
  | true =>
    match (cfg0.win w).flush t with
    | false => iprop(∃ d, owns c ((cfg0.win w).stage (cfg0.slots t w)) fullShare ((dats m 0 c).before w t d))
    | true => owns c ((cfg0.win w).stage (cfg0.slots t w)) fullShare ((dats m 0 c).after w t)
  | false => owns c ((cfg0.win w).stage (cfg0.slots t w)) fullShare ((dats m 0 c).after w t)

theorem bef_in (t : Fin cfg0.N) (w : Fin cfg0.W) (hw : (cfg0.win w).isOut = false) (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hafter : ∀ t, (cfg0.win w).cut (cfg0.grid.coords t) ((dats m 0 c).after w t) = iblk m c w t) (X : (cfg0.win w).block.Idx → Elt F (cfg0.win w).elt)
    (hX : ∀ d, (cfg0.win w).fill (cfg0.grid.coords t) d (iblk m c w t) = X) :
    (bef m c t w : sProp 𝕄) ⊢ owns c ((cfg0.win w).stage (cfg0.slots t w)) fullShare X := by
  unfold bef
  iintro ⟨%d, H⟩
  rw [before_in m c w hw hlive hclip hafter t d, hX d]
  iexact H

theorem aft_in (t : Fin cfg0.N) (w : Fin cfg0.W) (hlive : cfg0.idle w (cfg0.grid.coords t) = false) (X : (cfg0.win w).block.Idx → Elt F (cfg0.win w).elt)
    (hX : (dats m 0 c).after w t = X) : (owns c ((cfg0.win w).stage (cfg0.slots t w)) fullShare X : sProp 𝕄) ⊢ aft m c t w := by
  unfold aft
  rw [hlive, hX]

end Cert.KernelIdeal.Run

end
-- ==== Proof.Run.StageA.lean ====
/-
  The staged inputs of some windows, before a point and after it.
-/
module

public import proofs.«01_k».proof.Proof.Run.Whole

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (c : Dev nD)

theorem bef_0 (t : Fin cfg0.N) : (bef m c t 0 : sProp 𝕄) ⊢ owns (c : Thread nD τ) (wPt t).arg1 fullShare (blks m c t).x1 :=
  bef_in m c t 0 rfl (fun _ => rfl) (fun _ _ _ => rfl) (fun t => by rw [show (dats m 0 c).after 0 t = iblk m c 0 t by dsimp only [dats]]) (iblk m c 0 t) (fun _ => rfl)
theorem aft_0 (t : Fin cfg0.N) : (owns (c : Thread nD τ) (wPt t).arg1 fullShare (blks m c t).x1 : sProp 𝕄) ⊢ aft m c t 0 :=
  aft_in m c t 0 rfl (iblk m c 0 t) (by dsimp only [dats])
theorem bef_1 (t : Fin cfg0.N) : (bef m c t 1 : sProp 𝕄) ⊢ owns (c : Thread nD τ) (wPt t).arg2 fullShare (blks m c t).x2 :=
  bef_in m c t 1 rfl (fun _ => rfl) (fun _ _ _ => rfl) (fun t => by rw [show (dats m 0 c).after 1 t = iblk m c 1 t by dsimp only [dats]]) (iblk m c 1 t) (fun _ => rfl)
theorem aft_1 (t : Fin cfg0.N) : (owns (c : Thread nD τ) (wPt t).arg2 fullShare (blks m c t).x2 : sProp 𝕄) ⊢ aft m c t 1 :=
  aft_in m c t 1 rfl (iblk m c 1 t) (by dsimp only [dats])
theorem bef_2 (t : Fin cfg0.N) : (bef m c t 2 : sProp 𝕄) ⊢ owns (c : Thread nD τ) (wPt t).arg5 fullShare (blks m c t).x5 :=
  bef_in m c t 2 rfl (fun _ => rfl) (fun _ _ _ => rfl) (fun t => by rw [show (dats m 0 c).after 2 t = iblk m c 2 t by dsimp only [dats]]) (iblk m c 2 t) (fun _ => rfl)
theorem aft_2 (t : Fin cfg0.N) : (owns (c : Thread nD τ) (wPt t).arg5 fullShare (blks m c t).x5 : sProp 𝕄) ⊢ aft m c t 2 :=
  aft_in m c t 2 rfl (iblk m c 2 t) (by dsimp only [dats])
theorem bef_3 (t : Fin cfg0.N) : (bef m c t 3 : sProp 𝕄) ⊢ owns (c : Thread nD τ) (wPt t).arg6 fullShare (blks m c t).x6 :=
  bef_in m c t 3 rfl (fun _ => rfl) (fun _ _ _ => rfl) (fun t => by rw [show (dats m 0 c).after 3 t = iblk m c 3 t by dsimp only [dats]]) (iblk m c 3 t) (fun _ => rfl)
theorem aft_3 (t : Fin cfg0.N) : (owns (c : Thread nD τ) (wPt t).arg6 fullShare (blks m c t).x6 : sProp 𝕄) ⊢ aft m c t 3 :=
  aft_in m c t 3 rfl (iblk m c 3 t) (by dsimp only [dats])
theorem bef_4 (t : Fin cfg0.N) : (bef m c t 4 : sProp 𝕄) ⊢ owns (c : Thread nD τ) (wPt t).arg7 fullShare (blks m c t).x7 :=
  bef_in m c t 4 rfl (fun _ => rfl) (fun _ _ _ => rfl) (fun t => by rw [show (dats m 0 c).after 4 t = iblk m c 4 t by dsimp only [dats]]) (iblk m c 4 t) (fun _ => rfl)
theorem aft_4 (t : Fin cfg0.N) : (owns (c : Thread nD τ) (wPt t).arg7 fullShare (blks m c t).x7 : sProp 𝕄) ⊢ aft m c t 4 :=
  aft_in m c t 4 rfl (iblk m c 4 t) (by dsimp only [dats])
theorem bef_5 (t : Fin cfg0.N) : (bef m c t 5 : sProp 𝕄) ⊢ owns (c : Thread nD τ) (wPt t).arg8 fullShare (blks m c t).x8 :=
  bef_in m c t 5 rfl (fun _ => rfl) (fun _ _ _ => rfl) (fun t => by rw [show (dats m 0 c).after 5 t = iblk m c 5 t by dsimp only [dats]]) (iblk m c 5 t) (fun _ => rfl)
theorem aft_5 (t : Fin cfg0.N) : (owns (c : Thread nD τ) (wPt t).arg8 fullShare (blks m c t).x8 : sProp 𝕄) ⊢ aft m c t 5 :=
  aft_in m c t 5 rfl (iblk m c 5 t) (by dsimp only [dats])

end Cert.KernelIdeal.Run

end
-- ==== Proof.Run.StageB.lean ====
/-
  The staged inputs of some windows, before a point and after it.
-/
module

public import proofs.«01_k».proof.Proof.Run.Whole

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (c : Dev nD)

theorem bef_6 (t : Fin cfg0.N) : (bef m c t 6 : sProp 𝕄) ⊢ owns (c : Thread nD τ) (wPt t).arg9 fullShare (blks m c t).x9 :=
  bef_in m c t 6 rfl (fun _ => rfl) (fun _ _ _ => rfl) (fun t => by rw [show (dats m 0 c).after 6 t = iblk m c 6 t by dsimp only [dats]]) (iblk m c 6 t) (fun _ => rfl)
theorem aft_6 (t : Fin cfg0.N) : (owns (c : Thread nD τ) (wPt t).arg9 fullShare (blks m c t).x9 : sProp 𝕄) ⊢ aft m c t 6 :=
  aft_in m c t 6 rfl (iblk m c 6 t) (by dsimp only [dats])
theorem bef_7 (t : Fin cfg0.N) : (bef m c t 7 : sProp 𝕄) ⊢ owns (c : Thread nD τ) (wPt t).arg10 fullShare (blks m c t).x10 :=
  bef_in m c t 7 rfl (fun _ => rfl) (fun _ _ _ => rfl) (fun t => by rw [show (dats m 0 c).after 7 t = iblk m c 7 t by dsimp only [dats]]) (iblk m c 7 t) (fun _ => rfl)
theorem aft_7 (t : Fin cfg0.N) : (owns (c : Thread nD τ) (wPt t).arg10 fullShare (blks m c t).x10 : sProp 𝕄) ⊢ aft m c t 7 :=
  aft_in m c t 7 rfl (iblk m c 7 t) (by dsimp only [dats])
theorem bef_8 (t : Fin cfg0.N) : (bef m c t 8 : sProp 𝕄) ⊢ owns (c : Thread nD τ) (wPt t).arg11 fullShare (blks m c t).x11 :=
  bef_in m c t 8 rfl (fun _ => rfl) (fun _ _ _ => rfl) (fun t => by rw [show (dats m 0 c).after 8 t = iblk m c 8 t by dsimp only [dats]]) (iblk m c 8 t) (fun _ => rfl)
theorem aft_8 (t : Fin cfg0.N) : (owns (c : Thread nD τ) (wPt t).arg11 fullShare (blks m c t).x11 : sProp 𝕄) ⊢ aft m c t 8 :=
  aft_in m c t 8 rfl (iblk m c 8 t) (by dsimp only [dats])
theorem bef_9 (t : Fin cfg0.N) : (bef m c t 9 : sProp 𝕄) ⊢ owns (c : Thread nD τ) (wPt t).arg12 fullShare (blks m c t).x12 :=
  bef_in m c t 9 rfl (fun _ => rfl) (fun _ _ _ => rfl) (fun t => by rw [show (dats m 0 c).after 9 t = iblk m c 9 t by dsimp only [dats]]) (iblk m c 9 t) (fun _ => rfl)
theorem aft_9 (t : Fin cfg0.N) : (owns (c : Thread nD τ) (wPt t).arg12 fullShare (blks m c t).x12 : sProp 𝕄) ⊢ aft m c t 9 :=
  aft_in m c t 9 rfl (iblk m c 9 t) (by dsimp only [dats])
theorem bef_10 (t : Fin cfg0.N) : (bef m c t 10 : sProp 𝕄) ⊢ owns (c : Thread nD τ) (wPt t).arg13 fullShare (blks m c t).x13 :=
  bef_in m c t 10 rfl (fun _ => rfl) (fun _ _ _ => rfl) (fun t => by rw [show (dats m 0 c).after 10 t = iblk m c 10 t by dsimp only [dats]]) (iblk m c 10 t) (fun _ => rfl)
theorem aft_10 (t : Fin cfg0.N) : (owns (c : Thread nD τ) (wPt t).arg13 fullShare (blks m c t).x13 : sProp 𝕄) ⊢ aft m c t 10 :=
  aft_in m c t 10 rfl (iblk m c 10 t) (by dsimp only [dats])
theorem bef_11 (t : Fin cfg0.N) : (bef m c t 11 : sProp 𝕄) ⊢ owns (c : Thread nD τ) (wPt t).arg14 fullShare (blks m c t).x14 :=
  bef_in m c t 11 rfl (fun _ => rfl) (fun _ _ _ => rfl) (fun t => by rw [show (dats m 0 c).after 11 t = iblk m c 11 t by dsimp only [dats]]) (iblk m c 11 t) (fun _ => rfl)
theorem aft_11 (t : Fin cfg0.N) : (owns (c : Thread nD τ) (wPt t).arg14 fullShare (blks m c t).x14 : sProp 𝕄) ⊢ aft m c t 11 :=
  aft_in m c t 11 rfl (iblk m c 11 t) (by dsimp only [dats])

end Cert.KernelIdeal.Run

end
-- ==== Proof.Run.StageC.lean ====
/-
  The staged inputs of some windows, before a point and after it.
-/
module

public import proofs.«01_k».proof.Proof.Run.Whole

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (c : Dev nD)

theorem bef_12 (t : Fin cfg0.N) : (bef m c t 12 : sProp 𝕄) ⊢ owns (c : Thread nD τ) (wPt t).arg15 fullShare (blks m c t).x15 :=
  bef_in m c t 12 rfl (fun _ => rfl) (fun _ _ _ => rfl) (fun t => by rw [show (dats m 0 c).after 12 t = iblk m c 12 t by dsimp only [dats]]) (iblk m c 12 t) (fun _ => rfl)
theorem aft_12 (t : Fin cfg0.N) : (owns (c : Thread nD τ) (wPt t).arg15 fullShare (blks m c t).x15 : sProp 𝕄) ⊢ aft m c t 12 :=
  aft_in m c t 12 rfl (iblk m c 12 t) (by dsimp only [dats])
theorem bef_13 (t : Fin cfg0.N) : (bef m c t 13 : sProp 𝕄) ⊢ owns (c : Thread nD τ) (wPt t).arg16 fullShare (blks m c t).x16 :=
  bef_in m c t 13 rfl (fun _ => rfl) (fun _ _ _ => rfl) (fun t => by rw [show (dats m 0 c).after 13 t = iblk m c 13 t by dsimp only [dats]]) (iblk m c 13 t) (fun _ => rfl)
theorem aft_13 (t : Fin cfg0.N) : (owns (c : Thread nD τ) (wPt t).arg16 fullShare (blks m c t).x16 : sProp 𝕄) ⊢ aft m c t 13 :=
  aft_in m c t 13 rfl (iblk m c 13 t) (by dsimp only [dats])
theorem bef_14 (t : Fin cfg0.N) : (bef m c t 14 : sProp 𝕄) ⊢ owns (c : Thread nD τ) (wPt t).arg17 fullShare (blks m c t).x17 :=
  bef_in m c t 14 rfl (fun _ => rfl) (fun _ _ _ => rfl) (fun t => by rw [show (dats m 0 c).after 14 t = iblk m c 14 t by dsimp only [dats]]) (iblk m c 14 t) (fun _ => rfl)
theorem aft_14 (t : Fin cfg0.N) : (owns (c : Thread nD τ) (wPt t).arg17 fullShare (blks m c t).x17 : sProp 𝕄) ⊢ aft m c t 14 :=
  aft_in m c t 14 rfl (iblk m c 14 t) (by dsimp only [dats])
theorem bef_15 (t : Fin cfg0.N) : (bef m c t 15 : sProp 𝕄) ⊢ owns (c : Thread nD τ) (wPt t).arg18 fullShare (blks m c t).x18 :=
  bef_in m c t 15 rfl (fun _ => rfl) (fun _ _ _ => rfl) (fun t => by rw [show (dats m 0 c).after 15 t = iblk m c 15 t by dsimp only [dats]]) (iblk m c 15 t) (fun _ => rfl)
theorem aft_15 (t : Fin cfg0.N) : (owns (c : Thread nD τ) (wPt t).arg18 fullShare (blks m c t).x18 : sProp 𝕄) ⊢ aft m c t 15 :=
  aft_in m c t 15 rfl (iblk m c 15 t) (by dsimp only [dats])
theorem bef_16 (t : Fin cfg0.N) : (bef m c t 16 : sProp 𝕄) ⊢ owns (c : Thread nD τ) (wPt t).arg19 fullShare (blks m c t).x19 :=
  bef_in m c t 16 rfl (fun _ => rfl) (fun _ _ _ => rfl) (fun t => by rw [show (dats m 0 c).after 16 t = iblk m c 16 t by dsimp only [dats]]) (iblk m c 16 t) (fun _ => rfl)
theorem aft_16 (t : Fin cfg0.N) : (owns (c : Thread nD τ) (wPt t).arg19 fullShare (blks m c t).x19 : sProp 𝕄) ⊢ aft m c t 16 :=
  aft_in m c t 16 rfl (iblk m c 16 t) (by dsimp only [dats])
theorem bef_17 (t : Fin cfg0.N) : (bef m c t 17 : sProp 𝕄) ⊢ owns (c : Thread nD τ) (wPt t).arg20 fullShare (blks m c t).x20 :=
  bef_in m c t 17 rfl (fun _ => rfl) (fun _ _ _ => rfl) (fun t => by rw [show (dats m 0 c).after 17 t = iblk m c 17 t by dsimp only [dats]]) (iblk m c 17 t) (fun _ => rfl)
theorem aft_17 (t : Fin cfg0.N) : (owns (c : Thread nD τ) (wPt t).arg20 fullShare (blks m c t).x20 : sProp 𝕄) ⊢ aft m c t 17 :=
  aft_in m c t 17 rfl (iblk m c 17 t) (by dsimp only [dats])

end Cert.KernelIdeal.Run

end
-- ==== Proof.Run.StageD.lean ====
/-
  The staged inputs of some windows, before a point and after it.
-/
module

public import proofs.«01_k».proof.Proof.Run.Whole

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (c : Dev nD)

theorem bef_18 (t : Fin cfg0.N) : (bef m c t 18 : sProp 𝕄) ⊢ owns (c : Thread nD τ) (wPt t).arg21 fullShare (blks m c t).x21 :=
  bef_in m c t 18 rfl (fun _ => rfl) (fun _ _ _ => rfl) (fun t => by rw [show (dats m 0 c).after 18 t = iblk m c 18 t by dsimp only [dats]]) (iblk m c 18 t) (fun _ => rfl)
theorem aft_18 (t : Fin cfg0.N) : (owns (c : Thread nD τ) (wPt t).arg21 fullShare (blks m c t).x21 : sProp 𝕄) ⊢ aft m c t 18 :=
  aft_in m c t 18 rfl (iblk m c 18 t) (by dsimp only [dats])
theorem bef_19 (t : Fin cfg0.N) : (bef m c t 19 : sProp 𝕄) ⊢ owns (c : Thread nD τ) (wPt t).arg22 fullShare (blks m c t).x22 :=
  bef_in m c t 19 rfl (fun _ => rfl) (fun _ _ _ => rfl) (fun t => by rw [show (dats m 0 c).after 19 t = iblk m c 19 t by dsimp only [dats]]) (iblk m c 19 t) (fun _ => rfl)
theorem aft_19 (t : Fin cfg0.N) : (owns (c : Thread nD τ) (wPt t).arg22 fullShare (blks m c t).x22 : sProp 𝕄) ⊢ aft m c t 19 :=
  aft_in m c t 19 rfl (iblk m c 19 t) (by dsimp only [dats])
theorem bef_20 (t : Fin cfg0.N) : (bef m c t 20 : sProp 𝕄) ⊢ owns (c : Thread nD τ) (wPt t).arg23 fullShare (blks m c t).x23 :=
  bef_in m c t 20 rfl (fun _ => rfl) (fun _ _ _ => rfl) (fun t => by rw [show (dats m 0 c).after 20 t = iblk m c 20 t by dsimp only [dats]]) (iblk m c 20 t) (fun _ => rfl)
theorem aft_20 (t : Fin cfg0.N) : (owns (c : Thread nD τ) (wPt t).arg23 fullShare (blks m c t).x23 : sProp 𝕄) ⊢ aft m c t 20 :=
  aft_in m c t 20 rfl (iblk m c 20 t) (by dsimp only [dats])
theorem bef_21 (t : Fin cfg0.N) : (bef m c t 21 : sProp 𝕄) ⊢ owns (c : Thread nD τ) (wPt t).arg24 fullShare (blks m c t).x24 :=
  bef_in m c t 21 rfl (fun _ => rfl) (fun _ _ _ => rfl) (fun t => by rw [show (dats m 0 c).after 21 t = iblk m c 21 t by dsimp only [dats]]) (iblk m c 21 t) (fun _ => rfl)
theorem aft_21 (t : Fin cfg0.N) : (owns (c : Thread nD τ) (wPt t).arg24 fullShare (blks m c t).x24 : sProp 𝕄) ⊢ aft m c t 21 :=
  aft_in m c t 21 rfl (iblk m c 21 t) (by dsimp only [dats])
theorem bef_22 (t : Fin cfg0.N) : (bef m c t 22 : sProp 𝕄) ⊢ owns (c : Thread nD τ) (wPt t).arg25 fullShare (blks m c t).x25 :=
  bef_in m c t 22 rfl (fun _ => rfl) (fun _ _ _ => rfl) (fun t => by rw [show (dats m 0 c).after 22 t = iblk m c 22 t by dsimp only [dats]]) (iblk m c 22 t) (fun _ => rfl)
theorem aft_22 (t : Fin cfg0.N) : (owns (c : Thread nD τ) (wPt t).arg25 fullShare (blks m c t).x25 : sProp 𝕄) ⊢ aft m c t 22 :=
  aft_in m c t 22 rfl (iblk m c 22 t) (by dsimp only [dats])

end Cert.KernelIdeal.Run

end
-- ==== Proof.Run.Sound.lean ====
/-
  The body's obligation at every point.
-/
module

public import proofs.«01_k».proof.Proof.Run.StageA
public import proofs.«01_k».proof.Proof.Run.StageB
public import proofs.«01_k».proof.Proof.Run.StageC
public import proofs.«01_k».proof.Proof.Run.StageD

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (c : Dev nD)

theorem flat_bef (t : Fin cfg0.N) : (bigSep Finset.univ (bef m c t) : sProp 𝕄) ⊢ InsFlat c (wPt t) (blks m c t) iprop(bef m c t 23 ∗ bef m c t 24) := by
  rw [bigSep_W0]
  unfold InsFlat
  refine BIClass.sep_mono (bef_0 m c t) ?_
  refine BIClass.sep_mono (bef_1 m c t) ?_
  refine BIClass.sep_mono (bef_2 m c t) ?_
  refine BIClass.sep_mono (bef_3 m c t) ?_
  refine BIClass.sep_mono (bef_4 m c t) ?_
  refine BIClass.sep_mono (bef_5 m c t) ?_
  refine BIClass.sep_mono (bef_6 m c t) ?_
  refine BIClass.sep_mono (bef_7 m c t) ?_
  refine BIClass.sep_mono (bef_8 m c t) ?_
  refine BIClass.sep_mono (bef_9 m c t) ?_
  refine BIClass.sep_mono (bef_10 m c t) ?_
  refine BIClass.sep_mono (bef_11 m c t) ?_
  refine BIClass.sep_mono (bef_12 m c t) ?_
  refine BIClass.sep_mono (bef_13 m c t) ?_
  refine BIClass.sep_mono (bef_14 m c t) ?_
  refine BIClass.sep_mono (bef_15 m c t) ?_
  refine BIClass.sep_mono (bef_16 m c t) ?_
  refine BIClass.sep_mono (bef_17 m c t) ?_
  refine BIClass.sep_mono (bef_18 m c t) ?_
  refine BIClass.sep_mono (bef_19 m c t) ?_
  refine BIClass.sep_mono (bef_20 m c t) ?_
  refine BIClass.sep_mono (bef_21 m c t) ?_
  refine BIClass.sep_mono (bef_22 m c t) ?_
  exact .rfl

theorem flat_aft (t : Fin cfg0.N) : (InsFlat c (wPt t) (blks m c t) iprop(aft m c t 23 ∗ aft m c t 24) : sProp 𝕄) ⊢ bigSep Finset.univ (aft m c t) := by
  rw [bigSep_W0]
  unfold InsFlat
  refine BIClass.sep_mono (aft_0 m c t) ?_
  refine BIClass.sep_mono (aft_1 m c t) ?_
  refine BIClass.sep_mono (aft_2 m c t) ?_
  refine BIClass.sep_mono (aft_3 m c t) ?_
  refine BIClass.sep_mono (aft_4 m c t) ?_
  refine BIClass.sep_mono (aft_5 m c t) ?_
  refine BIClass.sep_mono (aft_6 m c t) ?_
  refine BIClass.sep_mono (aft_7 m c t) ?_
  refine BIClass.sep_mono (aft_8 m c t) ?_
  refine BIClass.sep_mono (aft_9 m c t) ?_
  refine BIClass.sep_mono (aft_10 m c t) ?_
  refine BIClass.sep_mono (aft_11 m c t) ?_
  refine BIClass.sep_mono (aft_12 m c t) ?_
  refine BIClass.sep_mono (aft_13 m c t) ?_
  refine BIClass.sep_mono (aft_14 m c t) ?_
  refine BIClass.sep_mono (aft_15 m c t) ?_
  refine BIClass.sep_mono (aft_16 m c t) ?_
  refine BIClass.sep_mono (aft_17 m c t) ?_
  refine BIClass.sep_mono (aft_18 m c t) ?_
  refine BIClass.sep_mono (aft_19 m c t) ?_
  refine BIClass.sep_mono (aft_20 m c t) ?_
  refine BIClass.sep_mono (aft_21 m c t) ?_
  refine BIClass.sep_mono (aft_22 m c t) ?_
  exact .rfl

theorem aft23 (t : Fin cfg0.N) (d) : (owns (c : Thread nD τ) (wPt t).arg26 fullShare (if 4 ≤ t.val then outV (blks m c) (adjM m c) (incM m c) t else (dats m 0 c).before 23 t d) : sProp 𝕄)
    ⊢ aft m c t 23 := by
  unfold aft
  by_cases h : 4 ≤ t.val
  · have hi : cfg0.idle 23 (cfg0.grid.coords t) = false := by
      rw [Bool.eq_false_iff]
      intro hh
      have := (idle23 t).mp hh
      omega
    rw [if_pos h, hi]
    exact .rfl
  · rw [if_neg h, (idle23 t).mpr (by omega), flush23 t (by omega)]
    iintro H
    iexists d
    iexact H

theorem aft24 (t : Fin cfg0.N) (d) : (owns (c : Thread nD τ) (wPt t).arg27 fullShare (if t.val = 3 then entV (blks m c) (incM m c) else (dats m 0 c).before 24 t d) : sProp 𝕄)
    ⊢ aft m c t 24 := by
  unfold aft
  by_cases h : t.val = 3
  · have hi : cfg0.idle 24 (cfg0.grid.coords t) = false := by
      rw [Bool.eq_false_iff]
      intro hh
      exact (idle24 t).mp hh h
    rw [if_pos h, hi]
    exact .rfl
  · rw [if_neg h, (idle24 t).mpr h]
    cases hf : (cfg0.win 24).flush t with
    | false =>
      iintro H
      iexists d
      iexact H
    | true =>
      have h19 := (flush0_24 t).mp hf
      have e := before24 m c d t.val t.isLt (by omega)
      have e' : (dats m 0 c).before 24 t d = entV (blks m c) (incM m c) := e
      rw [e']
      exact .rfl

theorem sound_body (t : Fin cfg0.N) :
    iprop((dats m 0 c).Φ t.castSucc ∗ (dats m 0 c).owesAt () t.castSucc ∗ bigSep Finset.univ (bef m c t))
      ⊢ wp frame (wpE (defs₀ (F := F)) Variants.none c none) Set.univ (bodyAt0 t)
          (fun _ => iprop((dats m 0 c).Φ t.succ ∗ (dats m 0 c).owesAt () t.succ ∗ bigSep Finset.univ (aft m c t))) := by
  have e0 : (dats m 0 c).Φ t.castSucc = Phi c (blks m c) (adjM m c) (incM m c) t.val := rfl
  have e1 : (dats m 0 c).Φ t.succ = Phi c (blks m c) (adjM m c) (incM m c) (t.val + 1) := rfl
  rw [e0, e1]
  unfold Dat.owesAt Pipeline.owesWithin
  rw [show (dats m 0 c).owed t.castSucc = 0 from rfl, show (dats m 0 c).owed t.succ = 0 from rfl]
  show iprop(Phi c (blks m c) (adjM m c) (incM m c) t.val ∗ _ ∗ _) ⊢ wpc c (secInit (grid0.coords t) (wPt t) (secIssue (grid0.coords t) (secA (grid0.coords t) (wPt t) (secB (grid0.coords t) (wPt t) (pure ⟨⟩))))) _
  unfold Phi
  iintro ⟨⟨HI, HA, HG⟩, ⟨%W, -, HW⟩, HB⟩
  ihave HB := ((flat_bef m c t).trans (flat_ins c (wPt t) (blks m c t) _)) $$ HB
  icases HB with ⟨HB, H23, H24⟩
  unfold bef
  icases H23 with ⟨%d23, H23⟩
  icases H24 with ⟨%d24, H24⟩
  iapply (wpc_wand c (body_spec c (blks m c) (adjM m c) (incM m c) t (wPt t) ((dats m 0 c).before 23 t d23) ((dats m 0 c).before 24 t d24))) $$ [HI HW HB H23 H24]
  · isplitl [HI]; · iexact HI
    isplitl [HW]; · iexists W; iexact HW
    isplitl [HB]; · iexact HB
    isplitl [H23]; · iexact H23
    iexact H24
  iintro %_ ⟨HI, ⟨%W', HW⟩, HB, H23, H24⟩
  isplitl [HI HA HG]; · iframe
  isplitl [HW]
  · iexists W'
    isplitr
    · ipureintro; exact fun _ _ => Or.inl trivial
    iexact HW
  ihave H23 := (aft23 m c t d23) $$ H23
  ihave H24 := (aft24 m c t d24) $$ H24
  iapply ((ins_flat c (wPt t) (blks m c t) _).trans (flat_aft m c t))
  iframe

end Cert.KernelIdeal.Run

end
-- ==== Proof.Run.Launch.lean ====
/-
  The launch: what a run of the whole program ends in, and the arguments as they were found.
-/
module

public import proofs.«01_k».proof.Proof.Run.Base
public import proofs.«01_k».proof.Proof.Run.Sound

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  exact triple_restated (sound_body m c t) rfl .rfl fun _ => .rfl

/-- What a run of `@main` ends in. -/
abbrev Ends : PUnit × MemSt nD τ sig (Elt F) → Prop :=
  fun r => Pipeline.FramePost cfgs (dats m) 0 (Pipeline.afterTail₀ cfgs (dats m) 0 (V0 m) [hostOps1]) r ∧ r.2.sem = fun _ => 0

set_option backward.isDefEq.respectTransparency.types false in
theorem run_main : θ_run defs (onTc (τ := τ) (main (F := F))) (s₀ m ρ) (Ends m) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subBut) (hfresh := sfx_fresh) (hkeep := sfx_keeps)
    (hmain := hmain m Variants.none) (hA := A_eq m)
    (hin := fun c => by
      have e : (Pipeline.ΦD osem0 spec0 H0 (V m) c : sProp 𝕄) = Handed c (adjM m c) (incM m c) := PhiD_eq m c
      exact e ▸ Phi_in c (blks m c) (adjM m c) (incM m c))
    (hout := fun c => by
      have e : (Pipeline.ΦD osem0 spec0 H0 (V m) c : sProp 𝕄) = Handed c (adjM m c) (incM m c) := PhiD_eq m c
      exact e ▸ Phi_out c (blks m c) (adjM m c) (incM m c))
    (Q' := Ends m) (hQ' := fun _ h => h)

/-- Where a run ends, every argument array is as it was found. -/
theorem kept (r : PUnit × MemSt nD τ sig (Elt F)) (h : Ends m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24) := by
  obtain ⟨h, -⟩ := h
  refine ⟨?_, ?_, ?_, ?_, ?_, ?_, ?_, ?_, ?_, ?_, ?_, ?_, ?_, ?_, ?_, ?_, ?_, ?_, ?_, ?_, ?_, ?_, ?_, ?_, ?_⟩
  · exact ((h c).1 1).trans (((dats m 0 c).arrAt_in 1 rfl _).trans ((A_eq m c 1).trans (V_main_arg0 m c)))
  · exact ((h c).2 main_arg1 (Pipeline.mem_restRefs_of main_arg1 (by decide) (by decide))).trans
      ((tail_keeps m (dats m) c main_arg1 (by decide) (by decide) (by decide)).trans (V_main_arg1 m c))
  · exact ((h c).2 main_arg2 (Pipeline.mem_restRefs_of main_arg2 (by decide) (by decide))).trans
      ((tail_keeps m (dats m) c main_arg2 (by decide) (by decide) (by decide)).trans (V_main_arg2 m c))
  · exact ((h c).2 main_arg3 (Pipeline.mem_restRefs_of main_arg3 (by decide) (by decide))).trans
      ((tail_keeps m (dats m) c main_arg3 (by decide) (by decide) (by decide)).trans (V_main_arg3 m c))
  · exact ((h c).1 2).trans (((dats m 0 c).arrAt_in 2 rfl _).trans ((A_eq m c 2).trans (V_main_arg4 m c)))
  · exact ((h c).2 main_arg5 (Pipeline.mem_restRefs_of main_arg5 (by decide) (by decide))).trans
      ((tail_keeps m (dats m) c main_arg5 (by decide) (by decide) (by decide)).trans (V_main_arg5 m c))
  · exact ((h c).1 4).trans (((dats m 0 c).arrAt_in 4 rfl _).trans ((A_eq m c 4).trans (V_main_arg6 m c)))
  · exact ((h c).2 main_arg7 (Pipeline.mem_restRefs_of main_arg7 (by decide) (by decide))).trans
      ((tail_keeps m (dats m) c main_arg7 (by decide) (by decide) (by decide)).trans (V_main_arg7 m c))
  · exact ((h c).1 6).trans (((dats m 0 c).arrAt_in 6 rfl _).trans ((A_eq m c 6).trans (V_main_arg8 m c)))
  · exact ((h c).1 7).trans (((dats m 0 c).arrAt_in 7 rfl _).trans ((A_eq m c 7).trans (V_main_arg9 m c)))
  · exact ((h c).2 main_arg10 (Pipeline.mem_restRefs_of main_arg10 (by decide) (by decide))).trans
      ((tail_keeps m (dats m) c main_arg10 (by decide) (by decide) (by decide)).trans (V_main_arg10 m c))
  · exact ((h c).1 9).trans (((dats m 0 c).arrAt_in 9 rfl _).trans ((A_eq m c 9).trans (V_main_arg11 m c)))
  · exact ((h c).2 main_arg12 (Pipeline.mem_restRefs_of main_arg12 (by decide) (by decide))).trans
      ((tail_keeps m (dats m) c main_arg12 (by decide) (by decide) (by decide)).trans (V_main_arg12 m c))
  · exact ((h c).1 11).trans (((dats m 0 c).arrAt_in 11 rfl _).trans ((A_eq m c 11).trans (V_main_arg13 m c)))
  · exact ((h c).2 main_arg14 (Pipeline.mem_restRefs_of main_arg14 (by decide) (by decide))).trans
      ((tail_keeps m (dats m) c main_arg14 (by decide) (by decide) (by decide)).trans (V_main_arg14 m c))
  · exact ((h c).1 13).trans (((dats m 0 c).arrAt_in 13 rfl _).trans ((A_eq m c 13).trans (V_main_arg15 m c)))
  · exact ((h c).2 main_arg16 (Pipeline.mem_restRefs_of main_arg16 (by decide) (by decide))).trans
      ((tail_keeps m (dats m) c main_arg16 (by decide) (by decide) (by decide)).trans (V_main_arg16 m c))
  · exact ((h c).1 15).trans (((dats m 0 c).arrAt_in 15 rfl _).trans ((A_eq m c 15).trans (V_main_arg17 m c)))
  · exact ((h c).2 main_arg18 (Pipeline.mem_restRefs_of main_arg18 (by decide) (by decide))).trans
      ((tail_keeps m (dats m) c main_arg18 (by decide) (by decide) (by decide)).trans (V_main_arg18 m c))
  · exact ((h c).2 main_arg19 (Pipeline.mem_restRefs_of main_arg19 (by decide) (by decide))).trans
      ((tail_keeps m (dats m) c main_arg19 (by decide) (by decide) (by decide)).trans (V_main_arg19 m c))
  · exact ((h c).2 main_arg20 (Pipeline.mem_restRefs_of main_arg20 (by decide) (by decide))).trans
      ((tail_keeps m (dats m) c main_arg20 (by decide) (by decide) (by decide)).trans (V_main_arg20 m c))
  · exact ((h c).1 19).trans (((dats m 0 c).arrAt_in 19 rfl _).trans ((A_eq m c 19).trans (V_main_arg21 m c)))
  · exact ((h c).2 main_arg22 (Pipeline.mem_restRefs_of main_arg22 (by decide) (by decide))).trans
      ((tail_keeps m (dats m) c main_arg22 (by decide) (by decide) (by decide)).trans (V_main_arg22 m c))
  · exact ((h c).2 main_arg23 (Pipeline.mem_restRefs_of main_arg23 (by decide) (by decide))).trans
      ((tail_keeps m (dats m) c main_arg23 (by decide) (by decide) (by decide)).trans (V_main_arg23 m c))
  · exact ((h c).2 main_arg24 (Pipeline.mem_restRefs_of main_arg24 (by decide) (by decide))).trans
      ((tail_keeps m (dats m) c main_arg24 (by decide) (by decide) (by decide)).trans (V_main_arg24 m c))

end Cert.KernelIdeal.Run

end
-- ==== Proof.Run.Frame.lean ====
/-
  The frame: every argument as it was found, every counter at zero.
-/
module

public import proofs.«01_k».proof.Proof.Run.Launch

@[expose] public section

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation)

variable {F : FTy → Type} [FloatOps F]

local notation "𝕄" => MT nD τ sig Unit (Elt F) ℕ (Pipeline.UD sig nD τ) ℕ

theorem frame (m : (ℓ : Loc nD τ sig) → Buf (Elt F) ℓ) (ρ : Dev nD → PrngReg) :
    θ_run defs (onTc (τ := τ) (main (F := F))) ⟨m, fun _ => 0, ρ⟩ (fun r => (∀ c : Dev nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)) ∧ r.2.sem = fun _ => 0) :=
  (θ_run defs _ _).mono (fun r h => ⟨kept m r h, h.2⟩) (run_main m ρ)

end Cert.KernelIdeal.Run

end
-- ==== Proof.Value.Spec.lean ====
module

public import Idealize.ShloMosaic.Lib.Pointwise
public import Idealize.ShloMosaic.PureOps.Ideal

@[expose] public section

set_option maxRecDepth 16384

noncomputable section

namespace Cert.Value

open Idealize.ShloMosaic Idealize.ShloMosaic.TcCoe Idealize.SL.Sem

/-- The twenty-five arguments, as both programs take them. -/
structure Args where
  x0 : FVec Ideal ⟨3, ![2, 4096, 128]⟩ .f32
  x1 : FVec Ideal ⟨2, ![4096, 4096]⟩ .f32
  x2 : FVec Ideal ⟨2, ![4096, 1024]⟩ .f32
  x3 : FVec Ideal ⟨1, ![4096]⟩ .f32
  x4 : FVec Ideal ⟨2, ![64, 128]⟩ .f32
  x5 : FVec Ideal ⟨1, ![64]⟩ .f32
  x6 : FVec Ideal ⟨2, ![64, 128]⟩ .f32
  x7 : FVec Ideal ⟨1, ![64]⟩ .f32
  x8 : FVec Ideal ⟨2, ![64, 64]⟩ .f32
  x9 : FVec Ideal ⟨2, ![64, 64]⟩ .f32
  x10 : FVec Ideal ⟨1, ![64]⟩ .f32
  x11 : FVec Ideal ⟨2, ![64, 64]⟩ .f32
  x12 : FVec Ideal ⟨1, ![64]⟩ .f32
  x13 : FVec Ideal ⟨2, ![64, 64]⟩ .f32
  x14 : FVec Ideal ⟨1, ![64]⟩ .f32
  x15 : FVec Ideal ⟨2, ![16, 64]⟩ .f32
  x16 : FVec Ideal ⟨1, ![16]⟩ .f32
  x17 : FVec Ideal ⟨2, ![1, 16]⟩ .f32
  x18 : FVec Ideal ⟨1, ![1]⟩ .f32
  x19 : FVec Ideal ⟨1, ![64]⟩ .f32
  x20 : FVec Ideal ⟨1, ![64]⟩ .f32
  x21 : FVec Ideal ⟨2, ![64, 128]⟩ .f32
  x22 : FVec Ideal ⟨1, ![64]⟩ .f32
  x23 : FVec Ideal ⟨1, ![64]⟩ .f32
  x24 : FVec Ideal ⟨1, ![64]⟩ .f32

variable (a : Args)

/-- The gate of a node: the logistic of its importance. -/
def gate (n : Fin 4096) : EReal := Ideal.div 1 (1 + Ideal.exp (-a.x3 (ix1 n)))
/-- The gated features. -/
def xg (b : Fin 2) (n : Fin 4096) (k : Fin 128) : EReal := a.x0 (ix3 b n k) * gate a n
/-- A node's features after the first linear map. -/
def h0 (b : Fin 2) (n : Fin 4096) (d : Fin 64) : EReal := ∑ k, xg a b n k * a.x4 (ix2 d k) + a.x5 (ix1 d)
/-- Those of its neighbours, gathered. -/
def agg (b : Fin 2) (n : Fin 4096) (d : Fin 64) : EReal := ∑ x, h0 a b x d * a.x1 (ix2 n x)
/-- A cell's features: its nodes' features summed, then the second linear map. -/
def h2 (b : Fin 2) (c : Fin 1024) (d : Fin 64) : EReal :=
  ∑ k, (∑ n, xg a b n k * a.x2 (ix2 n c)) * a.x6 (ix2 d k) + a.x7 (ix1 d)
/-- A cell's query, -/
def qv (b : Fin 2) (c : Fin 1024) (e : Fin 64) : EReal := ∑ d, h2 a b c d * a.x9 (ix2 e d) + a.x10 (ix1 e)
/-- an atom's key, -/
def kv (i : Fin 64) (e : Fin 64) : EReal := ∑ d, a.x8 (ix2 i d) * a.x11 (ix2 e d) + a.x12 (ix1 e)
/-- and their scaled product. -/
def sc (b : Fin 2) (c : Fin 1024) (i : Fin 64) : EReal := (∑ e, qv a b c e * kv a i e) * Ideal.ofBits .f32 0x3E000000#32
/-- The exponentials of a row of scores below its greatest one, over their sum. -/
def soft (s : Fin 64 → EReal) (i : Fin 64) : EReal :=
  Ideal.div (Ideal.exp (s i - Finset.fold max (Ideal.ofBits .f32 0xFF800000#32) s Finset.univ))
    (∑ x, Ideal.exp (s x - Finset.fold max (Ideal.ofBits .f32 0xFF800000#32) s Finset.univ))
/-- A cell's weights over the atoms. -/
def wt (b : Fin 2) (c : Fin 1024) (i : Fin 64) : EReal := soft (sc a b c) i
/-- One weight's term of the entropy. -/
def eterm (w : EReal) : EReal := w * Ideal.log (w + Ideal.ofBits .f32 0x358637BD#32)
/-- The mean entropy. -/
def ent : EReal := -Ideal.div (∑ b, ∑ c, ∑ i, eterm (wt a b c i)) (Ideal.ofBits .f32 0x45000000#32)
/-- A cell's mixture of the atoms, -/
def pc (b : Fin 2) (c : Fin 1024) (d : Fin 64) : EReal := ∑ i, wt a b c i * a.x8 (ix2 i d)
/-- carried back to the nodes. -/
def pn (b : Fin 2) (n : Fin 4096) (d : Fin 64) : EReal := ∑ c, pc a b c d * a.x2 (ix2 n c)
/-- What the mixture misses. -/
def sur (b : Fin 2) (n : Fin 4096) (d : Fin 64) : EReal := agg a b n d - pn a b n d
/-- The confidence from its length, -/
def conf (b : Fin 2) (n : Fin 4096) : EReal := Ideal.div 1 (1 + Ideal.sqrt (∑ x, sur a b n x * sur a b n x))
/-- its linear image, -/
def us (b : Fin 2) (n : Fin 4096) (d : Fin 64) : EReal := ∑ x, sur a b n x * a.x13 (ix2 d x) + a.x14 (ix1 d)
/-- the hidden row of the learned confidence -/
def lh (b : Fin 2) (n : Fin 4096) (l : Fin 16) : EReal :=
  max (∑ x, (FloatOps.absf (F := Ideal) (φ := .f32) (sur a b n x)) * a.x15 (ix2 l x) + a.x16 (ix1 l)) 0
/-- and the learned confidence. -/
def lc (b : Fin 2) (n : Fin 4096) : EReal :=
  Ideal.div 1 (1 + Ideal.exp (-(∑ l, lh a b n l * a.x17 (ix2 0 l) + a.x18 (ix1 0))))
/-- The corrected row. -/
def gt (b : Fin 2) (n : Fin 4096) (d : Fin 64) : EReal := us a b n d * (conf a b n * lc a b n) + agg a b n d
/-- A row's mean. -/
def mean (z : Fin 64 → EReal) : EReal := Ideal.div (∑ x, z x) (Ideal.ofBits .f32 0x42800000#32)
/-- A row's variance. -/
def var (z : Fin 64 → EReal) : EReal :=
  Ideal.div (∑ x, (z x - mean z) * (z x - mean z)) (Ideal.ofBits .f32 0x42800000#32)
/-- A row normalized. -/
def lnorm (z : Fin 64 → EReal) (d : Fin 64) : EReal :=
  (z d - mean z) * Ideal.rsqrt (var z + Ideal.ofBits .f32 0x3727C5AC#32)
/-- The corrected row normalized, -/
def pcn (b : Fin 2) (n : Fin 4096) (d : Fin 64) : EReal := lnorm (gt a b n) d * a.x19 (ix1 d) + a.x20 (ix1 d)
/-- joined with the prediction by the last linear map, -/
def fu (b : Fin 2) (n : Fin 4096) (d : Fin 64) : EReal :=
  ∑ x : Fin 64, pcn a b n x * a.x21 (ix2 d ⟨x.val, by omega⟩) + ∑ x : Fin 64, pn a b n x * a.x21 (ix2 d ⟨64 + x.val, by omega⟩) + a.x22 (ix1 d)
/-- and normalized once more. -/
def out (b : Fin 2) (n : Fin 4096) (d : Fin 64) : EReal := lnorm (fu a b n) d * a.x23 (ix1 d) + a.x24 (ix1 d)

end Cert.Value

end
-- ==== Proof.Value.Scalars.lean ====
module

public import proofs.«01_k».proof.Proof.Value.Spec

@[expose] public section

/-!
  Laws of the extended reals the comparison of the two programs uses.
-/

set_option maxRecDepth 16384

noncomputable section

namespace Cert.Value

open Idealize.ShloMosaic Idealize.ShloMosaic.TcCoe Idealize.SL.Sem

theorem c64_eq : Ideal.ofBits .f32 0x42800000#32 = ((64 : ℝ) : EReal) := by
  simp [Ideal.ofBits, Ideal.ieee, -EReal.coe_mul]; norm_num
theorem c2048_eq : Ideal.ofBits .f32 0x45000000#32 = ((2048 : ℝ) : EReal) := by
  simp [Ideal.ofBits, Ideal.ieee, -EReal.coe_mul]; norm_num
theorem eps_eq : Ideal.ofBits .f32 0x3727C5AC#32 = ((10995116 / 2 ^ 40 : ℝ) : EReal) := by
  simp [Ideal.ofBits, Ideal.ieee, -EReal.coe_mul]; norm_num
theorem tiny_eq : Ideal.ofBits .f32 0x358637BD#32 = ((8796093 / 2 ^ 43 : ℝ) : EReal) := by
  simp [Ideal.ofBits, Ideal.ieee, -EReal.coe_mul]; norm_num

/-- A maximum already includes the value it began with. -/
theorem max_fold {n : ℕ} (b : EReal) (f : Fin n → EReal) :
    max b (Finset.fold max b f Finset.univ) = Finset.fold max b f Finset.univ :=
  max_eq_right ((Finset.le_fold_max (s := Finset.univ) (f := f) b).mpr (Or.inl le_rfl))

/-- The count of a row's entries less nothing is positive. -/
theorem count_pos : 0 < Ideal.ofBits .f32 0x42800000#32 - (FloatOps.sitofp (F := Ideal) .f32 0#32 : EReal) := by
  rw [c64_eq]
  show (0 : EReal) < ((64 : ℝ) : EReal) - (((0#32).toInt : ℝ) : EReal)
  simp
theorem count_eq : Ideal.ofBits .f32 0x42800000#32 - (FloatOps.sitofp (F := Ideal) .f32 0#32 : EReal) = Ideal.ofBits .f32 0x42800000#32 := by
  show _ - (((0#32).toInt : ℝ) : EReal) = _
  simp

theorem mul_self_nonneg' (x : EReal) : 0 ≤ x * x := by
  rcases le_total 0 x with h | h
  · exact EReal.mul_nonneg h h
  · have h' : 0 ≤ -x := by rw [← EReal.neg_le_neg_iff]; simpa using h
    have := EReal.mul_nonneg h' h'
    rwa [neg_mul_neg] at this

theorem div_nonneg' {x y : EReal} (hx : 0 ≤ x) (hy : 0 < y) : 0 ≤ Ideal.div x y := by
  rw [Ideal.div, if_neg hy.ne']
  exact EReal.mul_nonneg hx (EReal.inv_nonneg_of_nonneg hy.le)

theorem var_nonneg (z : Fin 64 → EReal) : 0 ≤ var z :=
  div_nonneg' (Finset.sum_nonneg fun _ _ => mul_self_nonneg' _) (by rw [c64_eq]; exact_mod_cast (by norm_num : (0 : ℝ) < 64))

/-- Dividing by a root is multiplying by its reciprocal. -/
theorem div_sqrt (y v : EReal) (h : 0 ≤ v) :
    Ideal.div y (Ideal.sqrt (v + Ideal.ofBits .f32 0x3727C5AC#32)) = y * Ideal.rsqrt (v + Ideal.ofBits .f32 0x3727C5AC#32) := by
  rw [eps_eq]
  induction v with
  | bot => exact absurd h (by simp)
  | top => simp [Ideal.div]
  | coe r =>
    have hr : 0 ≤ r := by exact_mod_cast h
    rw [← EReal.coe_add]
    have hp : (0 : ℝ) < r + 10995116 / 2 ^ 40 := by positivity
    rw [Ideal.sqrt_coe, Ideal.rsqrt_coe, if_neg hp.le.not_gt, if_neg hp.le.not_gt, if_neg hp.ne']
    rw [Ideal.div_coe (Real.sqrt_ne_zero'.mpr hp), one_div]

theorem exp_nonneg' (x : EReal) : 0 ≤ Ideal.exp x := by
  induction x with
  | bot => exact le_rfl
  | top => exact le_top
  | coe r => show (0 : EReal) ≤ ((Real.exp r : ℝ) : EReal); exact_mod_cast (Real.exp_pos r).le

theorem soft_cases (s : Fin 64 → EReal) (i : Fin 64) : soft s i = ⊥ ∨ 0 ≤ soft s i := by
  unfold soft
  set x := Ideal.exp (s i - Finset.fold max (Ideal.ofBits .f32 0xFF800000#32) s Finset.univ) with hx
  have h0 : 0 ≤ x := exp_nonneg' _
  have h1 : 0 ≤ ∑ x, Ideal.exp (s x - Finset.fold max (Ideal.ofBits .f32 0xFF800000#32) s Finset.univ) :=
    Finset.sum_nonneg fun _ _ => exp_nonneg' _
  rcases h1.eq_or_lt with h | h
  · rw [← h, Ideal.div, if_pos rfl]
    split
    · exact Or.inr le_top
    · exact Or.inl rfl
  · exact Or.inr (div_nonneg' h0 h)

theorem eterm_ne_bot (w : EReal) (h : w = ⊥ ∨ 0 ≤ w) : eterm w ≠ ⊥ := by
  unfold eterm
  rw [tiny_eq]
  induction w with
  | bot => simp
  | top => simp
  | coe r =>
    have hr : 0 ≤ r := by
      rcases h with h | h
      · exact absurd h (EReal.coe_ne_bot r)
      · exact_mod_cast h
    have hp : (0 : ℝ) < r + 8796093 / 2 ^ 43 := by positivity
    rw [← EReal.coe_add, Ideal.log_coe, if_neg hp.not_ge, ← EReal.coe_mul]
    exact EReal.coe_ne_bot _

/-- Sums of values that are never minus infinity: negation passes through. -/
theorem sum_neg_of_ne_bot {ι : Type*} (s : Finset ι) (f : ι → EReal) (h : ∀ i, f i ≠ ⊥) :
    ∑ i ∈ s, f i ≠ ⊥ ∧ ∑ i ∈ s, -f i = -∑ i ∈ s, f i := by
  classical
  induction s using Finset.induction_on with
  | empty => simp
  | insert a s ha ih =>
    rw [Finset.sum_insert ha, Finset.sum_insert ha]
    refine ⟨EReal.add_ne_bot_iff.mpr ⟨h a, ih.1⟩, ?_⟩
    rw [ih.2, EReal.neg_add (Or.inl (h a)) (Or.inr ih.1), sub_eq_add_neg]

theorem div_neg_c2048 (x : EReal) : Ideal.div (-x) (Ideal.ofBits .f32 0x45000000#32) = -Ideal.div x (Ideal.ofBits .f32 0x45000000#32) := by
  rw [c2048_eq, Ideal.div_coe (by norm_num), Ideal.div_coe (by norm_num), EReal.neg_mul]

/-- The kernel's entropy, one row of weights after another, is the mean entropy. -/
theorem ent_rows (a : Args) (g : Fin 2048 → Fin 64 → EReal)
    (h : ∀ (b : Fin 2) (c : Fin 1024) (i : Fin 64) (hb : b.val * 1024 + c.val < 2048), g ⟨b.val * 1024 + c.val, hb⟩ i = wt a b c i) :
    Ideal.div (∑ r, (0 - ∑ i, eterm (g r i))) (Ideal.ofBits .f32 0x45000000#32) = ent a := by
  rw [Fin.sum_univ_tiles 2 1024 rfl]
  simp only [h, zero_sub]
  have hc : ∀ b c, ∑ i, eterm (wt a b c i) ≠ ⊥ := fun b c =>
    (sum_neg_of_ne_bot _ _ fun i => eterm_ne_bot _ (soft_cases _ _)).1
  have hb : ∀ b, ∑ c, ∑ i, eterm (wt a b c i) ≠ ⊥ := fun b => (sum_neg_of_ne_bot _ _ (hc b)).1
  have e : ∀ b, ∑ c, -∑ i, eterm (wt a b c i) = -∑ c, ∑ i, eterm (wt a b c i) := fun b => (sum_neg_of_ne_bot _ _ (hc b)).2
  simp only [e]
  rw [(sum_neg_of_ne_bot _ _ hb).2, div_neg_c2048]
  rfl

theorem coe_sum' {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For finite factors the order of two linear maps does not matter. -/
theorem swap_maps {n k : ℕ} (x : Fin n → Fin k → EReal) (u : Fin n → EReal) (w : Fin k → EReal)
    (hx : ∀ i j, ∃ r : ℝ, x i j = r) (hu : ∀ i, ∃ r : ℝ, u i = r) (hw : ∀ j, ∃ r : ℝ, w j = r) :
    ∑ i, u i * ∑ j, x i j * w j = ∑ j, (∑ i, x i j * u i) * w j := by
  choose x' hx using hx
  choose u' hu using hu
  choose w' hw using hw
  simp only [hx, hu, hw, ← EReal.coe_mul, ← coe_sum']
  congr 1
  simp only [Finset.mul_sum, Finset.sum_mul]
  rw [Finset.sum_comm]
  exact Finset.sum_congr rfl fun _ _ => Finset.sum_congr rfl fun _ _ => by ring

/-- A gate is always a number. -/
theorem gate_real (a : Args) (n : Fin 4096) : ∃ r : ℝ, gate a n = r := by
  unfold gate
  generalize a.x3 (ix1 n) = x
  change EReal at x
  induction x with
  | bot =>
    refine ⟨0, ?_⟩
    show Ideal.div 1 (1 + ⊤) = _
    rw [show (1 : EReal) + ⊤ = ⊤ from EReal.coe_add_top 1]
    simp [Ideal.div]
  | top => exact ⟨1, by simp [Ideal.div]⟩
  | coe r =>
    refine ⟨1 / (1 + Real.exp (-r)), ?_⟩
    rw [← EReal.coe_neg]
    show Ideal.div 1 (1 + ((Real.exp (-r) : ℝ) : EReal)) = _
    rw [show (1 : EReal) = ((1 : ℝ) : EReal) from rfl, ← EReal.coe_add, Ideal.div_coe (by positivity), ← EReal.coe_mul, one_mul]

end Cert.Value

end
-- ==== Proof.Value.Kern.lean ====
module

public import proofs.«01_k».proof.Proof.Value.Scalars
public import proofs.«01_k».proof.Proof.Run.Data

@[expose] public section

/-!
  The kernel's values in terms of the arguments.
-/

set_option maxRecDepth 16384

noncomputable section

namespace Cert.KernelIdeal.Val

open Cert.KernelIdeal Cert.KernelIdeal.Gen Cert.KernelIdeal.Run Cert.Value
open Idealize.ShloMosaic Idealize.ShloMosaic.TcCoe Idealize.SL.Sem

/-- The two spellings of an index agree. -/
theorem vi2 {m n : ℕ} (a : Fin m) (b : Fin n) : ValueIdx.ix2 a b = ix2 a b := rfl
theorem vi3 {m n k : ℕ} (a : Fin m) (b : Fin n) (c : Fin k) : ValueIdx.ix3 a b c = ix3 a b c := rfl

/-- Feature `d` of batch `b` among the 128 lanes, -/
def lane (b : Fin 2) (d : Fin 64) : Fin 128 := ⟨64 * b.val + d.val, by omega⟩
/-- input feature `k` of batch `b` among the 256, -/
def wide (b : Fin 2) (k : Fin 128) : Fin 256 := ⟨128 * b.val + k.val, by omega⟩
/-- node `j` of block `t`. -/
def node (t : Fin cfg0.N) (ht : t.val < 4) (j : Fin 1024) : Fin 4096 := ⟨1024 * t.val + j.val, by omega⟩

/-- What the staged blocks hold of the arguments. -/
structure Fits (a : Args) (Ds : Fin cfg0.N → In Ideal) : Prop where
  imp : ∀ t ht j, (Ds t).x1 (ix2 0 j) = a.x3 (ix1 (node t ht j))
  x : ∀ t ht b j k, (Ds t).x2 (ix3 b j k) = a.x0 (ix3 b (node t ht j) k)
  nmw : ∀ t d k, (Ds t).x5 (ix2 d k) = a.x4 (ix2 d k)
  nmb : ∀ t d, (Ds t).x6 (ix2 0 d) = a.x5 (ix1 d)
  cmw : ∀ t d k, (Ds t).x7 (ix2 d k) = a.x6 (ix2 d k)
  cmb : ∀ t d, (Ds t).x8 (ix2 0 d) = a.x7 (ix1 d)
  atoms : ∀ t d k, (Ds t).x9 (ix2 d k) = a.x8 (ix2 d k)
  qw : ∀ t d k, (Ds t).x10 (ix2 d k) = a.x9 (ix2 d k)
  qb : ∀ t d, (Ds t).x11 (ix2 0 d) = a.x10 (ix1 d)
  kw : ∀ t d k, (Ds t).x12 (ix2 d k) = a.x11 (ix2 d k)
  kb : ∀ t d, (Ds t).x13 (ix2 0 d) = a.x12 (ix1 d)
  sw : ∀ t d k, (Ds t).x14 (ix2 d k) = a.x13 (ix2 d k)
  sb : ∀ t d, (Ds t).x15 (ix2 0 d) = a.x14 (ix1 d)
  c1w : ∀ t d k, (Ds t).x16 (ix2 d k) = a.x15 (ix2 d k)
  c1b : ∀ t d, (Ds t).x17 (ix2 0 d) = a.x16 (ix1 d)
  c2w : ∀ t d, (Ds t).x18 (ix2 0 d) = a.x17 (ix2 0 d)
  c2b : ∀ t, (Ds t).x19 (ix2 0 0) = a.x18 (ix1 0)
  pg : ∀ t d, (Ds t).x20 (ix2 0 d) = a.x19 (ix1 d)
  pb : ∀ t d, (Ds t).x21 (ix2 0 d) = a.x20 (ix1 d)
  fw : ∀ t d k, (Ds t).x22 (ix2 d k) = a.x21 (ix2 d k)
  fb : ∀ t d, (Ds t).x23 (ix2 0 d) = a.x22 (ix1 d)
  ng : ∀ t d, (Ds t).x24 (ix2 0 d) = a.x23 (ix1 d)
  nb : ∀ t d, (Ds t).x25 (ix2 0 d) = a.x24 (ix1 d)

variable {a : Args} {Ds : Fin cfg0.N → In Ideal} (hF : Fits a Ds)
include hF

/-- The gated features of a block. -/
theorem xOf_at (t : Fin cfg0.N) (ht : t.val < 4) (b : Fin 2) (j : Fin 1024) (k : Fin 128) :
    xOf (Ds t) (ix2 j (wide b k)) = xg a b (node t ht j) k := by
  have e0 : ∀ k : Fin 128, (Rect.unit (s := S2x1024x128) ![0, 0, 0] S1x1024x128.size inb_S2x1024x128_S1x1024x128_0_0_0).emb (ix3 0 j k) = ix3 0 j k := by
    intro k; funext i; fin_cases i <;> refine Fin.ext ?_
    · rfl
    · show 0 + 1 * j.val = j.val; omega
    · show 0 + 1 * k.val = k.val; omega
  have e1 : ∀ k : Fin 128, (Rect.unit (s := S2x1024x128) ![1, 0, 0] S1x1024x128.size inb_S2x1024x128_S1x1024x128_1_0_0).emb (ix3 0 j k) = ix3 1 j k := by
    intro k; funext i; fin_cases i <;> refine Fin.ext ?_
    · rfl
    · show 0 + 1 * j.val = j.val; omega
    · show 0 + 1 * k.val = k.val; omega
  have hk : k.val < 128 := k.isLt
  have hl : Ideal.logistic (a.x3 (ix1 (node t ht j))) = gate a (node t ht j) := rfl
  obtain rfl | rfl : b = 0 ∨ b = 1 := by omega
  · have hw : wide 0 k = ⟨k.val, by omega⟩ := Fin.ext (by show 128 * 0 + k.val = k.val; omega)
    rw [hw]
    pointwise [xOf, k0_pay15, e0, hF.imp t ht, hF.x t ht, xg, hl]
  · have hw : wide 1 k = ⟨128 + k.val, by omega⟩ := Fin.ext (by show 128 * 1 + k.val = 128 + k.val; omega)
    rw [hw]
    pointwise [xOf, k0_pay15, e1, hF.imp t ht, hF.x t ht, xg, hl]

omit hF

/-- The block-diagonal weight. -/
theorem nwOf_at (w : Vec Ideal S64x128 .f32) (b b' : Fin 2) (d : Fin 64) (k : Fin 128) :
    nwOf w (ix2 (lane b d) (wide b' k)) = if b = b' then w (ix2 d k) else 0 := by
  have hb := b.isLt
  have hb' := b'.isLt
  have hd := d.isLt
  have hk := k.isLt
  have n1 : ¬(b = 1 ∧ b' = 1) → ix2 (lane b d) (wide b' k) ∉ (Rect.unit (s := S128x256) ![64, 128] S64x128.size inb_S128x256_S64x128_64_128).set := by
    intro h hm
    rw [Rect.mem_set_unit] at hm
    have h0 : 64 ≤ 64 * b.val + d.val := (hm 0).1
    have h1 : 128 ≤ 128 * b'.val + k.val := (hm 1).1
    exact h ⟨Fin.ext (by show b.val = 1; omega), Fin.ext (by show b'.val = 1; omega)⟩
  have n0 : ¬(b = 0 ∧ b' = 0) → ix2 (lane b d) (wide b' k) ∉ (Rect.unit (s := S128x256) ![0, 0] S64x128.size inb_S128x256_S64x128_0_0).set := by
    intro h hm
    rw [Rect.mem_set_unit] at hm
    have h0 : 64 * b.val + d.val < 0 + 64 := (hm 0).2
    have h1 : 128 * b'.val + k.val < 0 + 128 := (hm 1).2
    exact h ⟨Fin.ext (by show b.val = 0; omega), Fin.ext (by show b'.val = 0; omega)⟩
  have e0 : ix2 (lane 0 d) (wide 0 k) = (Rect.unit (s := S128x256) ![0, 0] S64x128.size inb_S128x256_S64x128_0_0).emb (ix2 d k) := by
    funext i; fin_cases i <;> refine Fin.ext ?_
    · show 64 * 0 + d.val = 0 + 1 * d.val; omega
    · show 128 * 0 + k.val = 0 + 1 * k.val; omega
  have e1 : ix2 (lane 1 d) (wide 1 k) = (Rect.unit (s := S128x256) ![64, 128] S64x128.size inb_S128x256_S64x128_64_128).emb (ix2 d k) := by
    funext i; fin_cases i <;> refine Fin.ext ?_
    · show 64 * 1 + d.val = 64 + 1 * d.val; omega
    · show 128 * 1 + k.val = 128 + 1 * k.val; omega
  have z : ∀ i : S128x256.Idx, k0_pay12 (F := Ideal) i = 0 := by
    intro i
    pointwise [k0_pay12]
  have p1 : ∀ i : S64x128.Idx, k0_pay1 (F := Ideal) w i = w i := by
    intro i
    pointwise [k0_pay1]
  have p2 : ∀ i : S64x128.Idx, k0_pay2 (F := Ideal) w i = w i := by
    intro i
    pointwise [k0_pay2]
  unfold nwOf
  by_cases h1 : b = 1 ∧ b' = 1
  · obtain ⟨rfl, rfl⟩ := h1
    rw [e1, put_emb, p2, if_pos rfl]
  · rw [put_of_not_mem _ _ _ _ (n1 h1)]
    by_cases h0 : b = 0 ∧ b' = 0
    · obtain ⟨rfl, rfl⟩ := h0
      rw [e0, put_emb, p1, if_pos rfl]
    · rw [put_of_not_mem _ _ _ _ (n0 h0), z, if_neg]
      rintro rfl
      rcases (by omega : b = 0 ∨ b = 1) with rfl | rfl
      · exact h0 ⟨rfl, rfl⟩
      · exact h1 ⟨rfl, rfl⟩

theorem cwOf_at (w : Vec Ideal S64x128 .f32) (b b' : Fin 2) (d : Fin 64) (k : Fin 128) :
    cwOf w (ix2 (lane b d) (wide b' k)) = if b = b' then w (ix2 d k) else 0 :=
  nwOf_at w b b' d k

/-- A sum over both batches' features against a block-diagonal weight is one batch's. -/
theorem sum_wide (b : Fin 2) (f g : Fin 256 → EReal) (u w : Fin 128 → EReal)
    (hf : ∀ k, f (wide b k) = u k) (hg : ∀ b' k, g (wide b' k) = if b = b' then w k else 0) :
    ∑ k, f k * g k = ∑ k, u k * w k := by
  have hw : ∀ (b' : Fin 2) (k : Fin 128) h, (⟨b'.val * 128 + k.val, h⟩ : Fin 256) = wide b' k := fun b' k h =>
    Fin.ext (by show b'.val * 128 + k.val = 128 * b'.val + k.val; omega)
  rw [Fin.sum_univ_tiles 2 128 rfl]
  simp only [hw, hg]
  rw [Finset.sum_eq_single b]
  · simp only [hf, if_true]
  · intro b' _ hne
    simp only [if_neg (Ne.symm hne), mul_zero, Finset.sum_const_zero]
  · intro h; exact absurd (Finset.mem_univ b) h

include hF

/-- A block's node features. -/
theorem hOf_at (t : Fin cfg0.N) (ht : t.val < 4) (b : Fin 2) (j : Fin 1024) (d : Fin 64) :
    hOf (Ds t) (nwV Ds) (ix2 j (lane b d)) = h0 a b (node t ht j) d := by
  have hs : ∑ x, xOf (Ds t) (ix2 j x) * nwOf (Ds (pt20 0)).x5 (ix2 (lane b d) x) = ∑ k, xg a b (node t ht j) k * a.x4 (ix2 d k) :=
    sum_wide b _ _ _ _ (fun k => xOf_at hF t ht b j k) fun b' k => by rw [nwOf_at, hF.nmw]
  have hd : d.val < 64 := d.isLt
  unfold hOf h0 nwV
  rw [← hs]
  obtain rfl | rfl : b = 0 ∨ b = 1 := by omega
  · have hw : lane 0 d = ⟨d.val, by omega⟩ := Fin.ext (by show 64 * 0 + d.val = d.val; omega)
    rw [hw]
    pointwise [k0_pay16, hF.nmb]
    all_goals rfl
  · have hw : lane 1 d = ⟨64 + d.val, by omega⟩ := Fin.ext (by show 64 * 1 + d.val = 64 + d.val; omega)
    rw [hw]
    pointwise [k0_pay16, hF.nmb]
    all_goals rfl

/-- All the node features. -/
theorem hFull_at (b : Fin 2) (n : Fin 4096) (d : Fin 64) : hFull Ds (ix2 n (lane b d)) = h0 a b n d := by
  have hn : n.val < 4096 := n.isLt
  have ht : (pt20 (n.val / 1024)).val < 4 := by show n.val / 1024 % 20 < 4; omega
  have e : node (pt20 (n.val / 1024)) ht ⟨n.val % 1024, Nat.mod_lt _ (by decide)⟩ = n :=
    Fin.ext (by show 1024 * (n.val / 1024 % 20) + n.val % 1024 = n.val; omega)
  have p5 : ∀ (v : FVec Ideal S1024x128 .f32) (i : S1024x128.Idx), k0_pay5 (F := Ideal) v i = v i := by
    intro v i
    pointwise [k0_pay5]
  unfold hFull
  rw [p5]
  have h := hOf_at hF _ ht b ⟨n.val % 1024, Nat.mod_lt _ (by decide)⟩ d
  rw [e] at h
  exact h

/-- One block's share of a cell. -/
def share (a : Args) (b : Fin 2) (c : Fin 1024) (d : Fin 64) (n : Fin 4096) : EReal :=
  a.x2 (ix2 n c) * ∑ k, xg a b n k * a.x6 (ix2 d k)

theorem pay6_at (n : ℕ) (t : Fin cfg0.N) (hn : t.val = n) (ht : t.val < 4) (b : Fin 2) (c : Fin 1024) (d : Fin 64) :
    k0_pay6 (F := Ideal) (xOf (Ds t)) (cwV Ds) (incAt a.x2 n) (ix2 c (lane b d)) = ∑ j, share a b c d (node t ht j) := by
  subst hn
  have hs : ∀ j, ∑ x, xOf (Ds t) (ix2 j x) * cwV Ds (ix2 (lane b d) x) = ∑ k, xg a b (node t ht j) k * a.x6 (ix2 d k) := fun j =>
    sum_wide b _ _ _ _ (fun k => xOf_at hF t ht b j k) fun b' k => by rw [cwV, cwOf_at, hF.cmw]
  have hi : ∀ (j : Fin 1024), incAt (F := Ideal) a.x2 t.val (ix2 j c) = a.x2 (ix2 (node t ht j) c) := by
    intro j
    have hj := j.isLt
    unfold incAt
    congr 1
    have e : (⟨(1024 * t.val + j.val) % 4096, Nat.mod_lt _ (by decide)⟩ : Fin 4096) = node t ht j := Fin.ext (by show (1024 * t.val + j.val) % 4096 = 1024 * t.val + j.val; omega)
    show ix2 (⟨(1024 * t.val + j.val) % 4096, Nat.mod_lt _ (by decide)⟩ : Fin 4096) c = _
    rw [e]
  pointwise [k0_pay6, hs, hi, share]

/-- The cells before the weights' shift. -/
theorem accV_at (b : Fin 2) (c : Fin 1024) (d : Fin 64) :
    accV Ds a.x2 3 (ix2 c (lane b d)) = ∑ n, share a b c d n := by
  have p : ∀ (n : ℕ) (h : n < 4), k0_pay6 (F := Ideal) (xOf (Ds (pt20 n))) (cwV Ds) (incAt a.x2 n) (ix2 c (lane b d))
      = ∑ j : Fin 1024, share a b c d ⟨n * 1024 + j.val, by omega⟩ := by
    intro n h
    have hp : (pt20 n).val = n := by show n % 20 = n; omega
    rw [pay6_at hF n (pt20 n) hp (by omega) b c d]
    refine Finset.sum_congr rfl fun j _ => ?_
    congr 1
    refine Fin.ext ?_
    show 1024 * (n % 20) + j.val = n * 1024 + j.val
    omega
  have p7 : ∀ (x : FVec Ideal S1024x256 .f32) (y z), k0_pay7 (F := Ideal) x y z (ix2 c (lane b d)) = k0_pay6 (F := Ideal) x y z (ix2 c (lane b d)) := by
    intro x y z
    pointwise [k0_pay7]
  have p8 : ∀ (x : FVec Ideal S1024x256 .f32) (y z w), k0_pay8 (F := Ideal) x y z w (ix2 c (lane b d)) = w (ix2 c (lane b d)) + k0_pay6 (F := Ideal) x y z (ix2 c (lane b d)) := by
    intro x y z w
    pointwise [k0_pay8]
  rw [Fin.sum_univ_tiles 4 1024 rfl, Fin.sum_univ_four]
  show k0_pay8 _ _ _ (k0_pay8 _ _ _ (k0_pay8 _ _ _ (k0_pay7 _ _ _))) _ = _
  rw [p8, p8, p8, p7, p 0 (by omega), p 1 (by omega), p 2 (by omega), p 3 (by omega)]
  rfl

end Cert.KernelIdeal.Val

end
-- ==== Proof.Value.Cells.lean ====
module

public import proofs.«01_k».proof.Proof.Value.Kern

@[expose] public section

/-!
  The cells: their weights over the atoms, the entropy and the mixtures.
-/

set_option maxRecDepth 16384

noncomputable section

namespace Cert.KernelIdeal.Val

open Cert.KernelIdeal Cert.KernelIdeal.Gen Cert.KernelIdeal.Run Cert.Value
open Idealize.ShloMosaic Idealize.ShloMosaic.TcCoe Idealize.SL.Sem

/-- The arguments whose entries must be numbers for the two ways of summing a cell to agree. -/
structure Real3 (a : Args) : Prop where
  x : ∀ b n k, ∃ r : ℝ, a.x0 (ix3 b n k) = r
  inc : ∀ n c, ∃ r : ℝ, a.x2 (ix2 n c) = r
  cmw : ∀ d k, ∃ r : ℝ, a.x6 (ix2 d k) = r

/-- Row `c` of batch `b` among the 2048 cells. -/
def cell (b : Fin 2) (c : Fin 1024) : Fin 2048 := ⟨b.val * 1024 + c.val, by omega⟩

theorem pay14_at (Y : Vec Ideal S1024x128 .f32) (v69 : Vec Ideal S1x64 .f32) (v74 : Vec Ideal S64x64 .f32) (v77 : Vec Ideal S1x64 .f32)
    (v82 v83 : Vec Ideal S64x64 .f32) (v86 : Vec Ideal S1x64 .f32) (r : Fin 2048) (i : Fin 64) (y : Fin 64 → EReal)
    (hy : ∀ x : Fin 64, (if h : r.val < 1024 then Y (ix2 (⟨r.val, h⟩ : Fin 1024) (⟨x.val, by omega⟩ : Fin 128))
      else Y (ix2 (⟨r.val - 1024, by omega⟩ : Fin 1024) (⟨64 + x.val, by omega⟩ : Fin 128))) + v69 (ix2 0 x) = y x) :
    k0_pay14 (F := Ideal) Y v69 v74 v77 v82 v83 v86 (ix2 r i)
      = soft (fun i => (∑ e, (∑ d, y d * v74 (ix2 e d) + v77 (ix2 0 e)) * (∑ d, v82 (ix2 i d) * v83 (ix2 e d) + v86 (ix2 0 e)))
          * Ideal.ofBits .f32 0x3E000000#32) i := by
  pointwise [k0_pay14, soft, hy]

/-- A row normalized, scaled and shifted, times the first half of a weight; and another row times the second half. -/
theorem pay24_at (v46 v49 : FVec Ideal S512x64 .f32) (v58 : FVec Ideal S512x1 .f32) (v66 : FVec Ideal S512x64 .f32) (v81 : FVec Ideal S512x1 .f32)
    (v82 : Vec Ideal S1x1 .f32) (v109 v114 : Vec Ideal S1x64 .f32) (v119 : Vec Ideal S64x128 .f32) (r : Fin 512) (d : Fin 64) (z : Fin 64 → EReal)
    (hz : ∀ x, v66 (ix2 r x) * (v58 (ix2 r 0) * Ideal.logistic (v81 (ix2 r 0) + v82 (ix2 0 0))) + v46 (ix2 r x) = z x) :
    k0_pay24 (F := Ideal) v46 v49 v58 v66 v81 v82 v109 v114 v119 (ix2 r d)
      = ∑ x : Fin 64, (lnorm z x * v109 (ix2 0 x) + v114 (ix2 0 x)) * v119 (ix2 d (⟨x.val, by omega⟩ : Fin 128))
        + ∑ x : Fin 64, v49 (ix2 r x) * v119 (ix2 d (⟨64 + x.val, by omega⟩ : Fin 128)) := by
  pointwise [k0_pay24, lnorm, mean, var, hz]

theorem pay25_at (v124 : FVec Ideal S512x64 .f32) (v125 v148 v153 : Vec Ideal S1x64 .f32) (r : Fin 512) (d : Fin 64) (z : Fin 64 → EReal)
    (hz : ∀ x, v124 (ix2 r x) + v125 (ix2 0 x) = z x) :
    k0_pay25 (F := Ideal) v124 v125 v148 v153 (ix2 r d) = lnorm z d * v148 (ix2 0 d) + v153 (ix2 0 d) := by
  pointwise [k0_pay25, lnorm, mean, var, hz]

theorem pay10_at (w : FVec Ideal S2048x64 .f32) :
    k0_pay10 (F := Ideal) w (ix2 0 0) = Ideal.div (∑ r : Fin 2048, (0 - ∑ i : Fin 64, eterm (w (ix2 r i)))) (Ideal.ofBits .f32 0x45000000#32) := by
  pointwise [k0_pay10, eterm]

/-- The two ways of summing a cell agree on numbers. -/
theorem share_sum {a : Args} (hR : Real3 a) (b : Fin 2) (c : Fin 1024) (d : Fin 64) : ∑ n, share a b c d n + a.x7 (ix1 d) = h2 a b c d := by
  unfold share h2
  rw [swap_maps (fun n k => xg a b n k) (fun n => a.x2 (ix2 n c)) (fun k => a.x6 (ix2 d k)) ?_ (fun n => hR.inc n c) (fun k => hR.cmw d k)]
  intro n k
  obtain ⟨r, hr⟩ := hR.x b n k
  obtain ⟨g, hg⟩ := gate_real a n
  exact ⟨r * g, by rw [xg, hr, hg, EReal.coe_mul]⟩

variable {a : Args} {Ds : Fin cfg0.N → In Ideal} (hF : Fits a Ds) (hR : Real3 a)
include hF hR

/-- The weights of a cell over the atoms. -/
theorem wV_at (b : Fin 2) (c : Fin 1024) (i : Fin 64) : wV Ds a.x2 (ix2 (cell b c) i) = wt a b c i := by
  have hc : c.val < 1024 := c.isLt
  unfold wV wOf
  rw [pay14_at _ _ _ _ _ _ _ _ _ (h2 a b c)]
  · simp only [hF.qw, hF.qb, hF.atoms, hF.kw, hF.kb]
    rfl
  · intro x
    have hx : x.val < 64 := x.isLt
    rw [hF.cmb, ← share_sum hR, ← accV_at hF]
    congr 1
    obtain rfl | rfl : b = 0 ∨ b = 1 := by omega
    · rw [dif_pos (show (cell 0 c).val < 1024 by show 0 * 1024 + c.val < 1024; omega)]
      congr 2 <;> refine Fin.ext ?_
      · show 0 * 1024 + c.val = c.val; omega
      · show x.val = 64 * 0 + x.val; omega
    · rw [dif_neg (show ¬ (cell 1 c).val < 1024 by show ¬ 1 * 1024 + c.val < 1024; omega)]
      congr 2 <;> refine Fin.ext ?_
      · show 1 * 1024 + c.val - 1024 = c.val; omega

/-- The entropy. -/
theorem entV_at : entV Ds a.x2 (ix2 0 0) = ent a := by
  unfold entV
  rw [pay10_at]
  exact ent_rows a (fun r i => wV Ds a.x2 (ix2 r i)) fun b c i hb => wV_at hF hR b c i

/-- The mixtures. -/
theorem pcV_at (b : Fin 2) (c : Fin 1024) (d : Fin 64) : pcV Ds a.x2 (ix2 c (lane b d)) = pc a b c d := by
  have hc : c.val < 1024 := c.isLt
  have hd : d.val < 64 := d.isLt
  unfold pcV pc
  obtain rfl | rfl : b = 0 ∨ b = 1 := by omega
  · have hw : lane 0 d = ⟨d.val, by omega⟩ := Fin.ext (by show 64 * 0 + d.val = d.val; omega)
    have hr : ∀ (h : c.val < 2048) x, wV Ds a.x2 (ix2 ⟨c.val, h⟩ x) = wt a 0 c x := fun h x => by
      rw [← wV_at hF hR 0 c x]; exact congrArg (fun r => wV Ds a.x2 (ix2 r x)) (Fin.ext (by show c.val = 0 * 1024 + c.val; omega))
    rw [hw]
    pointwise [k0_pay9, hr, hF.atoms]
  · have hw : lane 1 d = ⟨64 + d.val, by omega⟩ := Fin.ext (by show 64 * 1 + d.val = 64 + d.val; omega)
    have hr : ∀ (h : 1024 + c.val < 2048) x, wV Ds a.x2 (ix2 ⟨1024 + c.val, h⟩ x) = wt a 1 c x := fun h x => by
      rw [← wV_at hF hR 1 c x]; exact congrArg (fun r => wV Ds a.x2 (ix2 r x)) (Fin.ext (by show 1024 + c.val = 1 * 1024 + c.val; omega))
    rw [hw]
    pointwise [k0_pay9, hr, hF.atoms]

/-- Row `j` of stripe `k` among the nodes, -/
def nd (k : Fin 16) (j : Fin 256) : Fin 4096 := ⟨256 * k.val + j.val, by omega⟩
/-- and of batch `b` in the stripe's stacked rows. -/
def half (b : Fin 2) (j : Fin 256) : Fin 512 := ⟨256 * b.val + j.val, by omega⟩

theorem agg_at (k : Fin 16) (b : Fin 2) (j : Fin 256) (d : Fin 64) :
    k0_pay18 (k0_pay17 (stripeOf (F := Ideal) a.x1 k) (hFull Ds)) (ix2 (half b j) d) = agg a b (nd k j) d := by
  have hj : j.val < 256 := j.isLt
  have hd : d.val < 64 := d.isLt
  have p17 : ∀ l, k0_pay17 (stripeOf (F := Ideal) a.x1 k) (hFull Ds) (ix2 j l) = ∑ x, stripeOf (F := Ideal) a.x1 k (ix3 0 j x) * hFull Ds (ix2 x l) := by
    intro l
    pointwise [k0_pay17]
  have h : k0_pay17 (stripeOf (F := Ideal) a.x1 k) (hFull Ds) (ix2 j (lane b d)) = agg a b (nd k j) d := by
    rw [p17]
    refine Finset.sum_congr rfl fun x _ => ?_
    rw [hFull_at hF, mul_comm]
    rfl
  rw [← h]
  obtain rfl | rfl : b = 0 ∨ b = 1 := by omega
  · have hw : lane 0 d = ⟨d.val, by omega⟩ := Fin.ext (by show 64 * 0 + d.val = d.val; omega)
    have hh : half 0 j = ⟨j.val, by omega⟩ := Fin.ext (by show 256 * 0 + j.val = j.val; omega)
    rw [hw, hh]
    pointwise [k0_pay18]
  · have hw : lane 1 d = ⟨64 + d.val, by omega⟩ := Fin.ext (by show 64 * 1 + d.val = 64 + d.val; omega)
    have hh : half 1 j = ⟨256 + j.val, by omega⟩ := Fin.ext (by show 256 * 1 + j.val = 256 + j.val; omega)
    rw [hw, hh]
    pointwise [k0_pay18]

theorem pn_at (k : Fin 16) (b : Fin 2) (j : Fin 256) (d : Fin 64) :
    k0_pay19 (rowsAt (F := Ideal) a.x2 k) (pcV Ds a.x2) (ix2 (half b j) d) = pn a b (nd k j) d := by
  have hj : j.val < 256 := j.isLt
  have hd : d.val < 64 := d.isLt
  have h : ∑ x, rowsAt (F := Ideal) a.x2 k (ix2 j x) * pcV Ds a.x2 (ix2 x (lane b d)) = pn a b (nd k j) d := by
    refine Finset.sum_congr rfl fun x _ => ?_
    rw [pcV_at hF hR, mul_comm]
    rfl
  rw [← h]
  obtain rfl | rfl : b = 0 ∨ b = 1 := by omega
  · have hw : lane 0 d = ⟨d.val, by omega⟩ := Fin.ext (by show 64 * 0 + d.val = d.val; omega)
    have hh : half 0 j = ⟨j.val, by omega⟩ := Fin.ext (by show 256 * 0 + j.val = j.val; omega)
    rw [hw, hh]
    pointwise [k0_pay19]
  · have hw : lane 1 d = ⟨64 + d.val, by omega⟩ := Fin.ext (by show 64 * 1 + d.val = 64 + d.val; omega)
    have hh : half 1 j = ⟨256 + j.val, by omega⟩ := Fin.ext (by show 256 * 1 + j.val = 256 + j.val; omega)
    rw [hw, hh]
    pointwise [k0_pay19]

/-- A row of the last stage. -/
theorem fu_at (t : Fin cfg0.N) (k : Fin 16) (b : Fin 2) (j : Fin 256) (d : Fin 64) :
    v124Of (Ds t) (k0_pay17 (stripeOf (F := Ideal) a.x1 k) (hFull Ds)) (rowsAt (F := Ideal) a.x2 k) (pcV Ds a.x2) (ix2 (half b j) d) + (Ds t).x23 (ix2 0 d) = fu a b (nd k j) d := by
  have h18 := agg_at hF hR k b j
  have h19 := pn_at hF hR k b j
  unfold v124Of
  revert h18 h19
  generalize k0_pay17 (stripeOf (F := Ideal) a.x1 k) (hFull Ds) = v38
  generalize rowsAt (F := Ideal) a.x2 k = v41
  generalize pcV Ds a.x2 = v42
  generalize half b j = r
  generalize nd k j = n
  intro h18 h19
  have h20 : ∀ x, k0_pay20 (F := Ideal) v38 v41 v42 (ix2 r x) = sur a b n x := by
    intro x
    pointwise [k0_pay20, h18, h19, sur]
  have h21 : k0_pay21 (F := Ideal) v38 v41 v42 (ix2 r 0) = conf a b n := by
    pointwise [k0_pay21, h20, conf]
  have h22 : ∀ x, k0_pay22 (F := Ideal) v38 v41 v42 (Ds t).x14 (Ds t).x15 (ix2 r x) = us a b n x := by
    intro x
    pointwise [k0_pay22, h20, us, hF.sw, hF.sb]
  have h23 : k0_pay23 (F := Ideal) v38 v41 v42 (Ds t).x16 (Ds t).x17 (Ds t).x18 (ix2 r 0) = ∑ l, lh a b n l * a.x17 (ix2 0 l) := by
    pointwise [k0_pay23, h20, lh, hF.c1w, hF.c1b, hF.c2w]
  rw [pay24_at _ _ _ _ _ _ _ _ _ _ _ (gt a b n)]
  · simp only [h19, hF.pg, hF.pb, hF.fw, hF.fb]
    rfl
  · intro x
    rw [h18, h21, h22, h23, hF.c2b]
    rfl

/-- A block of the result. -/
theorem outV_at (t : Fin cfg0.N) (b : Fin 2) (d : Fin 64) (j : Fin 256) :
    outV Ds a.x1 a.x2 t (ix3 b d j) = out a b (nd (strp t.val) j) d := by
  have hj : j.val < 256 := j.isLt
  have hfu := fu_at hF hR t (strp t.val) b j
  unfold outV
  revert hfu
  generalize v124Of (Ds t) (k0_pay17 (stripeOf (F := Ideal) a.x1 (strp t.val)) (hFull Ds)) (rowsAt (F := Ideal) a.x2 (strp t.val)) (pcV Ds a.x2) = v
  intro hfu
  have h25 := pay25_at v (Ds t).x23 (Ds t).x24 (Ds t).x25 (half b j) d _ hfu
  rw [hF.ng, hF.nb] at h25
  have h' : k0_pay25 (F := Ideal) v (Ds t).x23 (Ds t).x24 (Ds t).x25 (ix2 (half b j) d) = out a b (nd (strp t.val) j) d := h25
  rw [← h']
  obtain rfl | rfl : b = 0 ∨ b = 1 := by omega
  · have hh : half 0 j = ⟨j.val, by omega⟩ := Fin.ext (by show 256 * 0 + j.val = j.val; omega)
    rw [hh]
    refine (outBlk_0 (Ds t) v d j).trans ?_
    rw [vi3]
    pointwise [k0_pay26]
  · have hh : half 1 j = ⟨256 + j.val, by omega⟩ := Fin.ext (by show 256 * 1 + j.val = 256 + j.val; omega)
    rw [hh]
    refine (outBlk_1 (Ds t) v d j).trans ?_
    rw [vi3]
    pointwise [k0_pay11, k0_pay27]

end Cert.KernelIdeal.Val

end
-- ==== Proof.Value.Host.lean ====
module

public import proofs.«01_k».proof.Proof.Value.Cells
public import proofs.«01_k».proof.Proof.Run.Whole
public import Idealize.ShloMosaic.Lib.Claim
public import Idealize.ShloMosaic.Lib.StableHlo.ReadAt

@[expose] public section

set_option maxRecDepth 16384

noncomputable section

namespace Cert.KernelIdeal.Val

open Cert.KernelIdeal Cert.KernelIdeal.Gen Cert.KernelIdeal.Run Cert.Value
open Idealize.ShloMosaic Idealize.ShloMosaic.TcCoe Idealize.SL.Sem

variable (m : (ℓ : Loc nD τ sig) → Buf (Elt Ideal) ℓ) (c : Dev nD)

/-! The arguments laid out as rows before the launch, read at an index. -/

theorem host_v0 (n : Fin 4096) : V m c main_v0 (ix2 0 n) = m ((c : Thread nD τ).loc main_arg3) (ix1 n) := by unfold V V0; after_reads_at
theorem host_v1 (n : Fin 64) : V m c main_v1 (ix2 0 n) = m ((c : Thread nD τ).loc main_arg5) (ix1 n) := by unfold V V0; after_reads_at
theorem host_v2 (n : Fin 64) : V m c main_v2 (ix2 0 n) = m ((c : Thread nD τ).loc main_arg7) (ix1 n) := by unfold V V0; after_reads_at
theorem host_v3 (n : Fin 64) : V m c main_v3 (ix2 0 n) = m ((c : Thread nD τ).loc main_arg10) (ix1 n) := by unfold V V0; after_reads_at
theorem host_v4 (n : Fin 64) : V m c main_v4 (ix2 0 n) = m ((c : Thread nD τ).loc main_arg12) (ix1 n) := by unfold V V0; after_reads_at
theorem host_v5 (n : Fin 64) : V m c main_v5 (ix2 0 n) = m ((c : Thread nD τ).loc main_arg14) (ix1 n) := by unfold V V0; after_reads_at
theorem host_v6 (n : Fin 16) : V m c main_v6 (ix2 0 n) = m ((c : Thread nD τ).loc main_arg16) (ix1 n) := by unfold V V0; after_reads_at
theorem host_v8 (n : Fin 64) : V m c main_v8 (ix2 0 n) = m ((c : Thread nD τ).loc main_arg19) (ix1 n) := by unfold V V0; after_reads_at
theorem host_v9 (n : Fin 64) : V m c main_v9 (ix2 0 n) = m ((c : Thread nD τ).loc main_arg20) (ix1 n) := by unfold V V0; after_reads_at
theorem host_v10 (n : Fin 64) : V m c main_v10 (ix2 0 n) = m ((c : Thread nD τ).loc main_arg22) (ix1 n) := by unfold V V0; after_reads_at
theorem host_v11 (n : Fin 64) : V m c main_v11 (ix2 0 n) = m ((c : Thread nD τ).loc main_arg23) (ix1 n) := by unfold V V0; after_reads_at
theorem host_v12 (n : Fin 64) : V m c main_v12 (ix2 0 n) = m ((c : Thread nD τ).loc main_arg24) (ix1 n) := by unfold V V0; after_reads_at
theorem host_v7 : V m c main_v7 (ix2 0 0) = m ((c : Thread nD τ).loc main_arg18) (ix1 0) := by unfold V V0; after_reads_at

end Cert.KernelIdeal.Val

end
-- ==== Proof.Value.Blocks.lean ====
module

public import proofs.«01_k».proof.Proof.Value.Host
public import proofs.«01_k».proof.Proof.Run.Whole
public import Idealize.ShloMosaic.Lib.Claim
public import Idealize.ShloMosaic.Lib.Pipeline.ValueKit

@[expose] public section

/-!
  What the staged blocks hold of the arguments.
-/

set_option maxRecDepth 16384

noncomputable section

namespace Cert.KernelIdeal.Val

open Cert.KernelIdeal Cert.KernelIdeal.Gen Cert.KernelIdeal.Run Cert.Value
open Idealize.ShloMosaic Idealize.ShloMosaic.TcCoe Idealize.SL.Sem

variable (m : (ℓ : Loc nD τ sig) → Buf (Elt Ideal) ℓ) (c : Dev nD)

/-- The arguments a device is given. -/
def argsOf : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)
  x19 := m ((c : Thread nD τ).loc main_arg19)
  x20 := m ((c : Thread nD τ).loc main_arg20)
  x21 := m ((c : Thread nD τ).loc main_arg21)
  x22 := m ((c : Thread nD τ).loc main_arg22)
  x23 := m ((c : Thread nD τ).loc main_arg23)
  x24 := m ((c : Thread nD τ).loc main_arg24)

/-- The first two windows move over the nodes and stop at their last block, -/
theorem idx_moving : ∀ t : Fin cfg0.N, win0_0.index t = ![0, min t.val 3] ∧ win0_1.index t = ![0, min t.val 3, 0] := by decide +kernel
/-- and the other inputs stay. -/
theorem idx_still : ∀ t : Fin cfg0.N, win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] := by decide +kernel

set_option maxHeartbeats 4000000 in
/-- Point by point, the staged blocks are the arguments: the whole of each, or its block of nodes. -/
theorem fits : Fits (argsOf m c) (blks m c) where
  imp t ht j := (show iblk m c 0 t (ix2 0 j) = V m c main_v0 (ix2 0 (node t ht j)) by unfold node; blk_ext [iblk, idx_moving t]).trans (host_v0 m c _)
  x t ht b j k := (show iblk m c 1 t (ix3 b j k) = V m c main_arg0 (ix3 b (node t ht j) k) by unfold node; blk_ext [iblk, idx_moving t]).trans
    (congrFun (V_main_arg0 m c) _)
  nmw t d k := (show iblk m c 2 t (ix2 d k) = V m c main_arg4 (ix2 d k) by blk_ext [iblk, idx_still t]).trans (congrFun (V_main_arg4 m c) _)
  nmb t d := (show iblk m c 3 t (ix2 0 d) = V m c main_v1 (ix2 0 d) by blk_ext [iblk, idx_still t]).trans (host_v1 m c d)
  cmw t d k := (show iblk m c 4 t (ix2 d k) = V m c main_arg6 (ix2 d k) by blk_ext [iblk, idx_still t]).trans (congrFun (V_main_arg6 m c) _)
  cmb t d := (show iblk m c 5 t (ix2 0 d) = V m c main_v2 (ix2 0 d) by blk_ext [iblk, idx_still t]).trans (host_v2 m c d)
  atoms t d k := (show iblk m c 6 t (ix2 d k) = V m c main_arg8 (ix2 d k) by blk_ext [iblk, idx_still t]).trans (congrFun (V_main_arg8 m c) _)
  qw t d k := (show iblk m c 7 t (ix2 d k) = V m c main_arg9 (ix2 d k) by blk_ext [iblk, idx_still t]).trans (congrFun (V_main_arg9 m c) _)
  qb t d := (show iblk m c 8 t (ix2 0 d) = V m c main_v3 (ix2 0 d) by blk_ext [iblk, idx_still t]).trans (host_v3 m c d)
  kw t d k := (show iblk m c 9 t (ix2 d k) = V m c main_arg11 (ix2 d k) by blk_ext [iblk, idx_still t]).trans (congrFun (V_main_arg11 m c) _)
  kb t d := (show iblk m c 10 t (ix2 0 d) = V m c main_v4 (ix2 0 d) by blk_ext [iblk, idx_still t]).trans (host_v4 m c d)
  sw t d k := (show iblk m c 11 t (ix2 d k) = V m c main_arg13 (ix2 d k) by blk_ext [iblk, idx_still t]).trans (congrFun (V_main_arg13 m c) _)
  sb t d := (show iblk m c 12 t (ix2 0 d) = V m c main_v5 (ix2 0 d) by blk_ext [iblk, idx_still t]).trans (host_v5 m c d)
  c1w t d k := (show iblk m c 13 t (ix2 d k) = V m c main_arg15 (ix2 d k) by blk_ext [iblk, idx_still t]).trans (congrFun (V_main_arg15 m c) _)
  c1b t d := (show iblk m c 14 t (ix2 0 d) = V m c main_v6 (ix2 0 d) by blk_ext [iblk, idx_still t]).trans (host_v6 m c d)
  c2w t d := (show iblk m c 15 t (ix2 0 d) = V m c main_arg17 (ix2 0 d) by blk_ext [iblk, idx_still t]).trans (congrFun (V_main_arg17 m c) _)
  c2b t := (show iblk m c 16 t (ix2 0 0) = V m c main_v7 (ix2 0 0) by blk_ext [iblk, idx_still t]).trans (host_v7 m c)
  pg t d := (show iblk m c 17 t (ix2 0 d) = V m c main_v8 (ix2 0 d) by blk_ext [iblk, idx_still t]).trans (host_v8 m c d)
  pb t d := (show iblk m c 18 t (ix2 0 d) = V m c main_v9 (ix2 0 d) by blk_ext [iblk, idx_still t]).trans (host_v9 m c d)
  fw t d k := (show iblk m c 19 t (ix2 d k) = V m c main_arg21 (ix2 d k) by blk_ext [iblk, idx_still t]).trans (congrFun (V_main_arg21 m c) _)
  fb t d := (show iblk m c 20 t (ix2 0 d) = V m c main_v10 (ix2 0 d) by blk_ext [iblk, idx_still t]).trans (host_v10 m c d)
  ng t d := (show iblk m c 21 t (ix2 0 d) = V m c main_v11 (ix2 0 d) by blk_ext [iblk, idx_still t]).trans (host_v11 m c d)
  nb t d := (show iblk m c 22 t (ix2 0 d) = V m c main_v12 (ix2 0 d) by blk_ext [iblk, idx_still t]).trans (host_v12 m c d)

end Cert.KernelIdeal.Val

end
-- ==== Proof.Value.Finite.lean ====
module

public import proofs.«01_k».proof.Defs
public import proofs.«01_k».proof.Proof.Value.Blocks

@[expose] public section

/-!
  The precondition read: the entries it asks of are numbers.
-/

set_option maxRecDepth 16384

noncomputable section

namespace Cert.KernelIdeal.Val

open Cert.KernelIdeal Cert.KernelIdeal.Run Cert.Value
open Idealize.ShloMosaic Idealize.ShloMosaic.TcCoe Idealize.SL.Sem

/-- The side conditions the precondition's operations take. -/
theorem finite_facts : Cert.Pre_finite_maps.Facts where
  bcast_S_S2x4096x128 := by decide
  bcast_S_S4096x1024 := by decide
  bcast_S_S64x128 := by decide

theorem inf_eq : Ideal.ofBits .f32 0x7F800000#32 = (⊤ : EReal) := by
  simp [Ideal.ofBits, Ideal.ieee]

/-- An entry whose absolute value is below infinity is a number. -/
theorem number_of (x : EReal) (h : Ideal.cmp .olt (max x (-x)) (Ideal.ofBits .f32 0x7F800000#32) = 1#1) : ∃ r : ℝ, x = r := by
  rw [inf_eq] at h
  have hlt : max x (-x) < ⊤ := by
    by_contra hn
    simp [Ideal.cmp, hn] at h
  induction x with
  | bot => simp at hlt
  | top => simp at hlt
  | coe r => exact ⟨r, rfl⟩

theorem real3 (m : (ℓ : Loc nD τ sig) → Buf (Elt Ideal) ℓ) (hp : Pre_KernelIdeal_finite_maps (hPre_finite_maps := finite_facts) m) (c : Dev nD) :
    Real3 (argsOf m c) where
  x b n k := number_of _ (congrFun (hp c).1 (ix3 b n k))
  inc n d := number_of _ (congrFun (hp c).2.1 (ix2 n d))
  cmw d k := number_of _ (congrFun (hp c).2.2 (ix2 d k))

end Cert.KernelIdeal.Val

end
-- ==== Proof.Value.Ends.lean ====
module

public import proofs.«01_k».proof.Proof.Value.Blocks
public import proofs.«01_k».proof.Proof.Run.Launch

@[expose] public section

/-!
  The result arrays where the kernel ends.
-/

set_option maxRecDepth 16384

noncomputable section

namespace Cert.KernelIdeal.Val

open Cert.KernelIdeal Cert.KernelIdeal.Gen Cert.KernelIdeal.Run Cert.Value
open Idealize.ShloMosaic Idealize.ShloMosaic.TcCoe Idealize.SL.Sem

variable (m : (ℓ : Loc nD τ sig) → Buf (Elt Ideal) ℓ) (c : Dev nD)

/-- The launched result, features before nodes, -/
def outT (a : Args) : FVec Ideal S2x64x4096 .f32 := fun i => out a (i 0) (i 2) (i 1)
/-- the result, -/
def outG (a : Args) : FVec Ideal S2x4096x64 .f32 := fun i => out a (i 0) (i 1) (i 2)
/-- and the entropy's one entry. -/
def entG (a : Args) : FVec Ideal S1x1 .f32 := fun _ => ent a

theorem idx_out : ∀ t : Fin cfg0.N, win0_23.index t = ![0, 0, t.val - 4] ∧ win0_24.index t = ![0, 0] := by decide +kernel

theorem final_out (hR : Real3 (argsOf m c)) : (dats m 0 c).arrAt 23 cfg0.N = outT (argsOf m c) := by
  refine (dats m 0 c).arrAt_eq_of_covers 23 _ (by decide +kernel) fun t hf y => ?_
  have h4 : 4 ≤ t.val := by
    by_contra h
    rw [flush23 t (by omega)] at hf
    exact Bool.false_ne_true hf
  have ht : t.val < 20 := t.isLt
  obtain ⟨b, d, j, rfl⟩ : ∃ (b : Fin 2) (d : Fin 64) (j : Fin 256), y = ix3 b d j := ⟨y 0, y 1, y 2, by funext i; fin_cases i <;> rfl⟩
  have e : ((cfg0.win 23).blk t).view.emb (ix3 b d j) = ix3 b d (nd (strp t.val) j) := by
    unfold nd strp
    blk_ext [idx_out t]
  rw [e]
  have h := outV_at (fits m c) hR t b d j
  have h1 : adjM m c = (argsOf m c).x1 := V_main_arg1 m c
  have h2 : incM m c = (argsOf m c).x2 := V_main_arg2 m c
  rw [← h1, ← h2] at h
  exact h

theorem final_ent (hR : Real3 (argsOf m c)) : (dats m 0 c).arrAt 24 cfg0.N = entG (argsOf m c) := by
  refine (dats m 0 c).arrAt_eq_of_covers 24 _ (by decide +kernel) fun t hf y => ?_
  have e : y = ix2 0 0 := by funext i; fin_cases i <;> exact Subsingleton.elim (α := Fin 1) _ _
  have h := entV_at (fits m c) hR
  have h2 : incM m c = (argsOf m c).x2 := V_main_arg2 m c
  rw [← h2] at h
  rw [e]
  exact h

theorem host_v14 (W : Valuation τ sig (Elt Ideal)) (b : Fin 2) (n : Fin 4096) (d : Fin 64) :
    StableHlo.after (List.flatten [hostOps1]) W (Proc.devRef .tc main_v14) (ix3 b n d) = W (Proc.devRef .tc main_v13_0) (ix3 b d n) := by
  after_reads_at

theorem host_v15 (W : Valuation τ sig (Elt Ideal)) :
    StableHlo.after (List.flatten [hostOps1]) W (Proc.devRef .tc main_v15) ix0 = W (Proc.devRef .tc main_v13_1) (ix2 0 0) := by
  after_reads_at

/-- The two results where the kernel ends. -/
theorem ends_out (r : PUnit × MemSt nD τ sig (Elt Ideal)) (h : Ends m r) (hR : Real3 (argsOf m c)) :
    r.2.mem ((c.tc : Thread nD τ).loc main_v14) = outG (argsOf m c) := by
  funext i
  obtain ⟨b, n, d, rfl⟩ : ∃ (b : Fin 2) (n : Fin 4096) (d : Fin 64), i = ix3 b n d := ⟨i 0, i 1, i 2, by funext i; fin_cases i <;> rfl⟩
  refine (congrFun ((h.1 c).2 main_v14 (Pipeline.mem_restRefs_of main_v14 (by decide) (by decide))) _).trans ?_
  refine (host_v14 _ b n d).trans ?_
  refine (congrFun (Pipeline.withArrays_arr spec0 (by decide) c (V0 m c) (fun w => (dats m 0 c).arrAt w cfg0.N) 23) (ix3 b d n)).trans ?_
  rw [final_out m c hR]
  rfl

theorem ends_ent (r : PUnit × MemSt nD τ sig (Elt Ideal)) (h : Ends m r) (hR : Real3 (argsOf m c)) :
    r.2.mem ((c.tc : Thread nD τ).loc main_v15) = fun _ => ent (argsOf m c) := by
  funext i
  obtain rfl : i = ix0 := Subsingleton.elim (α := (j : Fin 0) → _) _ _
  refine (congrFun ((h.1 c).2 main_v15 (Pipeline.mem_restRefs_of main_v15 (by decide) (by decide))) _).trans ?_
  refine (host_v15 _).trans ?_
  refine (congrFun (Pipeline.withArrays_arr spec0 (by decide) c (V0 m c) (fun w => (dats m 0 c).arrAt w cfg0.N) 24) (ix2 0 0)).trans ?_
  rw [final_ent m c hR]
  rfl

end Cert.KernelIdeal.Val

end
-- ==== Proof.Value.Ref.lean ====
module

public import proofs.«01_k».proof.Proof.Value.Scalars
public import proofs.«01_k».proof.Proof.Gen.ReferenceIdeal.Read

@[expose] public section

/-!
  The reference, stage by stage.
-/
set_option maxRecDepth 16384
noncomputable section
namespace Cert.ReferenceIdeal.Val
open Cert.ReferenceIdeal Cert.Value Idealize.ShloMosaic Idealize.ShloMosaic.TcCoe Idealize.SL.Sem
variable (a : Args) (b : Fin 2) (n : Fin 4096) (c : Fin 1024) (d : Fin 64)
/-- The gate, as the reference computes it. -/
theorem ref_gate  : Read.val_main_v5 (F := Ideal) a.x3 (ix1 n) = gate a n := by
  pointwise [Read.val_main_v0, Read.val_main_v1, Read.val_main_cst, Read.val_main_v2, Read.val_main_v3, Read.val_main_cst_0, Read.val_main_v4, Read.val_main_v5, gate]
/-- The gated features, as the reference computes it. -/
theorem ref_xg (k : Fin 128) : Read.val_main_v8 (F := Ideal) a.x0 a.x3 (ix3 b n k) = xg a b n k := by
  pointwise [Read.val_main_v6, Read.val_main_v7, Read.val_main_v8, ref_gate, xg]
/-- The first linear map, as the reference computes it. -/
theorem ref_h0  : Read.val_main_v13 (F := Ideal) a.x0 a.x3 a.x4 a.x5 (ix3 b n d) = h0 a b n d := by
  pointwise [Read.val_main_v9, Read.val_main_v10, Read.val_main_v11, Read.val_main_v12, Read.val_main_v13, ref_gate, ref_xg, h0]
/-- The gathered features, as the reference computes it. -/
theorem ref_agg  : Read.val_main_v15 (F := Ideal) a.x0 a.x1 a.x3 a.x4 a.x5 (ix3 b n d) = agg a b n d := by
  pointwise [Read.val_main_v14, Read.val_main_v15, ref_gate, ref_xg, ref_h0, agg]
/-- The cells, as the reference computes it. -/
theorem ref_h2  : Read.val_main_v22 (F := Ideal) a.x0 a.x2 a.x3 a.x6 a.x7 (ix3 b c d) = h2 a b c d := by
  pointwise [Read.val_main_v16, Read.val_main_v17, Read.val_main_v18, Read.val_main_v19, Read.val_main_v20, Read.val_main_v21, Read.val_main_v22, ref_gate, ref_xg, ref_h0, ref_agg, h2]
/-- The queries, as the reference computes it. -/
theorem ref_qv  : Read.val_main_v27 (F := Ideal) a.x0 a.x2 a.x3 a.x6 a.x7 a.x9 a.x10 (ix3 b c d) = qv a b c d := by
  pointwise [Read.val_main_v23, Read.val_main_v24, Read.val_main_v25, Read.val_main_v26, Read.val_main_v27, ref_gate, ref_xg, ref_h0, ref_agg, ref_h2, qv]
/-- The keys, as the reference computes it. -/
theorem ref_kv (i : Fin 64) : Read.val_main_v32 (F := Ideal) a.x8 a.x11 a.x12 (ix2 i d) = kv a i d := by
  pointwise [Read.val_main_v28, Read.val_main_v29, Read.val_main_v30, Read.val_main_v31, Read.val_main_v32, ref_gate, ref_xg, ref_h0, ref_agg, ref_h2, ref_qv, kv]
/-- The scores, as the reference computes it. -/
theorem ref_sc  : Read.val_main_v36 (F := Ideal) a.x0 a.x2 a.x3 a.x6 a.x7 a.x8 a.x9 a.x10 a.x11 a.x12 (ix3 b c d) = sc a b c d := by
  pointwise [Read.val_main_v33, Read.val_main_v34, Read.val_main_cst_1, Read.val_main_v35, Read.val_main_v36, ref_gate, ref_xg, ref_h0, ref_agg, ref_h2, ref_qv, ref_kv, sc]
/-- The weights, as the reference computes it. -/
theorem ref_wt  : Read.val_main_v47 (F := Ideal) a.x0 a.x2 a.x3 a.x6 a.x7 a.x8 a.x9 a.x10 a.x11 a.x12 (ix3 b c d) = wt a b c d := by
  pointwise [Read.val_main_cst_2, Read.val_main_v37, Read.val_main_cst_3, Read.val_main_v38, Read.val_main_v39, Read.val_main_v40, Read.val_main_v41, Read.val_main_v42, Read.val_main_v43, Read.val_main_cst_4, Read.val_main_v44, Read.val_main_v45, Read.val_main_v46, Read.val_main_v47, ref_gate, ref_xg, ref_h0, ref_agg, ref_h2, ref_qv, ref_kv, ref_sc, wt, soft]
  simp only [max_fold]
/-- The mixtures, as the reference computes it. -/
theorem ref_pc  : Read.val_main_v48 (F := Ideal) a.x0 a.x2 a.x3 a.x6 a.x7 a.x8 a.x9 a.x10 a.x11 a.x12 (ix3 b c d) = pc a b c d := by
  pointwise [Read.val_main_v48, ref_gate, ref_xg, ref_h0, ref_agg, ref_h2, ref_qv, ref_kv, ref_sc, ref_wt, pc]
/-- The entropy, as the reference computes it. -/
theorem ref_ent  : Read.val_main_v56 (F := Ideal) a.x0 a.x2 a.x3 a.x6 a.x7 a.x8 a.x9 a.x10 a.x11 a.x12 (ix0) = ent a := by
  pointwise [Read.val_main_cst_5, Read.val_main_v49, Read.val_main_v50, Read.val_main_v51, Read.val_main_v52, Read.val_main_cst_6, Read.val_main_v53, Read.val_main_cst_7, Read.val_main_v54, Read.val_main_cst_8, Read.val_main_v55, Read.val_main_v56, ref_gate, ref_xg, ref_h0, ref_agg, ref_h2, ref_qv, ref_kv, ref_sc, ref_wt, ref_pc, ent, eterm]
/-- The prediction, as the reference computes it. -/
theorem ref_pn  : Read.val_main_v58 (F := Ideal) a.x0 a.x2 a.x3 a.x6 a.x7 a.x8 a.x9 a.x10 a.x11 a.x12 (ix3 b n d) = pn a b n d := by
  pointwise [Read.val_main_v57, Read.val_main_v58, ref_gate, ref_xg, ref_h0, ref_agg, ref_h2, ref_qv, ref_kv, ref_sc, ref_wt, ref_pc, ref_ent, pn]
/-- The surprise, as the reference computes it. -/
theorem ref_sur  : Read.val_main_v59 (F := Ideal) a.x0 a.x1 a.x2 a.x3 a.x4 a.x5 a.x6 a.x7 a.x8 a.x9 a.x10 a.x11 a.x12 (ix3 b n d) = sur a b n d := by
  pointwise [Read.val_main_v59, ref_gate, ref_xg, ref_h0, ref_agg, ref_h2, ref_qv, ref_kv, ref_sc, ref_wt, ref_pc, ref_ent, ref_pn, sur]
/-- The confidence, as the reference computes it. -/
theorem ref_conf  : Read.val_main_v64 (F := Ideal) a.x0 a.x1 a.x2 a.x3 a.x4 a.x5 a.x6 a.x7 a.x8 a.x9 a.x10 a.x11 a.x12 (ix3 b n (0 : Fin 1)) = conf a b n := by
  pointwise [Read.val_main_call0_v0, Read.val_main_call0_cst, Read.val_main_call0_v1, Read.val_main_call0_v2, Read.val_main_v60, Read.val_main_cst_9, Read.val_main_v61, Read.val_main_v62, Read.val_main_cst_10, Read.val_main_v63, Read.val_main_v64, ref_gate, ref_xg, ref_h0, ref_agg, ref_h2, ref_qv, ref_kv, ref_sc, ref_wt, ref_pc, ref_ent, ref_pn, ref_sur, conf]
/-- The surprise mapped, as the reference computes it. -/
theorem ref_us  : Read.val_main_v69 (F := Ideal) a.x0 a.x1 a.x2 a.x3 a.x4 a.x5 a.x6 a.x7 a.x8 a.x9 a.x10 a.x11 a.x12 a.x13 a.x14 (ix3 b n d) = us a b n d := by
  pointwise [Read.val_main_v65, Read.val_main_v66, Read.val_main_v67, Read.val_main_v68, Read.val_main_v69, ref_gate, ref_xg, ref_h0, ref_agg, ref_h2, ref_qv, ref_kv, ref_sc, ref_wt, ref_pc, ref_ent, ref_pn, ref_sur, ref_conf, us]
/-- The hidden row, as the reference computes it. -/
theorem ref_lh (l : Fin 16) : Read.val_main_v76 (F := Ideal) a.x0 a.x1 a.x2 a.x3 a.x4 a.x5 a.x6 a.x7 a.x8 a.x9 a.x10 a.x11 a.x12 a.x15 a.x16 (ix3 b n l) = lh a b n l := by
  pointwise [Read.val_main_v70, Read.val_main_v71, Read.val_main_v72, Read.val_main_v73, Read.val_main_v74, Read.val_main_v75, Read.val_main_call1_cst, Read.val_main_call1_v0, Read.val_main_v76, ref_gate, ref_xg, ref_h0, ref_agg, ref_h2, ref_qv, ref_kv, ref_sc, ref_wt, ref_pc, ref_ent, ref_pn, ref_sur, ref_conf, ref_us, lh]
/-- The learned confidence, as the reference computes it. -/
theorem ref_lc  : Read.val_main_v87 (F := Ideal) a.x0 a.x1 a.x2 a.x3 a.x4 a.x5 a.x6 a.x7 a.x8 a.x9 a.x10 a.x11 a.x12 a.x15 a.x16 a.x17 a.x18 (ix3 b n (0 : Fin 1)) = lc a b n := by
  pointwise [Read.val_main_v77, Read.val_main_v78, Read.val_main_v79, Read.val_main_v80, Read.val_main_v81, Read.val_main_v82, Read.val_main_v83, Read.val_main_cst_11, Read.val_main_v84, Read.val_main_v85, Read.val_main_cst_12, Read.val_main_v86, Read.val_main_v87, ref_gate, ref_xg, ref_h0, ref_agg, ref_h2, ref_qv, ref_kv, ref_sc, ref_wt, ref_pc, ref_ent, ref_pn, ref_sur, ref_conf, ref_us, ref_lh, lc]
/-- The corrected row, as the reference computes it. -/
theorem ref_gt  : Read.val_main_v91 (F := Ideal) a.x0 a.x1 a.x2 a.x3 a.x4 a.x5 a.x6 a.x7 a.x8 a.x9 a.x10 a.x11 a.x12 a.x13 a.x14 a.x15 a.x16 a.x17 a.x18 (ix3 b n d) = gt a b n d := by
  pointwise [Read.val_main_v88, Read.val_main_v89, Read.val_main_v90, Read.val_main_v91, ref_gate, ref_xg, ref_h0, ref_agg, ref_h2, ref_qv, ref_kv, ref_sc, ref_wt, ref_pc, ref_ent, ref_pn, ref_sur, ref_conf, ref_us, ref_lh, ref_lc, gt]
/-- Its mean, as the reference computes it. -/
theorem ref_gtmean  : Read.val_main_v95 (F := Ideal) a.x0 a.x1 a.x2 a.x3 a.x4 a.x5 a.x6 a.x7 a.x8 a.x9 a.x10 a.x11 a.x12 a.x13 a.x14 a.x15 a.x16 a.x17 a.x18 (ix3 b n (0 : Fin 1)) = mean (gt a b n) := by
  pointwise [Read.val_main_cst_13, Read.val_main_v92, Read.val_main_v93, Read.val_main_cst_14, Read.val_main_v94, Read.val_main_v95, ref_gate, ref_xg, ref_h0, ref_agg, ref_h2, ref_qv, ref_kv, ref_sc, ref_wt, ref_pc, ref_ent, ref_pn, ref_sur, ref_conf, ref_us, ref_lh, ref_lc, ref_gt, mean]
/-- Its variance, as the reference computes it. -/
theorem ref_gtvar  : Read.val_main_v96 (F := Ideal) a.x0 a.x1 a.x2 a.x3 a.x4 a.x5 a.x6 a.x7 a.x8 a.x9 a.x10 a.x11 a.x12 a.x13 a.x14 a.x15 a.x16 a.x17 a.x18 (ix3 b n (0 : Fin 1)) = var (gt a b n) := by
  pointwise [Read.val_main_c, Read.val_main_call2_cst, Read.val_main_call2_v0, Read.val_main_call2_v1, Read.val_main_call2_cst_0, Read.val_main_call2_v2, Read.val_main_call2_v3, Read.val_main_call2_v4, Read.val_main_call2_v5, Read.val_main_call2_v6, Read.val_main_call2_v7, Read.val_main_call2_cst_1, Read.val_main_call2_v8, Read.val_main_call2_cst_2, Read.val_main_call2_v9, Read.val_main_call2_v10, Read.val_main_call2_v11, Read.val_main_call2_v12, Read.val_main_call2_cst_3, Read.val_main_call2_v13, Read.val_main_call2_cst_4, Read.val_main_call2_call0_v0, Read.val_main_call2_call0_v1, Read.val_main_v96, ref_gate, ref_xg, ref_h0, ref_agg, ref_h2, ref_qv, ref_kv, ref_sc, ref_wt, ref_pc, ref_ent, ref_pn, ref_sur, ref_conf, ref_us, ref_lh, ref_lc, ref_gt, ref_gtmean, var, mean]
  rw [if_pos count_pos, count_eq]
/-- The normalized row, as the reference computes it. -/
theorem ref_pcn  : Read.val_main_v109 (F := Ideal) a.x0 a.x1 a.x2 a.x3 a.x4 a.x5 a.x6 a.x7 a.x8 a.x9 a.x10 a.x11 a.x12 a.x13 a.x14 a.x15 a.x16 a.x17 a.x18 a.x19 a.x20 (ix3 b n d) = pcn a b n d := by
  pointwise [Read.val_main_v97, Read.val_main_v98, Read.val_main_cst_15, Read.val_main_v99, Read.val_main_v100, Read.val_main_v101, Read.val_main_v102, Read.val_main_v103, Read.val_main_v104, Read.val_main_v105, Read.val_main_v106, Read.val_main_v107, Read.val_main_v108, Read.val_main_v109, ref_gate, ref_xg, ref_h0, ref_agg, ref_h2, ref_qv, ref_kv, ref_sc, ref_wt, ref_pc, ref_ent, ref_pn, ref_sur, ref_conf, ref_us, ref_lh, ref_lc, ref_gt, ref_gtmean, ref_gtvar, pcn, lnorm]
  rw [div_sqrt _ _ (var_nonneg _)]
/-- The joined row, as the reference computes it. -/
theorem ref_fu  : Read.val_main_v115 (F := Ideal) a.x0 a.x1 a.x2 a.x3 a.x4 a.x5 a.x6 a.x7 a.x8 a.x9 a.x10 a.x11 a.x12 a.x13 a.x14 a.x15 a.x16 a.x17 a.x18 a.x19 a.x20 a.x21 a.x22 (ix3 b n d) = fu a b n d := by
  pointwise [Read.val_main_v110, Read.val_main_v111, Read.val_main_v112, Read.val_main_v113, Read.val_main_v114, Read.val_main_v115, ref_gate, ref_xg, ref_h0, ref_agg, ref_h2, ref_qv, ref_kv, ref_sc, ref_wt, ref_pc, ref_ent, ref_pn, ref_sur, ref_conf, ref_us, ref_lh, ref_lc, ref_gt, ref_gtmean, ref_gtvar, ref_pcn, fu]
/-- Its mean, as the reference computes it. -/
theorem ref_fumean  : Read.val_main_v119 (F := Ideal) a.x0 a.x1 a.x2 a.x3 a.x4 a.x5 a.x6 a.x7 a.x8 a.x9 a.x10 a.x11 a.x12 a.x13 a.x14 a.x15 a.x16 a.x17 a.x18 a.x19 a.x20 a.x21 a.x22 (ix3 b n (0 : Fin 1)) = mean (fu a b n) := by
  pointwise [Read.val_main_cst_16, Read.val_main_v116, Read.val_main_v117, Read.val_main_cst_17, Read.val_main_v118, Read.val_main_v119, ref_gate, ref_xg, ref_h0, ref_agg, ref_h2, ref_qv, ref_kv, ref_sc, ref_wt, ref_pc, ref_ent, ref_pn, ref_sur, ref_conf, ref_us, ref_lh, ref_lc, ref_gt, ref_gtmean, ref_gtvar, ref_pcn, ref_fu, mean]
/-- Its variance, as the reference computes it. -/
theorem ref_fuvar  : Read.val_main_v120 (F := Ideal) a.x0 a.x1 a.x2 a.x3 a.x4 a.x5 a.x6 a.x7 a.x8 a.x9 a.x10 a.x11 a.x12 a.x13 a.x14 a.x15 a.x16 a.x17 a.x18 a.x19 a.x20 a.x21 a.x22 (ix3 b n (0 : Fin 1)) = var (fu a b n) := by
  pointwise [Read.val_main_c_18, Read.val_main_call3_cst, Read.val_main_call3_v0, Read.val_main_call3_v1, Read.val_main_call3_cst_0, Read.val_main_call3_v2, Read.val_main_call3_v3, Read.val_main_call3_v4, Read.val_main_call3_v5, Read.val_main_call3_v6, Read.val_main_call3_v7, Read.val_main_call3_cst_1, Read.val_main_call3_v8, Read.val_main_call3_cst_2, Read.val_main_call3_v9, Read.val_main_call3_v10, Read.val_main_call3_v11, Read.val_main_call3_v12, Read.val_main_call3_cst_3, Read.val_main_call3_v13, Read.val_main_call3_cst_4, Read.val_main_call3_call0_v0, Read.val_main_call3_call0_v1, Read.val_main_v120, ref_gate, ref_xg, ref_h0, ref_agg, ref_h2, ref_qv, ref_kv, ref_sc, ref_wt, ref_pc, ref_ent, ref_pn, ref_sur, ref_conf, ref_us, ref_lh, ref_lc, ref_gt, ref_gtmean, ref_gtvar, ref_pcn, ref_fu, ref_fumean, var, mean]
  rw [if_pos count_pos, count_eq]
/-- The result, as the reference computes it. -/
theorem ref_out  : Read.val_main_v133 (F := Ideal) a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 (ix3 b n d) = out a b n d := by
  pointwise [Read.val_main_v121, Read.val_main_v122, Read.val_main_cst_19, Read.val_main_v123, Read.val_main_v124, Read.val_main_v125, Read.val_main_v126, Read.val_main_v127, Read.val_main_v128, Read.val_main_v129, Read.val_main_v130, Read.val_main_v131, Read.val_main_v132, Read.val_main_v133, ref_gate, ref_xg, ref_h0, ref_agg, ref_h2, ref_qv, ref_kv, ref_sc, ref_wt, ref_pc, ref_ent, ref_pn, ref_sur, ref_conf, ref_us, ref_lh, ref_lc, ref_gt, ref_gtmean, ref_gtvar, ref_pcn, ref_fu, ref_fumean, ref_fuvar, out, lnorm]
  rw [div_sqrt _ _ (var_nonneg _)]
end Cert.ReferenceIdeal.Val
end
-- ==== Proof.Value.Algebraic.lean ====
module

public import proofs.«01_k».proof.Proof.Value.Finite
public import proofs.«01_k».proof.Proof.Value.Ends
public import proofs.«01_k».proof.Proof.Value.Ref
public import proofs.«01_k».proof.Proof.Gen.ReferenceIdeal.Run
public import proofs.«01_k».proof.Proof.Gen.ReferenceIdeal.Read

@[expose] public section

/-!
  The kernel and the reference end with the same two results.
-/

set_option maxRecDepth 16384

noncomputable section

namespace Cert.Proof

open Cert.Value Cert.KernelIdeal.Val
open Idealize.ShloMosaic Idealize.ShloMosaic.TcCoe Idealize.SL.Sem

/-- The arguments the reference is given. -/
def refArgs (m : (ℓ : Loc Cert.ReferenceIdeal.nD Cert.ReferenceIdeal.τ Cert.ReferenceIdeal.sig) → Buf (Elt Ideal) ℓ) (c : Dev Cert.ReferenceIdeal.nD) : Args where
  x0 := m ((c : Thread Cert.ReferenceIdeal.nD Cert.ReferenceIdeal.τ).loc Cert.ReferenceIdeal.main_arg0)
  x1 := m ((c : Thread Cert.ReferenceIdeal.nD Cert.ReferenceIdeal.τ).loc Cert.ReferenceIdeal.main_arg1)
  x2 := m ((c : Thread Cert.ReferenceIdeal.nD Cert.ReferenceIdeal.τ).loc Cert.ReferenceIdeal.main_arg2)
  x3 := m ((c : Thread Cert.ReferenceIdeal.nD Cert.ReferenceIdeal.τ).loc Cert.ReferenceIdeal.main_arg3)
  x4 := m ((c : Thread Cert.ReferenceIdeal.nD Cert.ReferenceIdeal.τ).loc Cert.ReferenceIdeal.main_arg4)
  x5 := m ((c : Thread Cert.ReferenceIdeal.nD Cert.ReferenceIdeal.τ).loc Cert.ReferenceIdeal.main_arg5)
  x6 := m ((c : Thread Cert.ReferenceIdeal.nD Cert.ReferenceIdeal.τ).loc Cert.ReferenceIdeal.main_arg6)
  x7 := m ((c : Thread Cert.ReferenceIdeal.nD Cert.ReferenceIdeal.τ).loc Cert.ReferenceIdeal.main_arg7)
  x8 := m ((c : Thread Cert.ReferenceIdeal.nD Cert.ReferenceIdeal.τ).loc Cert.ReferenceIdeal.main_arg8)
  x9 := m ((c : Thread Cert.ReferenceIdeal.nD Cert.ReferenceIdeal.τ).loc Cert.ReferenceIdeal.main_arg9)
  x10 := m ((c : Thread Cert.ReferenceIdeal.nD Cert.ReferenceIdeal.τ).loc Cert.ReferenceIdeal.main_arg10)
  x11 := m ((c : Thread Cert.ReferenceIdeal.nD Cert.ReferenceIdeal.τ).loc Cert.ReferenceIdeal.main_arg11)
  x12 := m ((c : Thread Cert.ReferenceIdeal.nD Cert.ReferenceIdeal.τ).loc Cert.ReferenceIdeal.main_arg12)
  x13 := m ((c : Thread Cert.ReferenceIdeal.nD Cert.ReferenceIdeal.τ).loc Cert.ReferenceIdeal.main_arg13)
  x14 := m ((c : Thread Cert.ReferenceIdeal.nD Cert.ReferenceIdeal.τ).loc Cert.ReferenceIdeal.main_arg14)
  x15 := m ((c : Thread Cert.ReferenceIdeal.nD Cert.ReferenceIdeal.τ).loc Cert.ReferenceIdeal.main_arg15)
  x16 := m ((c : Thread Cert.ReferenceIdeal.nD Cert.ReferenceIdeal.τ).loc Cert.ReferenceIdeal.main_arg16)
  x17 := m ((c : Thread Cert.ReferenceIdeal.nD Cert.ReferenceIdeal.τ).loc Cert.ReferenceIdeal.main_arg17)
  x18 := m ((c : Thread Cert.ReferenceIdeal.nD Cert.ReferenceIdeal.τ).loc Cert.ReferenceIdeal.main_arg18)
  x19 := m ((c : Thread Cert.ReferenceIdeal.nD Cert.ReferenceIdeal.τ).loc Cert.ReferenceIdeal.main_arg19)
  x20 := m ((c : Thread Cert.ReferenceIdeal.nD Cert.ReferenceIdeal.τ).loc Cert.ReferenceIdeal.main_arg20)
  x21 := m ((c : Thread Cert.ReferenceIdeal.nD Cert.ReferenceIdeal.τ).loc Cert.ReferenceIdeal.main_arg21)
  x22 := m ((c : Thread Cert.ReferenceIdeal.nD Cert.ReferenceIdeal.τ).loc Cert.ReferenceIdeal.main_arg22)
  x23 := m ((c : Thread Cert.ReferenceIdeal.nD Cert.ReferenceIdeal.τ).loc Cert.ReferenceIdeal.main_arg23)
  x24 := m ((c : Thread Cert.ReferenceIdeal.nD Cert.ReferenceIdeal.τ).loc Cert.ReferenceIdeal.main_arg24)

/-- The reference's two results over any arguments. -/
theorem ref_out_all (a : Args) : Cert.ReferenceIdeal.Read.val_main_v133 (F := Ideal) a.x0 a.x1 a.x2 a.x3 a.x4 a.x5 a.x6 a.x7 a.x8 a.x9 a.x10 a.x11 a.x12 a.x13
    a.x14 a.x15 a.x16 a.x17 a.x18 a.x19 a.x20 a.x21 a.x22 a.x23 a.x24 = outG a := by
  funext i
  obtain ⟨b, n, d, rfl⟩ : ∃ (b : Fin 2) (n : Fin 4096) (d : Fin 64), i = ix3 b n d := ⟨i 0, i 1, i 2, by funext i; fin_cases i <;> rfl⟩
  exact Cert.ReferenceIdeal.Val.ref_out a b n d
theorem ref_ent_all (a : Args) : Cert.ReferenceIdeal.Read.val_main_v56 (F := Ideal) a.x0 a.x2 a.x3 a.x6 a.x7 a.x8 a.x9 a.x10 a.x11 a.x12 = fun _ => ent a := by
  funext i
  obtain rfl : i = ix0 := Subsingleton.elim (α := (j : Fin 0) → _) _ _
  exact Cert.ReferenceIdeal.Val.ref_ent a

/-- Where the arguments' numbers are finite, the kernel and the reference end with the same results. -/
theorem algebraic : Cert.algebraic_KernelIdeal_ReferenceIdeal_pre_finite_maps (hPre_finite_maps := finite_facts) := by
  intro m ρ m' ρ' hp hag
  have e : ∀ c, refArgs m' c = argsOf m c := by
    intro c
    obtain ⟨h0, h1, h2, h3, h4, h5, h6, h7, h8, h9, h10, h11, h12, h13, h14, h15, h16, h17, h18, h19, h20, h21, h22, h23, h24⟩ := hag c
    unfold refArgs argsOf
    congr 1
  refine ⟨fun c => outG (argsOf m c), fun c _ => ent (argsOf m c), ?_, ?_⟩
  · exact (θ_run Cert.KernelIdeal.defs _ _).mono (fun r h c =>
      ⟨ends_out m c r h (real3 m hp c), ends_ent m c r h (real3 m hp c), Cert.KernelIdeal.Run.kept m r h c⟩) (Cert.KernelIdeal.Run.run_main m ρ)
  · refine (θ_run Cert.ReferenceIdeal.defs _ _).mono (fun r h c => ⟨(h c).1.trans ?_, (h c).2.1.trans ?_, (h c).2.2⟩)
      (Cert.ReferenceIdeal.Value.run (F := Ideal) m' ρ')
    · show _ = outG (argsOf m c)
      rw [← e c]
      exact (Cert.ReferenceIdeal.Read.val_main_v133_eq (F := Ideal) (StableHlo.launchContents m' c)).trans (ref_out_all (refArgs m' c))
    · show _ = fun _ => ent (argsOf m c)
      rw [← e c]
      exact (Cert.ReferenceIdeal.Read.val_main_v56_eq (F := Ideal) (StableHlo.launchContents m' c)).trans (ref_ent_all (refArgs m' c))

end Cert.Proof

end
-- ==== Proof.lean ====
/-
  The proof of `Cert.Claim`: the frames of the kernel as printed, of the kernel idealized and of the idealized reference,
  that the idealization rewrote nothing, and that where three arguments are finite the kernel and the reference end with the
  same results (Proof/Value). The kernel's frame is Proof/Run (idealized) and Proof/Printed (as printed):
  one launch whose body's own transfers stay in flight between grid points.
-/
module

public import proofs.«01_k».proof.Defs
public import proofs.«01_k».proof.Proof.Gen.ReferenceIdeal.Run
public import proofs.«01_k».proof.Proof.Gen.ReferenceIdeal.Read
public import proofs.«01_k».proof.Proof.Run.Frame
public import proofs.«01_k».proof.Proof.Printed.Frame
public import proofs.«01_k».proof.Proof.Value.Algebraic
public import Idealize.ShloMosaic.Adequacy
public import Idealize.ShloMosaic.Init

@[expose] public section

noncomputable section

namespace Cert.Proof

open Idealize.ShloMosaic Idealize.SL.Sem

/-- The reference is host lines only: it names no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.KernelIdeal.Val.finite_facts,
    fun m ρ _ => Cert.Kernel.Run.frame (F := Bits) m ρ, fun m ρ _ => Cert.KernelIdeal.Run.frame (F := Ideal) m ρ,
    fun m ρ _ => Cert.KernelIdeal.Run.frame (F := Ideal) m ρ, frame_reference, fun m ρ _ => frame_reference m ρ trivial, trivial, algebraic⟩

end Cert.Proof

end
